-- ==== Defs.lean ====
def Pre_Experts [hPre_grouped : Cert.Pre_grouped.Facts] (m : (ℓ : Loc Cert.Experts.nD Cert.Experts.τ Cert.Experts.sig) → Buf (Elt Bits) ℓ) : Prop :=
  ∀ c : Dev Cert.Experts.nD,
    (Cert.Pre_grouped.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_grouped : Cert.Pre_grouped.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_grouped.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsIdeal_dispatched [hPre_dispatched : Cert.Pre_dispatched.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_dispatched.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_dispatched [hPre_dispatched : Cert.Pre_dispatched.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_dispatched.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Experts [hExperts : Cert.Experts.Facts] [hPre_grouped : Cert.Pre_grouped.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_grouped : Cert.Pre_grouped.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_dispatched [hExpertsIdeal : Cert.ExpertsIdeal.Facts] [hPre_dispatched : Cert.Pre_dispatched.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_dispatched m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_dispatched [hExpertsRefIdeal : Cert.ExpertsRefIdeal.Facts] [hPre_dispatched : Cert.Pre_dispatched.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_dispatched m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Experts_ExpertsIdeal : Prop :=
  True

def algebraic_ExpertsIdeal_ExpertsRefIdeal_pre_dispatched [hExpertsIdeal : Cert.ExpertsIdeal.Facts] [hExpertsRefIdeal : Cert.ExpertsRefIdeal.Facts] [hPre_dispatched : Cert.Pre_dispatched.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_dispatched m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v58)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v58) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v77) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hExperts : Cert.Experts.Facts) (hExpertsIdeal : Cert.ExpertsIdeal.Facts) (hExpertsRefIdeal : Cert.ExpertsRefIdeal.Facts) (hKernel : Cert.Kernel.Facts) (hKernelIdeal : Cert.KernelIdeal.Facts) (hReferenceIdeal : Cert.ReferenceIdeal.Facts) (hPre_grouped : Cert.Pre_grouped.Facts) (hPre_dispatched : Cert.Pre_dispatched.Facts) (hPre_finite : Cert.Pre_finite.Facts),
    quiescent_Experts (hExperts := hExperts) (hPre_grouped := hPre_grouped)
    ∧ quiescent_ExpertsIdeal (hExpertsIdeal := hExpertsIdeal) (hPre_grouped := hPre_grouped)
    ∧ quiescent_ExpertsIdeal_pre_dispatched (hExpertsIdeal := hExpertsIdeal) (hPre_dispatched := hPre_dispatched)
    ∧ quiescent_ExpertsRefIdeal (hExpertsRefIdeal := hExpertsRefIdeal)
    ∧ quiescent_ExpertsRefIdeal_pre_dispatched (hExpertsRefIdeal := hExpertsRefIdeal) (hPre_dispatched := hPre_dispatched)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Experts_ExpertsIdeal
    ∧ algebraic_ExpertsIdeal_ExpertsRefIdeal_pre_dispatched (hExpertsIdeal := hExpertsIdeal) (hExpertsRefIdeal := hExpertsRefIdeal) (hPre_dispatched := hPre_dispatched)
    ∧ preserves_Kernel_KernelIdeal
    ∧ algebraic_KernelIdeal_ReferenceIdeal_pre_finite (hKernelIdeal := hKernelIdeal) (hReferenceIdeal := hReferenceIdeal) (hPre_finite := hPre_finite)
-- ==== Pre_dispatched.lean ====
abbrev S16384x1024 : Shape := ⟨2, ![16384, 1024]⟩
abbrev S16384x16 : Shape := ⟨2, ![16384, 16]⟩
abbrev S16384 : Shape := ⟨1, ![16384]⟩
abbrev S16x7 : Shape := ⟨2, ![16, 7]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S16x1024 : Shape := ⟨2, ![16, 1024]⟩
abbrev S16x1 : Shape := ⟨2, ![16, 1]⟩
abbrev S1024 : Shape := ⟨1, ![1024]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S7 : Shape := ⟨1, ![7]⟩
abbrev S1x1x7 : Shape := ⟨3, ![1, 1, 7]⟩
abbrev S16x1024x7 : Shape := ⟨3, ![16, 1024, 7]⟩
abbrev S1x1x16 : Shape := ⟨3, ![1, 1, 16]⟩
abbrev S16x7x1 : Shape := ⟨3, ![16, 7, 1]⟩
abbrev S16x7x16 : Shape := ⟨3, ![16, 7, 16]⟩
abbrev S16x1024x1x16 : Shape := ⟨4, ![16, 1024, 1, 16]⟩
abbrev S16x1024x7x1 : Shape := ⟨4, ![16, 1024, 7, 1]⟩
abbrev S16x1x7x16 : Shape := ⟨4, ![16, 1, 7, 16]⟩
abbrev S16x1024x7x16 : Shape := ⟨4, ![16, 1024, 7, 16]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16x7 : S_.BroadcastsInDim S16x7 (![] : Fin 0 → Fin S16x7.rank)
  reducesTo_S16x7_S_d0_1 : S16x7.ReducesTo [0, 1] S_
  bcast_S_S16 : S_.BroadcastsInDim S16 (![] : Fin 0 → Fin S16.rank)
  reducesTo_S16_S_d0 : S16.ReducesTo [0] S_
  shapeCasts_S16384_S16x1024 : S16384.ShapeCasts S16x1024
  bcast_S_S16x1024 : S_.BroadcastsInDim S16x1024 (![] : Fin 0 → Fin S16x1024.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x1024_0_1 : S16x1.BroadcastsInDim S16x1024 (![0, 1] : Fin 2 → Fin S16x1024.rank)
  reducesTo_S16x1024_S_d0_1 : S16x1024.ReducesTo [0, 1] S_
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S1024_S1x1024x1_1 : S1024.BroadcastsInDim S1x1024x1 (![1] : Fin 1 → Fin S1x1024x1.rank)
  bcast_S1024_S1x1x1024_2 : S1024.BroadcastsInDim S1x1x1024 (![2] : Fin 1 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S_d0_1_2 : S16x1024x1024.ReducesTo [0, 1, 2] S_
  bcast_S_S7 : S_.BroadcastsInDim S7 (![] : Fin 0 → Fin S7.rank)
  bcast_S7_S1x1x7_2 : S7.BroadcastsInDim S1x1x7 (![2] : Fin 1 → Fin S1x1x7.rank)
  bcast_S16x1024x1_S16x1024x7_0_1_2 : S16x1024x1.BroadcastsInDim S16x1024x7 (![0, 1, 2] : Fin 3 → Fin S16x1024x7.rank)
  bcast_S1x1x7_S16x1024x7_0_1_2 : S1x1x7.BroadcastsInDim S16x1024x7 (![0, 1, 2] : Fin 3 → Fin S16x1024x7.rank)
  bcast_S_S1x1x7 : S_.BroadcastsInDim S1x1x7 (![] : Fin 0 → Fin S1x1x7.rank)
  bcast_S16_S1x1x16_2 : S16.BroadcastsInDim S1x1x16 (![2] : Fin 1 → Fin S1x1x16.rank)
  bcast_S16x7_S16x7x1_0_1 : S16x7.BroadcastsInDim S16x7x1 (![0, 1] : Fin 2 → Fin S16x7x1.rank)
  bcast_S1x1x16_S16x7x16_0_1_2 : S1x1x16.BroadcastsInDim S16x7x16 (![0, 1, 2] : Fin 3 → Fin S16x7x16.rank)
  bcast_S16x7x1_S16x7x16_0_1_2 : S16x7x1.BroadcastsInDim S16x7x16 (![0, 1, 2] : Fin 3 → Fin S16x7x16.rank)
  bcast_S_S16x7x1 : S_.BroadcastsInDim S16x7x1 (![] : Fin 0 → Fin S16x7x1.rank)
  shapeCasts_S16384x16_S16x1024x1x16 : S16384x16.ShapeCasts S16x1024x1x16
  bcast_S_S16x1024x1x16 : S_.BroadcastsInDim S16x1024x1x16 (![] : Fin 0 → Fin S16x1024x1x16.rank)
  bcast_S16x1024x7_S16x1024x7x1_0_1_2 : S16x1024x7.BroadcastsInDim S16x1024x7x1 (![0, 1, 2] : Fin 3 → Fin S16x1024x7x1.rank)
  bcast_S16x7x16_S16x1x7x16_0_2_3 : S16x7x16.BroadcastsInDim S16x1x7x16 (![0, 2, 3] : Fin 3 → Fin S16x1x7x16.rank)
  bcast_S16x1024x7x1_S16x1024x7x16_0_1_2_3 : S16x1024x7x1.BroadcastsInDim S16x1024x7x16 (![0, 1, 2, 3] : Fin 4 → Fin S16x1024x7x16.rank)
  bcast_S16x1x7x16_S16x1024x7x16_0_1_2_3 : S16x1x7x16.BroadcastsInDim S16x1024x7x16 (![0, 1, 2, 3] : Fin 4 → Fin S16x1024x7x16.rank)
  bcast_S16x1024x1x16_S16x1024x7x16_0_1_2_3 : S16x1024x1x16.BroadcastsInDim S16x1024x7x16 (![0, 1, 2, 3] : Fin 4 → Fin S16x1024x7x16.rank)
  reducesTo_S16x1024x7x16_S_d0_1_2_3 : S16x1024x7x16.ReducesTo [0, 1, 2, 3] S_

variable [Facts]

def fn_part4 {F : FTy → Type} [FloatOps F] (main_v3 : IVec S_ 1) (main_v9 : IVec S_ 1) (main_v15 : IVec S_ 1) (main_v25 : IVec S_ 1) (main_v39 : IVec S_ 1) (main_v74 : IVec S16x1024x1x16 1) (main_v77 : IVec S16x1024x7x16 1) (main_v78 : IVec S16x1024x7x16 1) : IVec S_ 1 :=
  let main_v79 : IVec S16x1024x7x16 1 := ori main_v77 main_v78
  let main_v80 : IVec S16x1024x7x16 1 := broadcastInDim S16x1024x7x16 ![0, 1, 2, 3] bcast_S16x1024x1x16_S16x1024x7x16_0_1_2_3 main_v74
  let main_v81 : IVec S16x1024x7x16 1 := ori main_v79 main_v80
  let main_c_15 : IVec S_ 1 := constantI S_ 1 1#1
  let main_v82 : IVec S_ 1 := (fun x v => Host.reduce IntOp.andi x v reducesTo_S16x1024x7x16_S_d0_1_2_3 h_S_) main_v81 main_c_15
  let main_v83 : IVec S_ 1 := andi main_v3 main_v9
  let main_v84 : IVec S_ 1 := andi main_v83 main_v15
  let main_v85 : IVec S_ 1 := andi main_v84 main_v25
  let main_v86 : IVec S_ 1 := andi main_v85 main_v39
  let main_v87 : IVec S_ 1 := andi main_v86 main_v82
  main_v87

def fn_part3 {F : FTy → Type} [FloatOps F] (main_arg2 : FVec F S16384x16 .f32) (main_arg4 : IVec S16x7 32) (main_v3 : IVec S_ 1) (main_v9 : IVec S_ 1) (main_v15 : IVec S_ 1) (main_v25 : IVec S_ 1) (main_v39 : IVec S_ 1) (main_v55 : IVec S16x1024x7 1) (main_v56 : IVec S16 32) (main_c_12 : IVec S_ 32) : IVec S_ 1 :=
  let main_v57 : IVec S16x7 32 := broadcastInDim S16x7 ![] bcast_S_S16x7 main_c_12
  let main_v58 : IVec S16x7 32 := muli main_v57 main_arg4
  let main_v59 : IVec S1x1x16 32 := broadcastInDim S1x1x16 ![2] bcast_S16_S1x1x16_2 main_v56
  let main_v60 : IVec S16x7x1 32 := broadcastInDim S16x7x1 ![0, 1] bcast_S16x7_S16x7x1_0_1 main_v58
  let main_v61 : IVec S16x7x16 32 := broadcastInDim S16x7x16 ![0, 1, 2] bcast_S1x1x16_S16x7x16_0_1_2 main_v59
  let main_v62 : IVec S16x7x16 32 := broadcastInDim S16x7x16 ![0, 1, 2] bcast_S16x7x1_S16x7x16_0_1_2 main_v60
  let main_v63 : IVec S16x7x16 1 := cmpi .sge main_v61 main_v62
  let main_v64 : IVec S1x1x16 32 := broadcastInDim S1x1x16 ![2] bcast_S16_S1x1x16_2 main_v56
  let main_v65 : IVec S16x7x1 32 := broadcastInDim S16x7x1 ![0, 1] bcast_S16x7_S16x7x1_0_1 main_v58
  let main_c_13 : IVec S_ 32 := constantI S_ 32 4#32
  let main_v66 : IVec S16x7x1 32 := broadcastInDim S16x7x1 ![] bcast_S_S16x7x1 main_c_13
  let main_v67 : IVec S16x7x1 32 := addi main_v65 main_v66
  let main_v68 : IVec S16x7x16 32 := broadcastInDim S16x7x16 ![0, 1, 2] bcast_S1x1x16_S16x7x16_0_1_2 main_v64
  let main_v69 : IVec S16x7x16 32 := broadcastInDim S16x7x16 ![0, 1, 2] bcast_S16x7x1_S16x7x16_0_1_2 main_v67
  let main_v70 : IVec S16x7x16 1 := cmpi .slt main_v68 main_v69
  let main_v71 : IVec S16x7x16 1 := andi main_v63 main_v70
  let main_v72 : FVec F S16x1024x1x16 .f32 := shapeCast S16x1024x1x16 main_arg2 shapeCasts_S16384x16_S16x1024x1x16
  let main_cst_14 : FVec F S_ .f32 := constant S_ .f32 0x00000000#32
  let main_v73 : FVec F S16x1024x1x16 .f32 := broadcastInDim S16x1024x1x16 ![] bcast_S_S16x1024x1x16 main_cst_14
  let main_v74 : IVec S16x1024x1x16 1 := cmpf .oeq main_v72 main_v73
  let main_v75 : IVec S16x1024x7x1 1 := broadcastInDim S16x1024x7x1 ![0, 1, 2] bcast_S16x1024x7_S16x1024x7x1_0_1_2 main_v55
  let main_v76 : IVec S16x1x7x16 1 := broadcastInDim S16x1x7x16 ![0, 2, 3] bcast_S16x7x16_S16x1x7x16_0_2_3 main_v71
  let main_v77 : IVec S16x1024x7x16 1 := broadcastInDim S16x1024x7x16 ![0, 1, 2, 3] bcast_S16x1024x7x1_S16x1024x7x16_0_1_2_3 main_v75
  let main_v78 : IVec S16x1024x7x16 1 := broadcastInDim S16x1024x7x16 ![0, 1, 2, 3] bcast_S16x1x7x16_S16x1024x7x16_0_1_2_3 main_v76
  fn_part4 (F := F) main_v3 main_v9 main_v15 main_v25 main_v39 main_v74 main_v77 main_v78

def fn_part2 {F : FTy → Type} [FloatOps F] (main_arg2 : FVec F S16384x16 .f32) (main_arg4 : IVec S16x7 32) (main_v3 : IVec S_ 1) (main_v9 : IVec S_ 1) (main_v15 : IVec S_ 1) (main_v16 : IVec S16x1024 32) (main_v25 : IVec S_ 1) (main_v31 : IVec S16x1024x1024 1) (main_v36 : IVec S1x1024x1024 1) : IVec S_ 1 :=
  let main_v37 : IVec S16x1024x1024 1 := broadcastInDim S16x1024x1024 ![0, 1, 2] bcast_S1x1024x1024_S16x1024x1024_0_1_2 main_v36
  let main_v38 : IVec S16x1024x1024 1 := ori main_v31 main_v37
  let main_c_9 : IVec S_ 1 := constantI S_ 1 1#1
  let main_v39 : IVec S_ 1 := (fun x v => Host.reduce IntOp.andi x v reducesTo_S16x1024x1024_S_d0_1_2 h_S_) main_v38 main_c_9
  let main_v40 : IVec S7 32 := iotaInDim S7 32 0
  let main_c_10 : IVec S_ 32 := constantI S_ 32 288#32
  let main_v41 : IVec S7 32 := broadcastInDim S7 ![] bcast_S_S7 main_c_10
  let main_v42 : IVec S7 32 := muli main_v41 main_v40
  let main_v43 : IVec S16x1024x1 32 := broadcastInDim S16x1024x1 ![0, 1] bcast_S16x1024_S16x1024x1_0_1 main_v16
  let main_v44 : IVec S1x1x7 32 := broadcastInDim S1x1x7 ![2] bcast_S7_S1x1x7_2 main_v42
  let main_v45 : IVec S16x1024x7 32 := broadcastInDim S16x1024x7 ![0, 1, 2] bcast_S16x1024x1_S16x1024x7_0_1_2 main_v43
  let main_v46 : IVec S16x1024x7 32 := broadcastInDim S16x1024x7 ![0, 1, 2] bcast_S1x1x7_S16x1024x7_0_1_2 main_v44
  let main_v47 : IVec S16x1024x7 1 := cmpi .slt main_v45 main_v46
  let main_v48 : IVec S16x1024x1 32 := broadcastInDim S16x1024x1 ![0, 1] bcast_S16x1024_S16x1024x1_0_1 main_v16
  let main_v49 : IVec S1x1x7 32 := broadcastInDim S1x1x7 ![2] bcast_S7_S1x1x7_2 main_v42
  let main_c_11 : IVec S_ 32 := constantI S_ 32 288#32
  let main_v50 : IVec S1x1x7 32 := broadcastInDim S1x1x7 ![] bcast_S_S1x1x7 main_c_11
  let main_v51 : IVec S1x1x7 32 := addi main_v49 main_v50
  let main_v52 : IVec S16x1024x7 32 := broadcastInDim S16x1024x7 ![0, 1, 2] bcast_S16x1024x1_S16x1024x7_0_1_2 main_v48
  let main_v53 : IVec S16x1024x7 32 := broadcastInDim S16x1024x7 ![0, 1, 2] bcast_S1x1x7_S16x1024x7_0_1_2 main_v51
  let main_v54 : IVec S16x1024x7 1 := cmpi .sge main_v52 main_v53
  let main_v55 : IVec S16x1024x7 1 := ori main_v47 main_v54
  let main_v56 : IVec S16 32 := iotaInDim S16 32 0
  let main_c_12 : IVec S_ 32 := constantI S_ 32 4#32
  fn_part3 (F := F) main_arg2 main_arg4 main_v3 main_v9 main_v15 main_v25 main_v39 main_v55 main_v56 main_c_12

def fn_part1 {F : FTy → Type} [FloatOps F] (main_arg2 : FVec F S16384x16 .f32) (main_arg3 : IVec S16384 32) (main_arg4 : IVec S16x7 32) (main_arg5 : IVec S16 32) (main_v3 : IVec S_ 1) (main_v9 : IVec S_ 1) (main_v15 : IVec S_ 1) : IVec S_ 1 :=
  let main_v16 : IVec S16x1024 32 := shapeCast S16x1024 main_arg3 shapeCasts_S16384_S16x1024
  let main_c_6 : IVec S_ 32 := constantI S_ 32 0#32
  let main_v17 : IVec S16x1024 32 := broadcastInDim S16x1024 ![] bcast_S_S16x1024 main_c_6
  let main_v18 : IVec S16x1024 1 := cmpi .sge main_v16 main_v17
  let main_v19 : IVec S16x1 32 := broadcastInDim S16x1 ![0] bcast_S16_S16x1_0 main_arg5
  let main_c_7 : IVec S_ 32 := constantI S_ 32 288#32
  let main_v20 : IVec S16x1 32 := broadcastInDim S16x1 ![] bcast_S_S16x1 main_c_7
  let main_v21 : IVec S16x1 32 := muli main_v20 main_v19
  let main_v22 : IVec S16x1024 32 := broadcastInDim S16x1024 ![0, 1] bcast_S16x1_S16x1024_0_1 main_v21
  let main_v23 : IVec S16x1024 1 := cmpi .slt main_v16 main_v22
  let main_v24 : IVec S16x1024 1 := andi main_v18 main_v23
  let main_c_8 : IVec S_ 1 := constantI S_ 1 1#1
  let main_v25 : IVec S_ 1 := (fun x v => Host.reduce IntOp.andi x v reducesTo_S16x1024_S_d0_1 h_S_) main_v24 main_c_8
  let main_v26 : IVec S1024 32 := iotaInDim S1024 32 0
  let main_v27 : IVec S16x1024x1 32 := broadcastInDim S16x1024x1 ![0, 1] bcast_S16x1024_S16x1024x1_0_1 main_v16
  let main_v28 : IVec S16x1x1024 32 := broadcastInDim S16x1x1024 ![0, 2] bcast_S16x1024_S16x1x1024_0_2 main_v16
  let main_v29 : IVec S16x1024x1024 32 := broadcastInDim S16x1024x1024 ![0, 1, 2] bcast_S16x1024x1_S16x1024x1024_0_1_2 main_v27
  let main_v30 : IVec S16x1024x1024 32 := broadcastInDim S16x1024x1024 ![0, 1, 2] bcast_S16x1x1024_S16x1024x1024_0_1_2 main_v28
  let main_v31 : IVec S16x1024x1024 1 := cmpi .ne main_v29 main_v30
  let main_v32 : IVec S1x1024x1 32 := broadcastInDim S1x1024x1 ![1] bcast_S1024_S1x1024x1_1 main_v26
  let main_v33 : IVec S1x1x1024 32 := broadcastInDim S1x1x1024 ![2] bcast_S1024_S1x1x1024_2 main_v26
  let main_v34 : IVec S1x1024x1024 32 := broadcastInDim S1x1024x1024 ![0, 1, 2] bcast_S1x1024x1_S1x1024x1024_0_1_2 main_v32
  let main_v35 : IVec S1x1024x1024 32 := broadcastInDim S1x1024x1024 ![0, 1, 2] bcast_S1x1x1024_S1x1024x1024_0_1_2 main_v33
  let main_v36 : IVec S1x1024x1024 1 := cmpi .eq main_v34 main_v35
  fn_part2 (F := F) main_arg2 main_arg4 main_v3 main_v9 main_v15 main_v16 main_v25 main_v31 main_v36

def fn {F : FTy → Type} [FloatOps F] (main_arg0 : FVec F S16384x1024 .f32) (main_arg1 : FVec F S16384x1024 .f32) (main_arg2 : FVec F S16384x16 .f32) (main_arg3 : IVec S16384 32) (main_arg4 : IVec S16x7 32) (main_arg5 : IVec S16 32) (main_arg6 : FVec F S16x1024x256 .f32) (main_arg7 : FVec F S16x1024x256 .f32) (main_arg8 : FVec F S16x256x1024 .f32) : IVec S_ 1 :=
  let main_v0 : FVec F S16384x16 .f32 := Host.absf main_arg2
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_c_0 : IVec S_ 32 := constantI S_ 32 0#32
  let main_v4 : IVec S16x7 32 := broadcastInDim S16x7 ![] bcast_S_S16x7 main_c_0
  let main_v5 : IVec S16x7 1 := cmpi .sge main_arg4 main_v4
  let main_c_1 : IVec S_ 32 := constantI S_ 32 4#32
  let main_v6 : IVec S16x7 32 := broadcastInDim S16x7 ![] bcast_S_S16x7 main_c_1
  let main_v7 : IVec S16x7 1 := cmpi .slt main_arg4 main_v6
  let main_v8 : IVec S16x7 1 := andi main_v5 main_v7
  let main_c_2 : IVec S_ 1 := constantI S_ 1 1#1
  let main_v9 : IVec S_ 1 := (fun x v => Host.reduce IntOp.andi x v reducesTo_S16x7_S_d0_1 h_S_) main_v8 main_c_2
  let main_c_3 : IVec S_ 32 := constantI S_ 32 1#32
  let main_v10 : IVec S16 32 := broadcastInDim S16 ![] bcast_S_S16 main_c_3
  let main_v11 : IVec S16 1 := cmpi .sge main_arg5 main_v10
  let main_c_4 : IVec S_ 32 := constantI S_ 32 7#32
  let main_v12 : IVec S16 32 := broadcastInDim S16 ![] bcast_S_S16 main_c_4
  let main_v13 : IVec S16 1 := cmpi .sle main_arg5 main_v12
  let main_v14 : IVec S16 1 := andi main_v11 main_v13
  let main_c_5 : IVec S_ 1 := constantI S_ 1 1#1
  let main_v15 : IVec S_ 1 := (fun x v => Host.reduce IntOp.andi x v reducesTo_S16_S_d0 h_S_) main_v14 main_c_5
  fn_part1 (F := F) main_arg2 main_arg3 main_arg4 main_arg5 main_v3 main_v9 main_v15
-- ==== Pre_finite.lean ====
abbrev S2x16x8192x64 : Shape := ⟨4, ![2, 16, 8192, 64]⟩
abbrev S2x16x8208x64 : Shape := ⟨4, ![2, 16, 8208, 64]⟩
abbrev S2x16x8208 : Shape := ⟨3, ![2, 16, 8208]⟩
abbrev S_ : Shape := ⟨0, ![]⟩

class Facts : Prop where
  bcast_S_S2x16x8192x64 : S_.BroadcastsInDim S2x16x8192x64 (![] : Fin 0 → Fin S2x16x8192x64.rank)
  reducesTo_S2x16x8192x64_S_d0_1_2_3 : S2x16x8192x64.ReducesTo [0, 1, 2, 3] S_
  h_S_ : 0 < S_.numel
  bcast_S_S2x16x8208x64 : S_.BroadcastsInDim S2x16x8208x64 (![] : Fin 0 → Fin S2x16x8208x64.rank)
  reducesTo_S2x16x8208x64_S_d0_1_2_3 : S2x16x8208x64.ReducesTo [0, 1, 2, 3] S_
  bcast_S_S2x16x8208 : S_.BroadcastsInDim S2x16x8208 (![] : Fin 0 → Fin S2x16x8208.rank)
  reducesTo_S2x16x8208_S_d0_1_2 : S2x16x8208.ReducesTo [0, 1, 2] S_

variable [Facts]

def fn_part1 {F : FTy → Type} [FloatOps F] (main_v13 : IVec S_ 1) (main_v16 : IVec S2x16x8208 1) : IVec S_ 1 :=
  let main_c_5 : IVec S_ 1 := constantI S_ 1 1#1
  let main_v17 : IVec S_ 1 := (fun x v => Host.reduce IntOp.andi x v reducesTo_S2x16x8208_S_d0_1_2 h_S_) main_v16 main_c_5
  let main_v18 : IVec S_ 1 := andi main_v13 main_v17
  main_v18

def fn {F : FTy → Type} [FloatOps F] (main_arg0 : FVec F S2x16x8192x64 .f32) (main_arg1 : FVec F S2x16x8208x64 .f32) (main_arg2 : FVec F S2x16x8208x64 .f32) (main_arg3 : FVec F S2x16x8208 .f32) : IVec S_ 1 :=
  let main_v0 : FVec F S2x16x8192x64 .f32 := Host.absf main_arg0
  let main_cst : FVec F S_ .f32 := constant S_ .f32 0x7F800000#32
  let main_v1 : FVec F S2x16x8192x64 .f32 := broadcastInDim S2x16x8192x64 ![] bcast_S_S2x16x8192x64 main_cst
  let main_v2 : IVec S2x16x8192x64 1 := cmpf .olt main_v0 main_v1
  let main_c : IVec S_ 1 := constantI S_ 1 1#1
  let main_v3 : IVec S_ 1 := (fun x v => Host.reduce IntOp.andi x v reducesTo_S2x16x8192x64_S_d0_1_2_3 h_S_) main_v2 main_c
  let main_v4 : FVec F S2x16x8208x64 .f32 := Host.absf main_arg1
  let main_cst_0 : FVec F S_ .f32 := constant S_ .f32 0x7F800000#32
  let main_v5 : FVec F S2x16x8208x64 .f32 := broadcastInDim S2x16x8208x64 ![] bcast_S_S2x16x8208x64 main_cst_0
  let main_v6 : IVec S2x16x8208x64 1 := cmpf .olt main_v4 main_v5
  let main_c_1 : IVec S_ 1 := constantI S_ 1 1#1
  let main_v7 : IVec S_ 1 := (fun x v => Host.reduce IntOp.andi x v reducesTo_S2x16x8208x64_S_d0_1_2_3 h_S_) main_v6 main_c_1
  let main_v8 : IVec S_ 1 := andi main_v3 main_v7
  let main_v9 : FVec F S2x16x8208x64 .f32 := Host.absf main_arg2
  let main_cst_2 : FVec F S_ .f32 := constant S_ .f32 0x7F800000#32
  let main_v10 : FVec F S2x16x8208x64 .f32 := broadcastInDim S2x16x8208x64 ![] bcast_S_S2x16x8208x64 main_cst_2
  let main_v11 : IVec S2x16x8208x64 1 := cmpf .olt main_v9 main_v10
  let main_c_3 : IVec S_ 1 := constantI S_ 1 1#1
  let main_v12 : IVec S_ 1 := (fun x v => Host.reduce IntOp.andi x v reducesTo_S2x16x8208x64_S_d0_1_2_3 h_S_) main_v11 main_c_3
  let main_v13 : IVec S_ 1 := andi main_v8 main_v12
  let main_v14 : FVec F S2x16x8208 .f32 := Host.absf main_arg3
  let main_cst_4 : FVec F S_ .f32 := constant S_ .f32 0x7F800000#32
  let main_v15 : FVec F S2x16x8208 .f32 := broadcastInDim S2x16x8208 ![] bcast_S_S2x16x8208 main_cst_4
  let main_v16 : IVec S2x16x8208 1 := cmpf .olt main_v14 main_v15
  fn_part1 (F := F) main_v13 main_v16
-- ==== Pre_grouped.lean ====
abbrev S16384x1024 : Shape := ⟨2, ![16384, 1024]⟩
abbrev S16384x16 : Shape := ⟨2, ![16384, 16]⟩
abbrev S16384 : Shape := ⟨1, ![16384]⟩
abbrev S16x7 : Shape := ⟨2, ![16, 7]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S16x7 : S_.BroadcastsInDim S16x7 (![] : Fin 0 → Fin S16x7.rank)
  reducesTo_S16x7_S_d0_1 : S16x7.ReducesTo [0, 1] S_
  h_S_ : 0 < S_.numel

variable [Facts]

def fn {F : FTy → Type} [FloatOps F] (main_arg0 : FVec F S16384x1024 .f32) (main_arg1 : FVec F S16384x1024 .f32) (main_arg2 : FVec F S16384x16 .f32) (main_arg3 : IVec S16384 32) (main_arg4 : IVec S16x7 32) (main_arg5 : IVec S16 32) (main_arg6 : FVec F S16x1024x256 .f32) (main_arg7 : FVec F S16x1024x256 .f32) (main_arg8 : FVec F S16x256x1024 .f32) : IVec S_ 1 :=
  let main_c : IVec S_ 32 := constantI S_ 32 0#32
  let main_v0 : IVec S16x7 32 := broadcastInDim S16x7 ![] bcast_S_S16x7 main_c
  let main_v1 : IVec S16x7 1 := cmpi .sge main_arg4 main_v0
  let main_c_0 : IVec S_ 32 := constantI S_ 32 4#32
  let main_v2 : IVec S16x7 32 := broadcastInDim S16x7 ![] bcast_S_S16x7 main_c_0
  let main_v3 : IVec S16x7 1 := cmpi .slt main_arg4 main_v2
  let main_v4 : IVec S16x7 1 := andi main_v1 main_v3
  let main_c_1 : IVec S_ 1 := constantI S_ 1 1#1
  let main_v5 : IVec S_ 1 := (fun x v => Host.reduce IntOp.andi x v reducesTo_S16x7_S_d0_1 h_S_) main_v4 main_c_1
  main_v5
-- ==== Experts.lean ====
abbrev S16384x1024 : Shape := ⟨2, ![16384, 1024]⟩
abbrev S16384x16 : Shape := ⟨2, ![16384, 16]⟩
abbrev S16384 : Shape := ⟨1, ![16384]⟩
abbrev S16x7 : Shape := ⟨2, ![16, 7]⟩
abbrev S16 : Shape := ⟨1, ![16]⟩
abbrev S16x1024x256 : Shape := ⟨3, ![16, 1024, 256]⟩
abbrev S16x256x1024 : Shape := ⟨3, ![16, 256, 1024]⟩
abbrev S16x1 : Shape := ⟨2, ![16, 1]⟩
abbrev S_ : Shape := ⟨0, ![]⟩
abbrev S16x8 : Shape := ⟨2, ![16, 8]⟩
abbrev S112 : Shape := ⟨1, ![112]⟩
abbrev S128 : Shape := ⟨1, ![128]⟩
abbrev S240 : Shape := ⟨1, ![240]⟩
abbrev S16384x4 : Shape := ⟨2, ![16384, 4]⟩
abbrev S16384x108 : Shape := ⟨2, ![16384, 108]⟩
abbrev S16384x128 : Shape := ⟨2, ![16384, 128]⟩
abbrev S16384x1280 : Shape := ⟨2, ![16384, 1280]⟩
abbrev S16x1x1024 : Shape := ⟨3, ![16, 1, 1024]⟩
abbrev S16384x1 : Shape := ⟨2, ![16384, 1]⟩
abbrev S1024x1280 : Shape := ⟨2, ![1024, 1280]⟩
abbrev S1x1x1024 : Shape := ⟨3, ![1, 1, 1024]⟩
abbrev S1024x1 : Shape := ⟨2, ![1024, 1]⟩
abbrev S1024x1024 : Shape := ⟨2, ![1024, 1024]⟩
abbrev S4x1024x256 : Shape := ⟨3, ![4, 1024, 256]⟩
abbrev S1 : Shape := ⟨1, ![1]⟩
abbrev S4x256x1024 : Shape := ⟨3, ![4, 256, 1024]⟩
abbrev S2048x1024 : Shape := ⟨2, ![2048, 1024]⟩
abbrev S32x1024 : Shape := ⟨2, ![32, 1024]⟩
abbrev S288x1024 : Shape := ⟨2, ![288, 1024]⟩
abbrev S1x1024 : Shape := ⟨2, ![1, 1024]⟩
abbrev S288x1280 : Shape := ⟨2, ![288, 1280]⟩
abbrev S288x128 : Shape := ⟨2, ![288, 128]⟩
abbrev S288 : Shape := ⟨1, ![288]⟩
abbrev S288x1 : Shape := ⟨2, ![288, 1]⟩
abbrev S1x1024x256 : Shape := ⟨3, ![1, 1024, 256]⟩
abbrev S1024x256 : Shape := ⟨2, ![1024, 256]⟩
abbrev S288x256 : Shape := ⟨2, ![288, 256]⟩
abbrev S1024x512 : Shape := ⟨2, ![1024, 512]⟩
abbrev S288x512 : Shape := ⟨2, ![288, 512]⟩
abbrev S1024x2048 : Shape := ⟨2, ![1024, 2048]⟩

abbrev nBuf : Space → Nat
  | .hbm => 74
  | .vmem => 17
  | .smem => 2
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x16, .f32⟩
  | .hbm, ⟨3, _⟩ => ⟨S16384, .i32⟩
  | .hbm, ⟨4, _⟩ => ⟨S16x7, .i32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S16x1, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16x1, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16x1, .i32⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S16x1, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S16x1, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S16x1, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S16x1, .i32⟩
  | .hbm, ⟨44, _⟩ => ⟨S16, .i32⟩
  | .hbm, ⟨45, _⟩ => ⟨S16, .i32⟩
  | .hbm, ⟨46, _⟩ => ⟨S16x8, .i32⟩
  | .hbm, ⟨47, _⟩ => ⟨S16x8, .i32⟩
  | .hbm, ⟨48, _⟩ => ⟨S16x1, .i32⟩
  | .hbm, ⟨49, _⟩ => ⟨S16x8, .i32⟩
  | .hbm, ⟨50, _⟩ => ⟨S16x8, .i1⟩
  | .hbm, ⟨51, _⟩ => ⟨S16x1, .i32⟩
  | .hbm, ⟨52, _⟩ => ⟨S16x8, .i32⟩
  | .hbm, ⟨53, _⟩ => ⟨S16x8, .i32⟩
  | .hbm, ⟨54, _⟩ => ⟨S112, .i32⟩
  | .hbm, ⟨55, _⟩ => ⟨S128, .i32⟩
  | .hbm, ⟨56, _⟩ => ⟨S16384, .f32⟩
  | .hbm, ⟨57, _⟩ => ⟨S_, .f32⟩
  | .hbm, ⟨58, _⟩ => ⟨S16384x4, .f32⟩
  | .hbm, ⟨59, _⟩ => ⟨S_, .f32⟩
  | .hbm, ⟨60, _⟩ => ⟨S16384x108, .f32⟩
  | .hbm, ⟨61, _⟩ => ⟨S16384x128, .f32⟩
  | .hbm, ⟨62, _⟩ => ⟨S16384x128, .bf16⟩
  | .hbm, ⟨63, _⟩ => ⟨S16384x128, .f32⟩
  | .hbm, ⟨64, _⟩ => ⟨S16384x128, .f32⟩
  | .hbm, ⟨65, _⟩ => ⟨S16384x128, .bf16⟩
  | .hbm, ⟨66, _⟩ => ⟨S16384x1024, .bf16⟩
  | .hbm, ⟨67, _⟩ => ⟨S16384x1280, .bf16⟩
  | .hbm, ⟨68, _⟩ => ⟨S16x1x1024, .f32⟩
  | .hbm, ⟨69, _⟩ => ⟨S16384x1, .f32⟩
  | .hbm, ⟨70, _⟩ => ⟨S16x1024x256, .bf16⟩
  | .hbm, ⟨71, _⟩ => ⟨S16x1024x256, .bf16⟩
  | .hbm, ⟨72, _⟩ => ⟨S16x256x1024, .bf16⟩
  | .hbm, ⟨73, _⟩ => ⟨S16384x1024, .f32⟩
  | .local _ .vmem, ⟨0, _⟩ => ⟨S1024x1280, .bf16⟩
  | .local _ .vmem, ⟨1, _⟩ => ⟨S1024x1280, .bf16⟩
  | .local _ .vmem, ⟨2, _⟩ => ⟨S1x1x1024, .f32⟩
  | .local _ .vmem, ⟨3, _⟩ => ⟨S1x1x1024, .f32⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S4x1024x256, .bf16⟩
  | .local _ .vmem, ⟨9, _⟩ => ⟨S4x1024x256, .bf16⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .vmem, ⟨13, _⟩ => ⟨S4x256x1024, .bf16⟩
  | .local _ .vmem, ⟨14, _⟩ => ⟨S1024x1024, .f32⟩
  | .local _ .vmem, ⟨15, _⟩ => ⟨S1024x1024, .f32⟩
  | .local _ .vmem, ⟨16, _⟩ => ⟨S2048x1024, .bf16⟩
  | .local _ .smem, ⟨0, _⟩ => ⟨S240, .i32⟩
  | .local _ .smem, ⟨1, _⟩ => ⟨S16, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v42 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

abbrev pre0 : Pipeline.Prefetch sig := ⟨2, ![main_v42.idx, main_arg5.idx], fun | 0 => main_v42.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c112_i32 : BitVec 32 := 112#32
  let arg0 : BitVec 32 := BitVec.ofNat 32 (i 0).val
  let c8_i32 : BitVec 32 := 8#32
  let v0 : BitVec 32 := Scalar.muli arg0 c8_i32
  let v1 : BitVec 32 := Scalar.addi c112_i32 v0
  let arg1 : BitVec 32 := BitVec.ofNat 32 (i 1).val
  let v2 : BitVec 32 := Scalar.addi v1 arg1
  let v3 : Index := Scalar.indexCast v2
  ![v3.toNat]
def k0_mult1 (i : grid0.Coords) : BitVec 32 :=
  let arg1 : BitVec 32 := BitVec.ofNat 32 (i 1).val
  let c6_i32 : BitVec 32 := 6#32
  let v0 : BitVec 32 := Scalar.minsi arg1 c6_i32
  let c288_i32 : BitVec 32 := 288#32
  let v1 : BitVec 32 := Scalar.muli v0 c288_i32
  v1
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c7_i32_5 : BitVec 32 := 7#32
  let v21 : BitVec 32 := Scalar.muli arg0 c7_i32_5
  let arg1 : BitVec 32 := BitVec.ofNat 32 (i 1).val
  let v22 : BitVec 32 := Scalar.addi v21 arg1
  let v23 : Index := Scalar.indexCast v22
  ![v23.toNat]
def k0_off4 (i : grid0.Coords) : Fin 2 → Nat :=
  let arg1 : BitVec 32 := BitVec.ofNat 32 (i 1).val
  let c6_i32 : BitVec 32 := 6#32
  let v0 : BitVec 32 := Scalar.minsi arg1 c6_i32
  let c288_i32 : BitVec 32 := 288#32
  let v1 : BitVec 32 := Scalar.muli v0 c288_i32
  let v2 : BitVec 32 := v1
  let v139 : Index := Scalar.indexCast v2
  let c0_62 : Index := 0#32
  ![v139.toNat, 0]
def k0_off5 (i : grid0.Coords) : Fin 2 → Nat :=
  let arg1 : BitVec 32 := BitVec.ofNat 32 (i 1).val
  let c6_i32 : BitVec 32 := 6#32
  let v0 : BitVec 32 := Scalar.minsi arg1 c6_i32
  let c288_i32 : BitVec 32 := 288#32
  let v1 : BitVec 32 := Scalar.muli v0 c288_i32
  let v2 : BitVec 32 := v1
  let v146 : Index := Scalar.indexCast v2
  let c512 : Index := 512#32
  ![v146.toNat, 512]
def k0_off6 (i : grid0.Coords) : Fin 1 → Nat :=
  let arg0 : BitVec 32 := BitVec.ofNat 32 (i 0).val
  let v11 : Index := Scalar.indexCast arg0
  ![v11.toNat]
def k0_off7 (i : grid0.Coords) : Fin 2 → Nat :=
  let arg1 : BitVec 32 := BitVec.ofNat 32 (i 1).val
  let c6_i32 : BitVec 32 := 6#32
  let v0 : BitVec 32 := Scalar.minsi arg1 c6_i32
  let c288_i32 : BitVec 32 := 288#32
  let v1 : BitVec 32 := Scalar.muli v0 c288_i32
  let v2 : BitVec 32 := v1
  let v22 : Index := Scalar.indexCast v2
  let c0 : Index := 0#32
  ![v22.toNat, 0]
def k0_cond4 (i : grid0.Coords) : BitVec 1 :=
  let arg1 : BitVec 32 := BitVec.ofNat 32 (i 1).val
  let c7_i32_3 : BitVec 32 := 7#32
  let v18 : BitVec 1 := Scalar.cmpi .eq arg1 c7_i32_3
  let v19 : BitVec 32 := Scalar.extui v18
  let c0_i32_4 : BitVec 32 := 0#32
  let v20 : BitVec 1 := Scalar.cmpi .ne v19 c0_i32_4
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c112_i32 : BitVec 32 := 112#32
  let v1 : BitVec 32 := Scalar.addi c112_i32 v0
  let v2 : BitVec 32 := Scalar.addi v1 arg1
  let v3 : Index := Scalar.indexCast v2
  let v4 : BitVec 32 := pf.at 0 (Rect.unit (s := S240) ![v3.toNat] S1.size (k0_off1_inb i)) numel1_S1
  let c0_i32 : BitVec 32 := 0#32
  let c0_i32_0 : BitVec 32 := 0#32
  let c0_i32_1 : BitVec 32 := 0#32
  ![v4.toNat, c0_i32.toNat, c0_i32_0.toNat]

def cc0_transform_5 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c112_i32 : BitVec 32 := 112#32
  let v1 : BitVec 32 := Scalar.addi c112_i32 v0
  let v2 : BitVec 32 := Scalar.addi v1 arg1
  let v3 : Index := Scalar.indexCast v2
  let v4 : BitVec 32 := pf.at 0 (Rect.unit (s := S240) ![v3.toNat] S1.size (k0_off1_inb i)) numel1_S1
  let c0_i32 : BitVec 32 := 0#32
  let c0_i32_0 : BitVec 32 := 0#32
  let c0_i32_1 : BitVec 32 := 0#32
  ![v4.toNat, c0_i32.toNat, c0_i32_0.toNat]

def cc0_transform_6 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c112_i32 : BitVec 32 := 112#32
  let v1 : BitVec 32 := Scalar.addi c112_i32 v0
  let v2 : BitVec 32 := Scalar.addi v1 arg1
  let v3 : Index := Scalar.indexCast v2
  let v4 : BitVec 32 := pf.at 0 (Rect.unit (s := S240) ![v3.toNat] S1.size (k0_off1_inb i)) numel1_S1
  let c0_i32 : BitVec 32 := 0#32
  let c0_i32_0 : BitVec 32 := 0#32
  let c0_i32_1 : BitVec 32 := 0#32
  ![v4.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S16384x1024 : Shape := ⟨2, ![16384, 1024]⟩
abbrev S16384x16 : Shape := ⟨2, ![16384, 16]⟩
abbrev S16384 : Shape := ⟨1, ![16384]⟩
abbrev S16x7 : Shape := ⟨2, ![16, 7]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S4x1024x256 : Shape := ⟨3, ![4, 1024, 256]⟩
abbrev S16384x4x256 : Shape := ⟨3, ![16384, 4, 256]⟩
abbrev S16384x4 : Shape := ⟨2, ![16384, 4]⟩
abbrev S16384x4x1 : Shape := ⟨3, ![16384, 4, 1]⟩
abbrev S4x256x1024 : Shape := ⟨3, ![4, 256, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x16, .f32⟩
  | .hbm, ⟨3, _⟩ => ⟨S16384, .i32⟩
  | .hbm, ⟨4, _⟩ => ⟨S16x7, .i32⟩
  | .hbm, ⟨5, _⟩ => ⟨S16, .i32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S_, .f32⟩
  | .hbm, ⟨10, _⟩ => ⟨S16384x1024, .f32⟩
  | .hbm, ⟨11, _⟩ => ⟨S4x1024x256, .f32⟩
  | .hbm, ⟨12, _⟩ => ⟨S16384x4x256, .f32⟩
  | .hbm, ⟨13, _⟩ => ⟨S4x1024x256, .f32⟩
  | .hbm, ⟨14, _⟩ => ⟨S16384x4x256, .f32⟩
  | .hbm, ⟨15, _⟩ => ⟨S16384x4x256, .f32⟩
  | .hbm, ⟨16, _⟩ => ⟨S16384x4x256, .f32⟩
  | .hbm, ⟨17, _⟩ => ⟨S_, .f32⟩
  | .hbm, ⟨18, _⟩ => ⟨S16384x4x256, .f32⟩
  | .hbm, ⟨19, _⟩ => ⟨S16384x4x256, .f32⟩
  | .hbm, ⟨20, _⟩ => ⟨S_, .f32⟩
  | .hbm, ⟨21, _⟩ => ⟨S16384x4x256, .f32⟩
  | .hbm, ⟨22, _⟩ => ⟨S16384x4x256, .f32⟩
  | .hbm, ⟨23, _⟩ => ⟨S16384x4x256, .f32⟩
  | .hbm, ⟨24, _⟩ => ⟨S16384x4x256, .f32⟩
  | .hbm, ⟨25, _⟩ => ⟨S16384x4, .f32⟩
  | .hbm, ⟨26, _⟩ => ⟨S16384x4x1, .f32⟩
  | .hbm, ⟨27, _⟩ => ⟨S16384x4x256, .f32⟩
  | .hbm, ⟨28, _⟩ => ⟨S16384x4x256, .f32⟩
  | .hbm, ⟨29, _⟩ => ⟨S4x256x1024, .f32⟩
  | .hbm, ⟨30, _⟩ => ⟨S16384x1024, .f32⟩
  | .hbm, ⟨31, _⟩ => ⟨S16384x1024, .f32⟩
  | .hbm, ⟨32, _⟩ => ⟨S4x1024x256, .f32⟩
  | .hbm, ⟨33, _⟩ => ⟨S16384x4x256, .f32⟩
  | .hbm, ⟨34, _⟩ => ⟨S4x1024x256, .f32⟩
  | .hbm, ⟨35, _⟩ => ⟨S16384x4x256, .f32⟩
  | .hbm, ⟨36, _⟩ => ⟨S16384x4x256, .f32⟩
  | .hbm, ⟨37, _⟩ => ⟨S16384x4x256, .f32⟩
  | .hbm, ⟨38, _⟩ => ⟨S_, .f32⟩
  | .hbm, ⟨39, _⟩ => ⟨S16384x4x256, .f32⟩
  | .hbm, ⟨40, _⟩ => ⟨S16384x4x256, .f32⟩
  | .hbm, ⟨41, _⟩ => ⟨S_, .f32⟩
  | .hbm, ⟨42, _⟩ => ⟨S16384x4x256, .f32⟩
  | .hbm, ⟨43, _⟩ => ⟨S16384x4x256, .f32⟩
  | .hbm, ⟨44, _⟩ => ⟨S16384x4x256, .f32⟩
  | .hbm, ⟨45, _⟩ => ⟨S16384x4x256, .f32⟩
  | .hbm, ⟨46, _⟩ => ⟨S16384x4, .f32⟩
  | .hbm, ⟨47, _⟩ => ⟨S16384x4x1, .f32⟩
  | .hbm, ⟨48, _⟩ => ⟨S16384x4x256, .f32⟩
  | .hbm, ⟨49, _⟩ => ⟨S16384x4x256, .f32⟩
  | .hbm, ⟨50, _⟩ => ⟨S4x256x1024, .f32⟩
  | .hbm, ⟨51, _⟩ => ⟨S16384x1024, .f32⟩
  | .hbm, ⟨52, _⟩ => ⟨S16384x1024, .f32⟩
  | .hbm, ⟨53, _⟩ => ⟨S4x1024x256, .f32⟩
  | .hbm, ⟨54, _⟩ => ⟨S16384x4x256, .f32⟩
  | .hbm, ⟨55, _⟩ => ⟨S4x1024x256, .f32⟩
  | .hbm, ⟨56, _⟩ => ⟨S16384x4x256, .f32⟩
  | .hbm, ⟨57, _⟩ => ⟨S16384x4x256, .f32⟩
  | .hbm, ⟨58, _⟩ => ⟨S16384x4x256, .f32⟩
  | .hbm, ⟨59, _⟩ => ⟨S_, .f32⟩
  | .hbm, ⟨60, _⟩ => ⟨S16384x4x256, .f32⟩
  | .hbm, ⟨61, _⟩ => ⟨S16384x4x256, .f32⟩
  | .hbm, ⟨62, _⟩ => ⟨S_, .f32⟩
  | .hbm, ⟨63, _⟩ => ⟨S16384x4x256, .f32⟩
  | .hbm, ⟨64, _⟩ => ⟨S16384x4x256, .f32⟩
  | .hbm, ⟨65, _⟩ => ⟨S16384x4x256, .f32⟩
  | .hbm, ⟨66, _⟩ => ⟨S16384x4x256, .f32⟩
  | .hbm, ⟨67, _⟩ => ⟨S16384x4, .f32⟩
  | .hbm, ⟨68, _⟩ => ⟨S16384x4x1, .f32⟩
  | .hbm, ⟨69, _⟩ => ⟨S16384x4x256, .f32⟩
  | .hbm, ⟨70, _⟩ => ⟨S16384x4x256, .f32⟩
  | .hbm, ⟨71, _⟩ => ⟨S4x256x1024, .f32⟩
  | .hbm, ⟨72, _⟩ => ⟨S16384x1024, .f32⟩
  | .hbm, ⟨73, _⟩ => ⟨S16384x1024, .f32⟩
  | .hbm, ⟨74, _⟩ => ⟨S4x1024x256, .f32⟩
  | .hbm, ⟨75, _⟩ => ⟨S16384x4x256, .f32⟩
  | .hbm, ⟨76, _⟩ => ⟨S4x1024x256, .f32⟩
  | .hbm, ⟨77, _⟩ => ⟨S16384x4x256, .f32⟩
  | .hbm, ⟨78, _⟩ => ⟨S16384x4x256, .f32⟩
  | .hbm, ⟨79, _⟩ => ⟨S16384x4x256, .f32⟩
  | .hbm, ⟨80, _⟩ => ⟨S_, .f32⟩
  | .hbm, ⟨81, _⟩ => ⟨S16384x4x256, .f32⟩
  | .hbm, ⟨82, _⟩ => ⟨S16384x4x256, .f32⟩
  | .hbm, ⟨83, _⟩ => ⟨S_, .f32⟩
  | .hbm, ⟨84, _⟩ => ⟨S16384x4x256, .f32⟩
  | .hbm, ⟨85, _⟩ => ⟨S16384x4x256, .f32⟩
  | .hbm, ⟨86, _⟩ => ⟨S16384x4x256, .f32⟩
  | .hbm, ⟨87, _⟩ => ⟨S16384x4x256, .f32⟩
  | .hbm, ⟨88, _⟩ => ⟨S16384x4, .f32⟩
  | .hbm, ⟨89, _⟩ => ⟨S16384x4x1, .f32⟩
  | .hbm, ⟨90, _⟩ => ⟨S16384x4x256, .f32⟩
  | .hbm, ⟨91, _⟩ => ⟨S16384x4x256, .f32⟩
  | .hbm, ⟨92, _⟩ => ⟨S4x256x1024, .f32⟩
  | .hbm, ⟨93, _⟩ => ⟨S16384x1024, .f32⟩
  | .hbm, ⟨94, _⟩ => ⟨S16384x1024, .f32⟩
  | .hbm, ⟨95, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Kernel.lean ====
abbrev S2x16x8192x64 : Shape := ⟨4, ![2, 16, 8192, 64]⟩
abbrev S2x16x8208x64 : Shape := ⟨4, ![2, 16, 8208, 64]⟩
abbrev S2x16x8208 : Shape := ⟨3, ![2, 16, 8208]⟩
abbrev S_ : Shape := ⟨0, ![]⟩
abbrev S2x16x8192x3 : Shape := ⟨4, ![2, 16, 8192, 3]⟩
abbrev S2x16x8192x61 : Shape := ⟨4, ![2, 16, 8192, 61]⟩
abbrev S2x16x8192x128 : Shape := ⟨4, ![2, 16, 8192, 128]⟩
abbrev S2x16x128x8192 : Shape := ⟨4, ![2, 16, 128, 8192]⟩
abbrev S2x2048x8192 : Shape := ⟨3, ![2, 2048, 8192]⟩
abbrev S2x16x8208x1 : Shape := ⟨4, ![2, 16, 8208, 1]⟩
abbrev S2x16x8208x3 : Shape := ⟨4, ![2, 16, 8208, 3]⟩
abbrev S2x16x8208x61 : Shape := ⟨4, ![2, 16, 8208, 61]⟩
abbrev S2x16x8208x128 : Shape := ⟨4, ![2, 16, 8208, 128]⟩
abbrev S2x8208x16x128 : Shape := ⟨4, ![2, 8208, 16, 128]⟩
abbrev S2x8208x2048 : Shape := ⟨3, ![2, 8208, 2048]⟩
abbrev S2x8704x2048 : Shape := ⟨3, ![2, 8704, 2048]⟩
abbrev S2x16x64x8208 : Shape := ⟨4, ![2, 16, 64, 8208]⟩
abbrev S2x16x16x8208 : Shape := ⟨4, ![2, 16, 16, 8208]⟩
abbrev S2x16x80x8208 : Shape := ⟨4, ![2, 16, 80, 8208]⟩
abbrev S2x16x80x8704 : Shape := ⟨4, ![2, 16, 80, 8704]⟩
abbrev S2x8192x1024 : Shape := ⟨3, ![2, 8192, 1024]⟩
abbrev S1x256x1024 : Shape := ⟨3, ![1, 256, 1024]⟩
abbrev S1x8704x256 : Shape := ⟨3, ![1, 8704, 256]⟩
abbrev S1x2x80x8704 : Shape := ⟨4, ![1, 2, 80, 8704]⟩
abbrev S1x1024x128 : Shape := ⟨3, ![1, 1024, 128]⟩
abbrev S2x512x1024 : Shape := ⟨3, ![2, 512, 1024]⟩
abbrev S2x1x1024 : Shape := ⟨3, ![2, 1, 1024]⟩
abbrev S2x80x1024 : Shape := ⟨3, ![2, 80, 1024]⟩
abbrev S1x16x128 : Shape := ⟨3, ![1, 16, 128]⟩
abbrev S16x128 : Shape := ⟨2, ![16, 128]⟩
abbrev S1x128x1024 : Shape := ⟨3, ![1, 128, 1024]⟩
abbrev S128x1024 : Shape := ⟨2, ![128, 1024]⟩
abbrev S16x1024 : Shape := ⟨2, ![16, 1024]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1024 : Shape := ⟨1, ![1024]⟩
abbrev S1x1024 : Shape := ⟨2, ![1, 1024]⟩
abbrev S1x1x1024 : Shape := ⟨3, ![1, 1, 1024]⟩
abbrev S1x1x256 : Shape := ⟨3, ![1, 1, 256]⟩
abbrev S1x256 : Shape := ⟨2, ![1, 256]⟩
abbrev S16x256 : Shape := ⟨2, ![16, 256]⟩
abbrev S1x1x80x16 : Shape := ⟨4, ![1, 1, 80, 16]⟩
abbrev S80x16 : Shape := ⟨2, ![80, 16]⟩
abbrev S80x256 : Shape := ⟨2, ![80, 256]⟩
abbrev S1x80x256 : Shape := ⟨3, ![1, 80, 256]⟩
abbrev S256x256 : Shape := ⟨2, ![256, 256]⟩
abbrev S1x1x80x256 : Shape := ⟨4, ![1, 1, 80, 256]⟩
abbrev S1x128x512 : Shape := ⟨3, ![1, 128, 512]⟩
abbrev S128x512 : Shape := ⟨2, ![128, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x64x1024 : Shape := ⟨3, ![1, 64, 1024]⟩
abbrev S64x1024 : Shape := ⟨2, ![64, 1024]⟩
abbrev S1024x128 : Shape := ⟨2, ![1024, 128]⟩

abbrev nBuf : Space → Nat
  | .hbm => 53
  | .vmem => 14
  | .smem => 0
  | _ => 0

abbrev bufTy : (tb : Table) → Fin (tcTables nBuf tb) → BufTy
  | .hbm, ⟨0, _⟩ => ⟨S2x16x8192x64, .f32⟩
  | .hbm, ⟨1, _⟩ => ⟨S2x16x8208x64, .f32⟩
  | .hbm, ⟨2, _⟩ => ⟨S2x16x8208x64, .f32⟩
  | .hbm, ⟨3, _⟩ => ⟨S2x16x8208, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16x8192x64, .f32⟩
  | .hbm, ⟨11, _⟩ => ⟨S2x16x8192x64, .f32⟩
  | .hbm, ⟨12, _⟩ => ⟨S2x16x8192x64, .bf16⟩
  | .hbm, ⟨13, _⟩ => ⟨S_, .bf16⟩
  | .hbm, ⟨14, _⟩ => ⟨S2x16x8192x3, .bf16⟩
  | .hbm, ⟨15, _⟩ => ⟨S_, .bf16⟩
  | .hbm, ⟨16, _⟩ => ⟨S2x16x8192x61, .bf16⟩
  | .hbm, ⟨17, _⟩ => ⟨S2x16x8192x128, .bf16⟩
  | .hbm, ⟨18, _⟩ => ⟨S2x16x128x8192, .bf16⟩
  | .hbm, ⟨19, _⟩ => ⟨S2x2048x8192, .bf16⟩
  | .hbm, ⟨20, _⟩ => ⟨S_, .f32⟩
  | .hbm, ⟨21, _⟩ => ⟨S2x16x8208, .f32⟩
  | .hbm, ⟨22, _⟩ => ⟨S2x16x8208, .f32⟩
  | .hbm, ⟨23, _⟩ => ⟨S2x16x8208, .bf16⟩
  | .hbm, ⟨24, _⟩ => ⟨S2x16x8208, .f32⟩
  | .hbm, ⟨25, _⟩ => ⟨S2x16x8208, .f32⟩
  | .hbm, ⟨26, _⟩ => ⟨S2x16x8208, .bf16⟩
  | .hbm, ⟨27, _⟩ => ⟨S2x16x8208, .f32⟩
  | .hbm, ⟨28, _⟩ => ⟨S2x16x8208, .f32⟩
  | .hbm, ⟨29, _⟩ => ⟨S2x16x8208, .f32⟩
  | .hbm, ⟨30, _⟩ => ⟨S2x16x8208x1, .f32⟩
  | .hbm, ⟨31, _⟩ => ⟨S2x16x8208x1, .f32⟩
  | .hbm, ⟨32, _⟩ => ⟨S2x16x8208x1, .f32⟩
  | .hbm, ⟨33, _⟩ => ⟨S2x16x8208x3, .f32⟩
  | .hbm, ⟨34, _⟩ => ⟨S2x16x8208x3, .bf16⟩
  | .hbm, ⟨35, _⟩ => ⟨S2x16x8208x64, .bf16⟩
  | .hbm, ⟨36, _⟩ => ⟨S_, .bf16⟩
  | .hbm, ⟨37, _⟩ => ⟨S2x16x8208x61, .bf16⟩
  | .hbm, ⟨38, _⟩ => ⟨S2x16x8208x128, .bf16⟩
  | .hbm, ⟨39, _⟩ => ⟨S2x8208x16x128, .bf16⟩
  | .hbm, ⟨40, _⟩ => ⟨S2x8208x2048, .bf16⟩
  | .hbm, ⟨41, _⟩ => ⟨S_, .i32⟩
  | .hbm, ⟨42, _⟩ => ⟨S_, .bf16⟩
  | .hbm, ⟨43, _⟩ => ⟨S2x8704x2048, .bf16⟩
  | .hbm, ⟨44, _⟩ => ⟨S2x16x8208x64, .bf16⟩
  | .hbm, ⟨45, _⟩ => ⟨S2x16x64x8208, .bf16⟩
  | .hbm, ⟨46, _⟩ => ⟨S_, .bf16⟩
  | .hbm, ⟨47, _⟩ => ⟨S2x16x16x8208, .bf16⟩
  | .hbm, ⟨48, _⟩ => ⟨S2x16x80x8208, .bf16⟩
  | .hbm, ⟨49, _⟩ => ⟨S_, .i32⟩
  | .hbm, ⟨50, _⟩ => ⟨S_, .bf16⟩
  | .hbm, ⟨51, _⟩ => ⟨S2x16x80x8704, .bf16⟩
  | .hbm, ⟨52, _⟩ => ⟨S2x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8704x256, .bf16⟩
  | .local _ .vmem, ⟨3, _⟩ => ⟨S1x8704x256, .bf16⟩
  | .local _ .vmem, ⟨4, _⟩ => ⟨S1x2x80x8704, .bf16⟩
  | .local _ .vmem, ⟨5, _⟩ => ⟨S1x2x80x8704, .bf16⟩
  | .local _ .vmem, ⟨6, _⟩ => ⟨S1x1024x128, .bf16⟩
  | .local _ .vmem, ⟨7, _⟩ => ⟨S1x1024x128, .bf16⟩
  | .local _ .vmem, ⟨8, _⟩ => ⟨S2x512x1024, .f32⟩
  | .local _ .vmem, ⟨9, _⟩ => ⟨S2x512x1024, .f32⟩
  | .local _ .vmem, ⟨10, _⟩ => ⟨S2x1x1024, .f32⟩
  | .local _ .vmem, ⟨11, _⟩ => ⟨S2x1x1024, .f32⟩
  | .local _ .vmem, ⟨12, _⟩ => ⟨S2x1x1024, .f32⟩
  | .local _ .vmem, ⟨13, _⟩ => ⟨S2x80x1024, .f32⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 : BitVec 32 :=
  let c512_i32 : BitVec 32 := 512#32
  c512_i32
def k0_mult2 : BitVec 32 :=
  let c512_i32_31 : BitVec 32 := 512#32
  c512_i32_31
@[reducible] def k0_t1_loop (i : grid0.Coords) : Scf.Loop 32 :=
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_180 : BitVec 32 := 1#32
  ⟨c0_i32_179, v256, c1_i32_180⟩
def k0_mult3 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  v769
def k0_mult4 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c1_i32_501 : BitVec 32 := 1#32
  let v768 : BitVec 32 := Scalar.addi v767 c1_i32_501
  let c512_i32_503 : BitVec 32 := 512#32
  let v771 : BitVec 32 := Scalar.muli v768 c512_i32_503
  v771
def k0_off1 (i : grid0.Coords) (k0_t1 : Fin (k0_t1_loop i).trips) (c1_i32_501 : BitVec 32) : Fin 3 → Nat :=
  let c0_504 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let v768 : BitVec 32 := Scalar.addi v767 c1_i32_501
  let c512_i32_503 : BitVec 32 := 512#32
  let v771 : BitVec 32 := Scalar.muli v768 c512_i32_503
  let v772 : BitVec 32 := v771
  let v773 : Index := Scalar.indexCast v772
  let c0_505 : Index := 0#32
  ![0, v773.toNat, 0]
def k0_off2 (i : grid0.Coords) (k0_t1 : Fin (k0_t1_loop i).trips) (c0_i32_526 : BitVec 32) : Fin 4 → Nat :=
  let c0_527 : Index := 0#32
  let c0_528 : Index := 0#32
  let c0_529 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  let v770 : BitVec 32 := v769
  let v802 : BitVec 32 := Scalar.addi v770 c0_i32_526
  let v803 : Index := Scalar.indexCast v802
  ![0, 0, 0, v803.toNat]
def k0_mult5 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c1_i32_501 : BitVec 32 := 1#32
  let v768 : BitVec 32 := Scalar.addi v767 c1_i32_501
  let c512_i32_611 : BitVec 32 := 512#32
  let v943 : BitVec 32 := Scalar.muli v768 c512_i32_611
  v943
def k0_off3 (i : grid0.Coords) (k0_t1 : Fin (k0_t1_loop i).trips) (c1_i32_501 : BitVec 32) : Fin 3 → Nat :=
  let c0_612 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let v768 : BitVec 32 := Scalar.addi v767 c1_i32_501
  let c512_i32_611 : BitVec 32 := 512#32
  let v943 : BitVec 32 := Scalar.muli v768 c512_i32_611
  let v944 : BitVec 32 := v943
  let v945 : Index := Scalar.indexCast v944
  let c128_613 : Index := 128#32
  ![0, v945.toNat, 128]
def k0_off4 (i : grid0.Coords) (k0_t1 : Fin (k0_t1_loop i).trips) (c0_i32_634 : BitVec 32) : Fin 4 → Nat :=
  let c0_635 : Index := 0#32
  let c1_636 : Index := 1#32
  let c0_637 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  let v770 : BitVec 32 := v769
  let v974 : BitVec 32 := Scalar.addi v770 c0_i32_634
  let v975 : Index := Scalar.indexCast v974
  ![0, 1, 0, v975.toNat]
def k0_mult6 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  v1117
def k0_mult7 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c2_i32_719 : BitVec 32 := 2#32
  let v1115 : BitVec 32 := Scalar.addi v767 c2_i32_719
  let c512_i32_722 : BitVec 32 := 512#32
  let v1119 : BitVec 32 := Scalar.muli v1115 c512_i32_722
  v1119
def k0_off5 (i : grid0.Coords) (k0_t1 : Fin (k0_t1_loop i).trips) (c0_i32_745 : BitVec 32) : Fin 4 → Nat :=
  let c0_746 : Index := 0#32
  let c0_747 : Index := 0#32
  let c0_748 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  let v1118 : BitVec 32 := v1117
  let v1150 : BitVec 32 := Scalar.addi v1118 c0_i32_745
  let v1151 : Index := Scalar.indexCast v1150
  ![0, 0, 0, v1151.toNat]
def k0_mult8 (i : grid0.Coords) (k0_t1 : Fin (k0_t1_loop i).trips) : BitVec 32 :=
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c2_i32_719 : BitVec 32 := 2#32
  let v1115 : BitVec 32 := Scalar.addi v767 c2_i32_719
  let c512_i32_830 : BitVec 32 := 512#32
  let v1291 : BitVec 32 := Scalar.muli v1115 c512_i32_830
  v1291
def k0_off6 (i : grid0.Coords) (k0_t1 : Fin (k0_t1_loop i).trips) (c0_i32_853 : BitVec 32) : Fin 4 → Nat :=
  let c0_854 : Index := 0#32
  let c1_855 : Index := 1#32
  let c0_856 : Index := 0#32
  let c2_i32_499 : BitVec 32 := 2#32
  let c0_i32_179 : BitVec 32 := 0#32
  let c1_i32_180 : BitVec 32 := 1#32
  let arg13 : BitVec 32 := Scf.iv c0_i32_179 c1_i32_180 k0_t1
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  let v1118 : BitVec 32 := v1117
  let v1322 : BitVec 32 := Scalar.addi v1118 c0_i32_853
  let v1323 : Index := Scalar.indexCast v1322
  ![0, 1, 0, v1323.toNat]
@[reducible] def k0_t2_loop (i : grid0.Coords) : Scf.Loop 32 :=
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let v253 : BitVec 32 := Scalar.addi c0_i32_179 v252
  let c1_i32_181 : BitVec 32 := 1#32
  ⟨v256, v253, c1_i32_181⟩
def k0_mult9 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  v769
def k0_mult10 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c1_i32_501 : BitVec 32 := 1#32
  let v768 : BitVec 32 := Scalar.addi v767 c1_i32_501
  let c512_i32_503 : BitVec 32 := 512#32
  let v771 : BitVec 32 := Scalar.muli v768 c512_i32_503
  v771
def k0_off7 (i : grid0.Coords) (k0_t2 : Fin (k0_t2_loop i).trips) (c1_i32_501 : BitVec 32) : Fin 3 → Nat :=
  let c0_504 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let v768 : BitVec 32 := Scalar.addi v767 c1_i32_501
  let c512_i32_503 : BitVec 32 := 512#32
  let v771 : BitVec 32 := Scalar.muli v768 c512_i32_503
  let v772 : BitVec 32 := v771
  let v773 : Index := Scalar.indexCast v772
  let c0_505 : Index := 0#32
  ![0, v773.toNat, 0]
def k0_off8 (i : grid0.Coords) (k0_t2 : Fin (k0_t2_loop i).trips) (c0_i32_526 : BitVec 32) : Fin 4 → Nat :=
  let c0_527 : Index := 0#32
  let c0_528 : Index := 0#32
  let c0_529 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  let v770 : BitVec 32 := v769
  let v802 : BitVec 32 := Scalar.addi v770 c0_i32_526
  let v803 : Index := Scalar.indexCast v802
  ![0, 0, 0, v803.toNat]
def k0_mult11 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c1_i32_501 : BitVec 32 := 1#32
  let v768 : BitVec 32 := Scalar.addi v767 c1_i32_501
  let c512_i32_611 : BitVec 32 := 512#32
  let v943 : BitVec 32 := Scalar.muli v768 c512_i32_611
  v943
def k0_off9 (i : grid0.Coords) (k0_t2 : Fin (k0_t2_loop i).trips) (c1_i32_501 : BitVec 32) : Fin 3 → Nat :=
  let c0_612 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let v768 : BitVec 32 := Scalar.addi v767 c1_i32_501
  let c512_i32_611 : BitVec 32 := 512#32
  let v943 : BitVec 32 := Scalar.muli v768 c512_i32_611
  let v944 : BitVec 32 := v943
  let v945 : Index := Scalar.indexCast v944
  let c128_613 : Index := 128#32
  ![0, v945.toNat, 128]
def k0_off10 (i : grid0.Coords) (k0_t2 : Fin (k0_t2_loop i).trips) (c0_i32_634 : BitVec 32) : Fin 4 → Nat :=
  let c0_635 : Index := 0#32
  let c1_636 : Index := 1#32
  let c0_637 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c512_i32_502 : BitVec 32 := 512#32
  let v769 : BitVec 32 := Scalar.muli v767 c512_i32_502
  let v770 : BitVec 32 := v769
  let v974 : BitVec 32 := Scalar.addi v770 c0_i32_634
  let v975 : Index := Scalar.indexCast v974
  ![0, 1, 0, v975.toNat]
def k0_mult12 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  v1117
def k0_mult13 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c2_i32_719 : BitVec 32 := 2#32
  let v1115 : BitVec 32 := Scalar.addi v767 c2_i32_719
  let c512_i32_722 : BitVec 32 := 512#32
  let v1119 : BitVec 32 := Scalar.muli v1115 c512_i32_722
  v1119
def k0_off11 (i : grid0.Coords) (k0_t2 : Fin (k0_t2_loop i).trips) (c0_i32_745 : BitVec 32) : Fin 4 → Nat :=
  let c0_746 : Index := 0#32
  let c0_747 : Index := 0#32
  let c0_748 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  let v1118 : BitVec 32 := v1117
  let v1150 : BitVec 32 := Scalar.addi v1118 c0_i32_745
  let v1151 : Index := Scalar.indexCast v1150
  ![0, 0, 0, v1151.toNat]
def k0_mult14 (i : grid0.Coords) (k0_t2 : Fin (k0_t2_loop i).trips) : BitVec 32 :=
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c2_i32_719 : BitVec 32 := 2#32
  let v1115 : BitVec 32 := Scalar.addi v767 c2_i32_719
  let c512_i32_830 : BitVec 32 := 512#32
  let v1291 : BitVec 32 := Scalar.muli v1115 c512_i32_830
  v1291
def k0_off12 (i : grid0.Coords) (k0_t2 : Fin (k0_t2_loop i).trips) (c0_i32_853 : BitVec 32) : Fin 4 → Nat :=
  let c0_854 : Index := 0#32
  let c1_855 : Index := 1#32
  let c0_856 : Index := 0#32
  let c2_i32_499 : BitVec 32 := 2#32
  let c0_i32_179 : BitVec 32 := 0#32
  let arg2 : BitVec 32 := BitVec.ofNat 32 (i 2).val
  let v252 : BitVec 32 := Scalar.subi arg2 c0_i32_179
  let c1_i32 : BitVec 32 := 1#32
  let v254 : BitVec 32 := Scalar.divsi v252 c1_i32
  let v255 : BitVec 32 := Scalar.muli v254 c1_i32
  let v256 : BitVec 32 := Scalar.addi c0_i32_179 v255
  let c1_i32_181 : BitVec 32 := 1#32
  let arg13 : BitVec 32 := Scf.iv v256 c1_i32_181 k0_t2
  let v766 : BitVec 32 := Scalar.muli c2_i32_499 arg13
  let c1_i32_500 : BitVec 32 := 1#32
  let v767 : BitVec 32 := Scalar.addi v766 c1_i32_500
  let c1_i32_720 : BitVec 32 := 1#32
  let v1116 : BitVec 32 := Scalar.addi v767 c1_i32_720
  let c512_i32_721 : BitVec 32 := 512#32
  let v1117 : BitVec 32 := Scalar.muli v1116 c512_i32_721
  let v1118 : BitVec 32 := v1117
  let v1322 : BitVec 32 := Scalar.addi v1118 c0_i32_853
  let v1323 : Index := Scalar.indexCast v1322
  ![0, 1, 0, v1323.toNat]
def k0_mult15 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c512_i32_183 : BitVec 32 := 512#32
  let v259 : BitVec 32 := Scalar.muli v258 c512_i32_183
  v259
def k0_mult16 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_184 : BitVec 32 := 1#32
  let v261 : BitVec 32 := Scalar.addi v258 c1_i32_184
  let c512_i32_185 : BitVec 32 := 512#32
  let v262 : BitVec 32 := Scalar.muli v261 c512_i32_185
  v262
def k0_off13 (i : grid0.Coords) : Fin 3 → Nat :=
  let c0_186 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_184 : BitVec 32 := 1#32
  let v261 : BitVec 32 := Scalar.addi v258 c1_i32_184
  let c512_i32_185 : BitVec 32 := 512#32
  let v262 : BitVec 32 := Scalar.muli v261 c512_i32_185
  let v263 : BitVec 32 := v262
  let v264 : Index := Scalar.indexCast v263
  let c0_187 : Index := 0#32
  ![0, v264.toNat, 0]
def k0_mult17 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c512_i32_195 : BitVec 32 := 512#32
  let v273 : BitVec 32 := Scalar.muli v258 c512_i32_195
  v273
def k0_off14 (i : grid0.Coords) (c0_i32_204 : BitVec 32) : Fin 4 → Nat :=
  let c0_205 : Index := 0#32
  let c0_206 : Index := 0#32
  let c0_207 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c512_i32_195 : BitVec 32 := 512#32
  let v273 : BitVec 32 := Scalar.muli v258 c512_i32_195
  let v274 : BitVec 32 := v273
  let v295 : BitVec 32 := Scalar.addi v274 c0_i32_204
  let v296 : Index := Scalar.indexCast v295
  ![0, 0, 0, v296.toNat]
def k0_off15 (i : grid0.Coords) : Fin 3 → Nat :=
  let c0_289 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_184 : BitVec 32 := 1#32
  let v261 : BitVec 32 := Scalar.addi v258 c1_i32_184
  let c512_i32_185 : BitVec 32 := 512#32
  let v262 : BitVec 32 := Scalar.muli v261 c512_i32_185
  let v263 : BitVec 32 := v262
  let v429 : Index := Scalar.indexCast v263
  let c128_290 : Index := 128#32
  ![0, v429.toNat, 128]
def k0_mult18 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c512_i32_298 : BitVec 32 := 512#32
  let v438 : BitVec 32 := Scalar.muli v258 c512_i32_298
  v438
def k0_off16 (i : grid0.Coords) (c0_i32_307 : BitVec 32) : Fin 4 → Nat :=
  let c0_308 : Index := 0#32
  let c1_309 : Index := 1#32
  let c0_310 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c512_i32_298 : BitVec 32 := 512#32
  let v438 : BitVec 32 := Scalar.muli v258 c512_i32_298
  let v439 : BitVec 32 := v438
  let v460 : BitVec 32 := Scalar.addi v439 c0_i32_307
  let v461 : Index := Scalar.indexCast v460
  ![0, 1, 0, v461.toNat]
def k0_mult19 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_393 : BitVec 32 := 1#32
  let v594 : BitVec 32 := Scalar.addi v258 c1_i32_393
  let c512_i32_394 : BitVec 32 := 512#32
  let v595 : BitVec 32 := Scalar.muli v594 c512_i32_394
  v595
def k0_off17 (i : grid0.Coords) (c0_i32_403 : BitVec 32) : Fin 4 → Nat :=
  let c0_404 : Index := 0#32
  let c0_405 : Index := 0#32
  let c0_406 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_393 : BitVec 32 := 1#32
  let v594 : BitVec 32 := Scalar.addi v258 c1_i32_393
  let c512_i32_394 : BitVec 32 := 512#32
  let v595 : BitVec 32 := Scalar.muli v594 c512_i32_394
  let v596 : BitVec 32 := v595
  let v617 : BitVec 32 := Scalar.addi v596 c0_i32_403
  let v618 : Index := Scalar.indexCast v617
  ![0, 0, 0, v618.toNat]
def k0_mult20 (i : grid0.Coords) : BitVec 32 :=
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_439 : BitVec 32 := 1#32
  let v671 : BitVec 32 := Scalar.addi v258 c1_i32_439
  let c512_i32_440 : BitVec 32 := 512#32
  let v672 : BitVec 32 := Scalar.muli v671 c512_i32_440
  v672
def k0_off18 (i : grid0.Coords) (c0_i32_449 : BitVec 32) : Fin 4 → Nat :=
  let c0_450 : Index := 0#32
  let c1_451 : Index := 1#32
  let c0_452 : Index := 0#32
  let c2_i32 : BitVec 32 := 2#32
  let arg2 : BitVec 32 := BitVec.ofNat 32 (i 2).val
  let v257 : BitVec 32 := Scalar.muli c2_i32 arg2
  let c1_i32_182 : BitVec 32 := 1#32
  let v258 : BitVec 32 := Scalar.addi v257 c1_i32_182
  let c1_i32_439 : BitVec 32 := 1#32
  let v671 : BitVec 32 := Scalar.addi v258 c1_i32_439
  let c512_i32_440 : BitVec 32 := 512#32
  let v672 : BitVec 32 := Scalar.muli v671 c512_i32_440
  let v673 : BitVec 32 := v672
  let v694 : BitVec 32 := Scalar.addi v673 c0_i32_449
  let v695 : Index := Scalar.indexCast v694
  ![0, 1, 0, v695.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x80x8704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x8192x64 : Shape := ⟨4, ![2, 16, 8192, 64]⟩
abbrev S2x16x8208x64 : Shape := ⟨4, ![2, 16, 8208, 64]⟩
abbrev S2x16x8208 : Shape := ⟨3, ![2, 16, 8208]⟩
abbrev S_ : Shape := ⟨0, ![]⟩
abbrev S8192 : Shape := ⟨1, ![8192]⟩
abbrev S8208 : Shape := ⟨1, ![8208]⟩
abbrev S2x16x8192x8208 : Shape := ⟨4, ![2, 16, 8192, 8208]⟩
abbrev S2x16x8192 : Shape := ⟨3, ![2, 16, 8192]⟩
abbrev S2x16x8192x1 : Shape := ⟨4, ![2, 16, 8192, 1]⟩
abbrev S2x16x1x8208 : Shape := ⟨4, ![2, 16, 1, 8208]⟩
abbrev S1x8208 : Shape := ⟨2, ![1, 8208]⟩
abbrev S8192x1 : Shape := ⟨2, ![8192, 1]⟩
abbrev S8192x8208 : Shape := ⟨2, ![8192, 8208]⟩
abbrev S2x8192x16x64 : Shape := ⟨4, ![2, 8192, 16, 64]⟩
abbrev S2x8192x1024 : Shape := ⟨3, ![2, 8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x16x8192x64, .f32⟩
  | .hbm, ⟨1, _⟩ => ⟨S2x16x8208x64, .f32⟩
  | .hbm, ⟨2, _⟩ => ⟨S2x16x8208x64, .f32⟩
  | .hbm, ⟨3, _⟩ => ⟨S2x16x8208, .f32⟩
  | .hbm, ⟨4, _⟩ => ⟨S_, .f32⟩
  | .hbm, ⟨5, _⟩ => ⟨S2x16x8192x64, .f32⟩
  | .hbm, ⟨6, _⟩ => ⟨S2x16x8192x64, .f32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8208, .i32⟩
  | .hbm, ⟨12, _⟩ => ⟨S2x16x8192x8208, .f32⟩
  | .hbm, ⟨13, _⟩ => ⟨S2x16x8192, .f32⟩
  | .hbm, ⟨14, _⟩ => ⟨S2x16x8192x1, .f32⟩
  | .hbm, ⟨15, _⟩ => ⟨S2x16x8192x8208, .f32⟩
  | .hbm, ⟨16, _⟩ => ⟨S2x16x8192x8208, .f32⟩
  | .hbm, ⟨17, _⟩ => ⟨S2x16x1x8208, .f32⟩
  | .hbm, ⟨18, _⟩ => ⟨S2x16x8192x8208, .f32⟩
  | .hbm, ⟨19, _⟩ => ⟨S2x16x8192x8208, .f32⟩
  | .hbm, ⟨20, _⟩ => ⟨S1x8208, .i32⟩
  | .hbm, ⟨21, _⟩ => ⟨S8192x1, .i32⟩
  | .hbm, ⟨22, _⟩ => ⟨S8192x8208, .i32⟩
  | .hbm, ⟨23, _⟩ => ⟨S8192x8208, .i32⟩
  | .hbm, ⟨24, _⟩ => ⟨S8192x8208, .i1⟩
  | .hbm, ⟨25, _⟩ => ⟨S_, .f32⟩
  | .hbm, ⟨26, _⟩ => ⟨S_, .f32⟩
  | .hbm, ⟨27, _⟩ => ⟨S2x16x8192x8208, .i1⟩
  | .hbm, ⟨28, _⟩ => ⟨S2x16x8192x8208, .f32⟩
  | .hbm, ⟨29, _⟩ => ⟨S2x16x8192x8208, .f32⟩
  | .hbm, ⟨30, _⟩ => ⟨S_, .f32⟩
  | .hbm, ⟨31, _⟩ => ⟨S2x16x8192, .f32⟩
  | .hbm, ⟨32, _⟩ => ⟨S_, .f32⟩
  | .hbm, ⟨33, _⟩ => ⟨S2x16x8192, .f32⟩
  | .hbm, ⟨34, _⟩ => ⟨S2x16x8192, .f32⟩
  | .hbm, ⟨35, _⟩ => ⟨S2x16x8192x1, .f32⟩
  | .hbm, ⟨36, _⟩ => ⟨S2x16x8192x8208, .f32⟩
  | .hbm, ⟨37, _⟩ => ⟨S2x16x8192x8208, .f32⟩
  | .hbm, ⟨38, _⟩ => ⟨S2x16x8192x8208, .f32⟩
  | .hbm, ⟨39, _⟩ => ⟨S_, .f32⟩
  | .hbm, ⟨40, _⟩ => ⟨S2x16x8192, .f32⟩
  | .hbm, ⟨41, _⟩ => ⟨S2x16x8192x1, .f32⟩
  | .hbm, ⟨42, _⟩ => ⟨S2x16x8192x8208, .f32⟩
  | .hbm, ⟨43, _⟩ => ⟨S2x16x8192x8208, .f32⟩
  | .hbm, ⟨44, _⟩ => ⟨S2x16x8192x64, .f32⟩
  | .hbm, ⟨45, _⟩ => ⟨S2x8192x16x64, .f32⟩
  | .hbm, ⟨46, _⟩ => ⟨S2x8192x1024, .f32⟩
  | .hbm, ⟨47, _⟩ => ⟨S2x8192x1024, .bf16⟩
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.KI.Trip.lean ====
/-
One trip of the attention kernel's key loop, run once at a symbolic trip number.

A trip computes the scores of the next two key blocks into the two score buffers in turn and folds the two blocks
before them into the running maximum, and into the weighted sums of the values. The lists of stores the trip makes
into each buffer are left to the run to find.
-/
module

public import proofs.«01_k».proof.Proof.Gen.KernelIdeal.Frame
public import proofs.«01_k».proof.Proof.Gen.KernelIdeal.Loops

@[expose] public section

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)
  (arg2 : BitVec 32) (v17 : FVec F S16x1024 .f32) (v151 : FVec F S1x1024 .f32) (v226 : FVec F S1x1x256 .f32)
  (f3 : Buf (Elt F) (arg3.view.loc (c : Thread nD τ)))
  (f4 : Buf (Elt F) (arg4.view.loc (c : Thread nD τ)))
  (f5 : Buf (Elt F) (arg5.view.loc (c : Thread nD τ)))
  (f7 : Buf (Elt F) (arg7.view.loc (c : Thread nD τ)))
  (f9 : Buf (Elt F) (arg9.view.loc (c : Thread nD τ)))
  (f11 : Buf (Elt F) (arg11.view.loc (c : Thread nD τ)))
  (f12 : Buf (Elt F) (arg12.view.loc (c : Thread nD τ)))

/-- What a trip works on: the three inputs; the scores `arg7` of the block to be folded next with their column
    maxima `arg9`; the other pair of score buffers at anything; the running maximum and the weighted sums. -/
def held : sProp 𝕄 :=
  iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg7.view.loc (c : Thread nD τ) ↦[arg7.view.set]{fullShare} f7)
    ∗ (∃ f8, arg8.view.loc (c : Thread nD τ) ↦[arg8.view.set]{fullShare} f8)
    ∗ (arg9.view.loc (c : Thread nD τ) ↦[arg9.view.set]{fullShare} f9)
    ∗ (∃ f10, arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12))

/-- The loop's region at trip `k`. -/
abbrev tripBody (k : Fin (k0_t1_loop i).trips) : Prog (TpuEff nD τ sig (Elt F) Λ₀ .tc) Unit :=
  k0_t1_body i arg3 harg3 arg4 harg4 arg5 harg5 arg6 harg6 arg7 harg7 arg8 harg8 arg9 harg9 arg10 harg10 arg11 harg11
    arg12 harg12 arg2 v17 v151 v226 k ()

set_option maxHeartbeats 4000000 in
set_option backward.proofsInPublic true in
/-- One trip: the stores it makes into the four buffers the next trip reads. -/
@[irreducible] def trip (k : Fin (k0_t1_loop i).trips) :
    Σ' (L7 : List (View.Piece (Elt F) S2x512x1024 .f32)) (L9 : List (View.Piece (Elt F) S2x1x1024 .f32))
      (L11 : List (View.Piece (Elt F) S2x1x1024 .f32)), { L12 : List (View.Piece (Elt F) S2x80x1024 .f32) //
      held c arg3 arg4 arg5 arg7 arg8 arg9 arg10 arg11 arg12 f3 f4 f5 f7 f9 f11 f12
      ⊢ wp frame (wpE (defs₀ (F := F)) Variants.none (c : Thread nD τ) none) Set.univ
          (tripBody i arg3 harg3 arg4 harg4 arg5 harg5 arg6 harg6 arg7 harg7 arg8 harg8 arg9 harg9 arg10 harg10
            arg11 harg11 arg12 harg12 arg2 v17 v151 v226 k)
          (fun _ => held c arg3 arg4 arg5 arg7 arg8 arg9 arg10 arg11 arg12 f3 f4 f5
            (arg7.view.writes (Elt F) f7 L7) (arg9.view.writes (Elt F) f9 L9)
            (arg11.view.writes (Elt F) f11 L11) (arg12.view.writes (Elt F) f12 L12)) } := by
  refine ⟨?_, ?_, ?_, ?_, ?run⟩
  case run =>
    unfold held tripBody k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    iintro ⟨H3, H4, H5, H7, ⟨%f8, H8⟩, H9, ⟨%f10, H10⟩, H11, H12⟩
    sl_exec
    sl_step
    isplitl [H3]; · iexact H3
    isplitl [H4]; · iexact H4
    isplitl [H5]; · iexact H5
    isplitl [H7]; · iexact H7
    isplitl [H8]; · iexists _; iexact H8
    isplitl [H9]; · iexact H9
    isplitl [H10]; · iexists _; iexact H10
    isplitl [H11]; · iexact H11
    iexact H12

end Cert.Proof.KI

end
-- ==== Proof.KI.Loop.lean ====
/-
The loop over the key blocks, and one run of the whole kernel body at a grid point.

The loop's state before trip `k` is what `k` trips make of the contents the loop is entered with (`state`); the
remainder loop never runs. The body's run leaves its single store into the output block to be found.
-/
module

public import proofs.«01_k».proof.Proof.KI.Trip

@[expose] public section

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)
  (arg2 : BitVec 32) (v17 : FVec F S16x1024 .f32) (v151 : FVec F S1x1024 .f32) (v226 : FVec F S1x1x256 .f32)
  (f3 : Buf (Elt F) (arg3.view.loc (c : Thread nD τ)))
  (f4 : Buf (Elt F) (arg4.view.loc (c : Thread nD τ)))
  (f5 : Buf (Elt F) (arg5.view.loc (c : Thread nD τ)))
  (f7 : Buf (Elt F) (arg7.view.loc (c : Thread nD τ)))
  (f9 : Buf (Elt F) (arg9.view.loc (c : Thread nD τ)))
  (f11 : Buf (Elt F) (arg11.view.loc (c : Thread nD τ)))
  (f12 : Buf (Elt F) (arg12.view.loc (c : Thread nD τ)))

/-- The four buffers a trip hands to the next. -/
structure Bufs where
  s : Buf (Elt F) (arg7.view.loc (c : Thread nD τ))
  x : Buf (Elt F) (arg9.view.loc (c : Thread nD τ))
  m : Buf (Elt F) (arg11.view.loc (c : Thread nD τ))
  a : Buf (Elt F) (arg12.view.loc (c : Thread nD τ))

/-- What one trip makes of the four buffers. -/
def after (k : Fin (k0_t1_loop i).trips) (b : Bufs (F := F) c arg7 arg9 arg11 arg12) : Bufs (F := F) c arg7 arg9 arg11 arg12 where
  s := arg7.view.writes (Elt F) b.s (trip c i arg3 harg3 arg4 harg4 arg5 harg5 arg6 harg6 arg7 harg7 arg8 harg8 arg9 harg9 arg10 harg10 arg11 harg11 arg12 harg12 arg2 v17 v151 v226 f3 f4 f5 b.s b.x b.m b.a k).1
  x := arg9.view.writes (Elt F) b.x (trip c i arg3 harg3 arg4 harg4 arg5 harg5 arg6 harg6 arg7 harg7 arg8 harg8 arg9 harg9 arg10 harg10 arg11 harg11 arg12 harg12 arg2 v17 v151 v226 f3 f4 f5 b.s b.x b.m b.a k).2.1
  m := arg11.view.writes (Elt F) b.m (trip c i arg3 harg3 arg4 harg4 arg5 harg5 arg6 harg6 arg7 harg7 arg8 harg8 arg9 harg9 arg10 harg10 arg11 harg11 arg12 harg12 arg2 v17 v151 v226 f3 f4 f5 b.s b.x b.m b.a k).2.2.1
  a := arg12.view.writes (Elt F) b.a (trip c i arg3 harg3 arg4 harg4 arg5 harg5 arg6 harg6 arg7 harg7 arg8 harg8 arg9 harg9 arg10 harg10 arg11 harg11 arg12 harg12 arg2 v17 v151 v226 f3 f4 f5 b.s b.x b.m b.a k).2.2.2.1

/-- The four buffers before trip `k`, from those at the loop's entry. -/
def state (b : Bufs (F := F) c arg7 arg9 arg11 arg12) : ℕ → Bufs (F := F) c arg7 arg9 arg11 arg12
  | 0 => b
  | k + 1 =>
    if h : k < (k0_t1_loop i).trips then after c i arg3 harg3 arg4 harg4 arg5 harg5 arg6 harg6 arg7 harg7 arg8 harg8 arg9 harg9 arg10 harg10 arg11 harg11 arg12 harg12 arg2 v17 v151 v226 f3 f4 f5 ⟨k, h⟩ (state b k)
    else state b k

theorem state_succ (b : Bufs (F := F) c arg7 arg9 arg11 arg12) (k : Fin (k0_t1_loop i).trips) :
    state c i arg3 harg3 arg4 harg4 arg5 harg5 arg6 harg6 arg7 harg7 arg8 harg8 arg9 harg9 arg10 harg10 arg11 harg11 arg12 harg12 arg2 v17 v151 v226 f3 f4 f5 b (k.val + 1)
      = after c i arg3 harg3 arg4 harg4 arg5 harg5 arg6 harg6 arg7 harg7 arg8 harg8 arg9 harg9 arg10 harg10 arg11 harg11 arg12 harg12 arg2 v17 v151 v226 f3 f4 f5 k (state c i arg3 harg3 arg4 harg4 arg5 harg5 arg6 harg6 arg7 harg7 arg8 harg8 arg9 harg9 arg10 harg10 arg11 harg11 arg12 harg12 arg2 v17 v151 v226 f3 f4 f5 b k.val) := by
  rw [state, dif_pos k.isLt]

/-! The four buffers one by one, plainly the entry contents before trip 0 (as the run matches them). -/

@[reducible] def sAt : ℕ → Buf (Elt F) (arg7.view.loc (c : Thread nD τ))
  | 0 => f7
  | k + 1 => (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ (k + 1)).s

theorem sAt_eq (k : ℕ) : sAt c i arg3 harg3 arg4 harg4 arg5 harg5 arg6 harg6 arg7 harg7 arg8 harg8 arg9 harg9 arg10 harg10 arg11 harg11 arg12 harg12 arg2 v17 v151 v226 f3 f4 f5 f7 f9 f11 f12 k
    = (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ k).s := by cases k <;> rfl

@[reducible] def xAt : ℕ → Buf (Elt F) (arg9.view.loc (c : Thread nD τ))
  | 0 => f9
  | k + 1 => (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ (k + 1)).x

theorem xAt_eq (k : ℕ) : xAt c i arg3 harg3 arg4 harg4 arg5 harg5 arg6 harg6 arg7 harg7 arg8 harg8 arg9 harg9 arg10 harg10 arg11 harg11 arg12 harg12 arg2 v17 v151 v226 f3 f4 f5 f7 f9 f11 f12 k
    = (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ k).x := by cases k <;> rfl

@[reducible] def mAt : ℕ → Buf (Elt F) (arg11.view.loc (c : Thread nD τ))
  | 0 => f11
  | k + 1 => (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ (k + 1)).m

theorem mAt_eq (k : ℕ) : mAt c i arg3 harg3 arg4 harg4 arg5 harg5 arg6 harg6 arg7 harg7 arg8 harg8 arg9 harg9 arg10 harg10 arg11 harg11 arg12 harg12 arg2 v17 v151 v226 f3 f4 f5 f7 f9 f11 f12 k
    = (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ k).m := by cases k <;> rfl

@[reducible] def aAt : ℕ → Buf (Elt F) (arg12.view.loc (c : Thread nD τ))
  | 0 => f12
  | k + 1 => (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ (k + 1)).a

theorem aAt_eq (k : ℕ) : aAt c i arg3 harg3 arg4 harg4 arg5 harg5 arg6 harg6 arg7 harg7 arg8 harg8 arg9 harg9 arg10 harg10 arg11 harg11 arg12 harg12 arg2 v17 v151 v226 f3 f4 f5 f7 f9 f11 f12 k
    = (state c i arg3 harg3 arg4 harg4 arg5 harg5 arg6 harg6 arg7 harg7 arg8 harg8 arg9 harg9 arg10 harg10 arg11 harg11 arg12 harg12 arg2 v17 v151 v226 f3 f4 f5 ⟨f7, f9, f11, f12⟩ k).a := by cases k <;> rfl

set_option warn.classDefReducibility false in
set_option backward.proofsInPublic true in
/-- The loop's invariant. -/
@[sl_loop] def keyLoop : LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg2 v17 v151 v226 where
  inv k _ := iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (∃ g, (arg7.view.loc (c : Thread nD τ) ↦[arg7.view.set]{fullShare} g) ∗ ⌜g = sAt c i arg3 harg3 arg4 harg4 arg5 harg5 arg6 harg6 arg7 harg7 arg8 harg8 arg9 harg9 arg10 harg10 arg11 harg11 arg12 harg12 arg2 v17 v151 v226 f3 f4 f5 f7 f9 f11 f12 k⌝)
    ∗ (∃ f8, arg8.view.loc (c : Thread nD τ) ↦[arg8.view.set]{fullShare} f8)
    ∗ (∃ g, (arg9.view.loc (c : Thread nD τ) ↦[arg9.view.set]{fullShare} g) ∗ ⌜g = xAt c i arg3 harg3 arg4 harg4 arg5 harg5 arg6 harg6 arg7 harg7 arg8 harg8 arg9 harg9 arg10 harg10 arg11 harg11 arg12 harg12 arg2 v17 v151 v226 f3 f4 f5 f7 f9 f11 f12 k⌝)
    ∗ (∃ f10, arg10.view.loc (c : Thread nD τ) ↦[arg10.view.set]{fullShare} f10)
    ∗ (∃ g, (arg11.view.loc (c : Thread nD τ) ↦[arg11.view.set]{fullShare} g) ∗ ⌜g = mAt c i arg3 harg3 arg4 harg4 arg5 harg5 arg6 harg6 arg7 harg7 arg8 harg8 arg9 harg9 arg10 harg10 arg11 harg11 arg12 harg12 arg2 v17 v151 v226 f3 f4 f5 f7 f9 f11 f12 k⌝)
    ∗ (∃ g, (arg12.view.loc (c : Thread nD τ) ↦[arg12.view.set]{fullShare} g) ∗ ⌜g = aAt c i arg3 harg3 arg4 harg4 arg5 harg5 arg6 harg6 arg7 harg7 arg8 harg8 arg9 harg9 arg10 harg10 arg11 harg11 arg12 harg12 arg2 v17 v151 v226 f3 f4 f5 f7 f9 f11 f12 k⌝))
  step k _ := by
    rw [sAt_eq, xAt_eq, mAt_eq, aAt_eq, sAt_eq, xAt_eq, mAt_eq, aAt_eq, state_succ]
    iintro ⟨H3, H4, H5, ⟨%g7, H7, %e7⟩, H8, ⟨%g9, H9, %e9⟩, H10, ⟨%g11, H11, %e11⟩, ⟨%g12, H12, %e12⟩⟩
    subst e7 e9 e11 e12
    iapply (wp_wand_r Idealize.ShloMosaic.frame (wpE (defs₀ (F := F)) Variants.none (c : Thread nD τ) none) Set.univ)
    isplitl [H3 H4 H5 H7 H8 H9 H10 H11 H12]
    · iapply (trip c i arg3 harg3 arg4 harg4 arg5 harg5 arg6 harg6 arg7 harg7 arg8 harg8 arg9 harg9 arg10 harg10 arg11 harg11 arg12 harg12 arg2 v17 v151 v226 f3 f4 f5 _ _ _ _ k).2.2.2.2
      unfold held
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      iexact H12
    · unfold held
      iintro %_ ⟨H3, H4, H5, H7, H8, H9, H10, H11, H12⟩
      isplitl [H3]; · iexact H3
      isplitl [H4]; · iexact H4
      isplitl [H5]; · iexact H5
      isplitl [H7]
      · iexists _; isplitl [H7]; · iexact H7
        ipureintro; rfl
      isplitl [H8]; · iexact H8
      isplitl [H9]
      · iexists _; isplitl [H9]; · iexact H9
        ipureintro; rfl
      isplitl [H10]; · iexact H10
      isplitl [H11]
      · iexists _; isplitl [H11]; · iexact H11
        ipureintro; rfl
      iexists _; isplitl [H12]; · iexact H12
      ipureintro; rfl

/-- The remainder loop has no trips. -/
theorem rest_trips : (k0_t2_loop i).trips = 0 := by
  have h : ∀ a : Fin 8, ({ lb := Scalar.addi 0#32 (Scalar.muli (Scalar.divsi (Scalar.subi (BitVec.ofNat 32 a.val) 0#32) 1#32) 1#32)
                           ub := Scalar.addi 0#32 (Scalar.subi (BitVec.ofNat 32 a.val) 0#32), st := 1#32 } : Scf.Loop 32).trips = 0 := by
    decide
  exact h (i 2)

set_option warn.classDefReducibility false in
set_option backward.proofsInPublic true in
/-- The remainder loop: nothing to hold. -/
@[sl_loop] def restLoop (v256 : BitVec 32) : LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg2 v17 v151 v226 v256 where
  inv _ _ := iprop(emp)
  step k _ := (Nat.not_lt_zero _ (Nat.lt_of_lt_of_eq k.isLt (rest_trips i))).elim

end Cert.Proof.KI

end
-- ==== Proof.KI.Run.lean ====
/-
One run of the whole kernel body at a grid point: the query, key and value blocks at given contents, everything else
at anything. The body makes one store into its output block, which is left to the run to find.
-/
module

public import proofs.«01_k».proof.Proof.KI.Loop

@[expose] public section

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)
  (x3 : Vec F S1x256x1024 .bf16) (x4 : Vec F S1x8704x256 .bf16) (x5 : Vec F S1x2x80x8704 .bf16)

omit [FloatOps F] [Named F] in
/-- A whole buffer at any contents is owned at what it reads. -/
theorem someContents {sp : Space} {s : Shape} {e : EltTy} (a : Memref sig .tc sp s e)
    (f : Buf (Elt F) (a.view.loc (c : Thread nD τ))) :
    (iprop(a.view.loc (c : Thread nD τ) ↦[a.view.set]{fullShare} f) : sProp 𝕄)
      ⊢ iprop(∃ d, ∃ g, ⌜a.view.read (Elt F) g = d⌝ ∗ (a.view.loc (c : Thread nD τ) ↦[a.view.set]{fullShare} g)) := by
  iintro H
  iexists (a.view.read (Elt F) f); iexists f
  isplitr; · ipureintro; rfl
  iexact H

set_option maxHeartbeats 8000000 in
set_option backward.proofsInPublic true in
/-- The kernel body: the stores it makes into its output block. -/
@[irreducible] def run :
    { L6 : List (View.Piece (Elt F) S1x1024x128 .bf16) //
      ∀ (E : Set ℕ) (K : PUnit → sProp 𝕄),
      iprop(owns (c : Thread nD τ) arg3 fullShare x3 ∗ owns (c : Thread nD τ) arg4 fullShare x4
        ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare x3 ∗ owns (c : Thread nD τ) arg4 fullShare x4
          ∗ owns (c : Thread nD τ) arg5 fullShare x5
          ∗ (∃ f, arg6.view.loc (c : Thread nD τ) ↦[arg6.view.set]{fullShare} arg6.view.writes (Elt F) f L6)
          ∗ (∃ d, owns (c : Thread nD τ) arg7 fullShare d) ∗ (∃ d, owns (c : Thread nD τ) arg8 fullShare d)
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ
          (cc0_fox_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_fox_attention_eq_skeleton]; unfold cc0_fox_attention_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩,
      ⟨%d9, %f9, -, H9⟩, ⟨%d10, %f10, -, H10⟩, ⟨%d11, %f11, -, H11⟩, ⟨%d12, %f12, -, H12⟩, Hk⟩
    obtain rfl := harg3.eq_unread hf3; obtain rfl := harg4.eq_unread hf4; obtain rfl := harg5.eq_unread hf5
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iapply (someContents c arg7 _); iexact H7
    isplitl [H8]
    · iapply (someContents c arg8 _); iexact H8
    isplitl [H9]
    · iapply (someContents c arg9 _); iexact H9
    isplitl [H10]
    · iapply (someContents c arg10 _); iexact H10
    isplitl [H11]
    · iapply (someContents c arg11 _); iexact H11
    iapply (someContents c arg12 _); iexact H12

end Cert.Proof.KI

end
-- ==== Proof.KI.Frame.lean ====
/-
The frame of the attention kernel: the body's triple at every grid point, the pipeline's proof data, and the run of
the whole program, which leaves in the output array what the body's single store leaves in each block.
-/
module

public import proofs.«01_k».proof.Proof.KI.Run
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs of a grid point -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8704x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2x80x8704 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .bf16 := win0_3.stage (cfg0.slots t 3)
abbrev hs3 (t : Fin cfg0.N) : (ms3 t).IsWhole := hstage0_3 ((cfg0.slots t 3).cast nbuf0_3)
abbrev sc0 : Memref sig .tc .vmem S2x512x1024 .f32 := Memref.whole cc0_scratch0
abbrev sc1 : Memref sig .tc .vmem S2x512x1024 .f32 := Memref.whole cc0_scratch1
abbrev sc2 : Memref sig .tc .vmem S2x1x1024 .f32 := Memref.whole cc0_scratch2
abbrev sc3 : Memref sig .tc .vmem S2x1x1024 .f32 := Memref.whole cc0_scratch3
abbrev sc4 : Memref sig .tc .vmem S2x1x1024 .f32 := Memref.whole cc0_scratch4
abbrev sc5 : Memref sig .tc .vmem S2x80x1024 .f32 := Memref.whole cc0_scratch5

/-- The body's store at point `t` over the given blocks. -/
abbrev pieces (c : Dev nD) (t : Fin cfg0.N) (x3 : Vec F S1x256x1024 .bf16) (x4 : Vec F S1x8704x256 .bf16)
    (x5 : Vec F S1x2x80x8704 .bf16) : List (View.Piece (Elt F) S1x1024x128 .bf16) :=
  (run c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) x3 x4 x5).1

/-- The body's store covers its output block. -/
theorem pieces_cover (c : Dev nD) (t : Fin cfg0.N) (x3 : Vec F S1x256x1024 .bf16) (x4 : Vec F S1x8704x256 .bf16)
    (x5 : Vec F S1x2x80x8704 .bf16) (y : S1x1024x128.Idx) : ∃ p ∈ pieces c t x3 x4 x5, y ∈ p.1.set :=
  View.cover_of_wholeMem (pieces c t x3 x4 x5) (by unfold pieces run; sl_whole_mem) y

/-- What the body leaves in its output block at point `t`. -/
def outBlock (c : Dev nD) (t : Fin cfg0.N) (x3 : Vec F S1x256x1024 .bf16) (x4 : Vec F S1x8704x256 .bf16)
    (x5 : Vec F S1x2x80x8704 .bf16) : Vec F S1x1024x128 .bf16 :=
  (ms3 t).view.read (Elt F) ((ms3 t).view.writes (Elt F) (ms3 t).view.junk (pieces c t x3 x4 x5))

/-- The invariant the body is handed: the scratch buffers at anything. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [owns_whole]; try rfl

/-- The proof data: every input window left as it was, the output window at `outBlock` of the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock c t (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock c t (iblk m c 0 t) (iblk m c 1 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- The body's triple at point `t`. -/
theorem body_sound (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3,
    show (dats m 0 c).Φ t.castSucc = Pipeline.ΦA spec0 c from rfl, show (dats m 0 c).Φ t.succ = Pipeline.ΦA spec0 c from rfl,
    scratch_eq]
  iintro ⟨⟨⟨S0, S1, S2, S3, S4, S5⟩, Hg⟩, Ho, ⟨%d0, H0⟩, ⟨%d1, H1⟩, ⟨%d2, H2⟩, ⟨%d3, H3⟩⟩
  iapply ((run c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, ⟨%f3, H3⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  unfold owns outBlock
  iexists _
  isplitr
  swap; · iexact H3
  ipureintro
  exact View.read_writes_of_cover _ _ _ _ _ (pieces_cover c t _ _ _)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

set_option backward.isDefEq.respectTransparency.types false in
/-- The run: every array of the pipeline at its folded contents, every other buffer as the region finds it, every
    semaphore counter at zero. -/
theorem run_quiescent : θ_run defs (onTc (τ := τ) (main (F := F))) (s₀ m ρ)
    (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) (0 : Fin 1) (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proof.KI

end
-- ==== Proof.Value.Host.lean ====
/-
What the host puts into the kernel's three windows, entry by entry.
-/
module

public import proofs.«01_k».proof.Proof.KI.Frame
public import Idealize.ShloMosaic.Lib.Pointwise
public import Idealize.ShloMosaic.Lib.StableHlo.ReadAt

@[expose] public section

set_option maxRecDepth 16384

noncomputable section

namespace Cert.Proof.Value

open Cert.KernelIdeal Cert.KernelIdeal.Gen Cert.Proof.KI
open Idealize.ShloMosaic Idealize.ShloMosaic.TcCoe

variable (m : (ℓ : Loc nD τ sig) → Buf (Elt Ideal) ℓ) (c : Dev nD)

/-- The queries, keys, values and summed forget gates. -/
abbrev A0 : S2x16x8192x64.Idx → EReal := m ((c.tc : Thread nD τ).loc main_arg0)
abbrev A1 : S2x16x8208x64.Idx → EReal := m ((c.tc : Thread nD τ).loc main_arg1)
abbrev A2 : S2x16x8208x64.Idx → EReal := m ((c.tc : Thread nD τ).loc main_arg2)
abbrev A3 : S2x16x8208.Idx → EReal := m ((c.tc : Thread nD τ).loc main_arg3)

/-- The logarithm of e to base 2, as the host computes it. -/
abbrev log2e : EReal := Ideal.div 1 (Ideal.log (Ideal.ofBits .f32 0x40000000#32))

/-- What the host pads with. -/
theorem pad_zero : (FloatOps.sitofp (F := Ideal) FTy.bf16 (0#32) : EReal) = ((0 : ℝ) : EReal) := by
  simp [FloatOps.sitofp]

/-- The queries' lanes: the query scaled, three ones, zeros. -/
theorem q_lane (b : Fin 2) (H : Fin 16) (s : Fin 8192) (l : Fin 64) :
    (V m c main_v10 (ix3 b ⟨128 * H.val + l.val, by omega⟩ s) : EReal) = A0 m c (ix4 b H s l) * (Ideal.ofBits .f32 0x3E000000#32 * log2e) := by
  unfold V
  after_reads_at
  rw [dif_pos (by omega)]
  simp only [show (128 * H.val + l.val) % 128 = l.val by omega, show (128 * H.val + l.val) / 128 = H.val by omega, Fin.eta]
  after_reads_at

theorem q_one (b : Fin 2) (H : Fin 16) (s : Fin 8192) (l : Fin 3) :
    (V m c main_v10 (ix3 b ⟨128 * H.val + (64 + l.val), by omega⟩ s) : EReal) = Ideal.ofBits .bf16 0x3F80#16 := by
  unfold V
  after_reads_at
  rw [dif_neg (by omega)]
  rw [dif_pos (by omega)]
  after_reads_at

theorem q_zero (b : Fin 2) (H : Fin 16) (s : Fin 8192) (l : Fin 61) :
    (V m c main_v10 (ix3 b ⟨128 * H.val + (67 + l.val), by omega⟩ s) : EReal) = Ideal.ofBits .bf16 0x0000#16 := by
  unfold V
  after_reads_at
  rw [dif_neg (by omega)]
  rw [dif_neg (by omega)]
  after_reads_at

/-- The keys' lanes: the key, the forget gate's sum in three parts, zeros; 496 rows of padding before them. -/
theorem k_lane (b : Fin 2) (H : Fin 16) (s : Fin 8208) (l : Fin 64) :
    (V m c main_v31 (ix3 b ⟨496 + s.val, by omega⟩ ⟨128 * H.val + l.val, by omega⟩) : EReal) = A1 m c (ix4 b H s l) := by
  unfold V
  after_reads_at
  rw [dif_pos (by omega)]
  rw [dif_pos (by omega)]
  simp only [show (128 * H.val + l.val) % 128 = l.val by omega, show (128 * H.val + l.val) / 128 = H.val by omega, Fin.eta]
  after_reads_at

theorem k_gate (b : Fin 2) (H : Fin 16) (s : Fin 8208) :
    (V m c main_v31 (ix3 b ⟨496 + s.val, by omega⟩ ⟨128 * H.val + 64, by omega⟩) : EReal) = -log2e * A3 m c (ix3 b H s) := by
  unfold V
  after_reads_at
  rw [dif_pos (by omega)]
  rw [dif_neg (by omega)]
  rw [dif_pos (by omega)]
  simp only [show (128 * H.val + 64) % 128 = 64 by omega, show (128 * H.val + 64) / 128 = H.val by omega, Fin.eta]
  after_reads_at
  after_reads_at

theorem k_gate1 (b : Fin 2) (H : Fin 16) (s : Fin 8208) :
    (V m c main_v31 (ix3 b ⟨496 + s.val, by omega⟩ ⟨128 * H.val + 65, by omega⟩) : EReal) = -log2e * A3 m c (ix3 b H s) - -log2e * A3 m c (ix3 b H s) := by
  unfold V
  after_reads_at
  rw [dif_pos (by omega)]
  rw [dif_neg (by omega)]
  rw [dif_pos (by omega)]
  simp only [show (128 * H.val + 65) % 128 = 65 by omega, show (128 * H.val + 65) / 128 = H.val by omega, Fin.eta]
  after_reads_at
  after_reads_at

theorem k_gate2 (b : Fin 2) (H : Fin 16) (s : Fin 8208) :
    (V m c main_v31 (ix3 b ⟨496 + s.val, by omega⟩ ⟨128 * H.val + 66, by omega⟩) : EReal) = -log2e * A3 m c (ix3 b H s) - -log2e * A3 m c (ix3 b H s) - (-log2e * A3 m c (ix3 b H s) - -log2e * A3 m c (ix3 b H s)) := by
  unfold V
  after_reads_at
  rw [dif_pos (by omega)]
  rw [dif_neg (by omega)]
  rw [dif_pos (by omega)]
  simp only [show (128 * H.val + 66) % 128 = 66 by omega, show (128 * H.val + 66) / 128 = H.val by omega, Fin.eta]
  after_reads_at
  after_reads_at

theorem k_zero (b : Fin 2) (H : Fin 16) (s : Fin 8208) (l : Fin 61) :
    (V m c main_v31 (ix3 b ⟨496 + s.val, by omega⟩ ⟨128 * H.val + (67 + l.val), by omega⟩) : EReal) = Ideal.ofBits .bf16 0x0000#16 := by
  unfold V
  after_reads_at
  rw [dif_pos (by omega)]
  rw [dif_neg (by omega)]
  rw [dif_neg (by omega)]
  after_reads_at

theorem k_pad (b : Fin 2) (l : Fin 2048) (r : Fin 8704) (hr : r.val < 496) :
    (V m c main_v31 (ix3 b r l) : EReal) = ((0 : ℝ) : EReal) := by
  unfold V
  after_reads_at
  rw [dif_neg (by omega)]
  exact pad_zero

/-- The values' rows: the value, ones; 496 columns of padding before them. -/
theorem v_row (b : Fin 2) (H : Fin 16) (s : Fin 8208) (d : Fin 64) :
    (V m c main_v36 (ix4 b H ⟨d.val, by omega⟩ ⟨496 + s.val, by omega⟩) : EReal) = A2 m c (ix4 b H s d) := by
  unfold V
  after_reads_at
  rw [dif_pos (by omega)]
  after_reads_at

theorem v_one (b : Fin 2) (H : Fin 16) (s : Fin 8208) (d : Fin 16) :
    (V m c main_v36 (ix4 b H ⟨64 + d.val, by omega⟩ ⟨496 + s.val, by omega⟩) : EReal) = Ideal.ofBits .bf16 0x3F80#16 := by
  unfold V
  after_reads_at
  rw [dif_pos (by omega)]
  after_reads_at

theorem v_pad (b : Fin 2) (H : Fin 16) (d : Fin 80) (r : Fin 8704) (hr : r.val < 496) :
    (V m c main_v36 (ix4 b H d r) : EReal) = ((0 : ℝ) : EReal) := by
  unfold V
  after_reads_at
  rw [dif_neg (by omega)]
  exact pad_zero

end Cert.Proof.Value
-- ==== Proof.Value.Array.lean ====
/-
The blocks of a grid point: where they lie in the arrays, and where the output block goes.
-/
module

public import proofs.«01_k».proof.Proof.Value.Host
public import Idealize.ShloMosaic.Lib.Pipeline.ValueKit

@[expose] public section

set_option maxRecDepth 16384

noncomputable section

namespace Cert.Proof.Value

open Cert.KernelIdeal Cert.KernelIdeal.Gen Cert.Proof.KI
open Idealize.ShloMosaic Idealize.ShloMosaic.TcCoe

variable (m : (ℓ : Loc nD τ sig) → Buf (Elt Ideal) ℓ) (c : Dev nD)

/-- The batch, the head pair and the query block of a grid point. -/
abbrev bOf (t : Fin cfg0.N) : Fin 2 := grid0.coords t 0
abbrev pOf (t : Fin cfg0.N) : Fin 8 := grid0.coords t 1
abbrev qOf (t : Fin cfg0.N) : Fin 8 := grid0.coords t 2

theorem toNat_small {n : ℕ} (h : n < 8) : (BitVec.ofNat 32 n).toNat = n := by
  rw [BitVec.toNat_ofNat]
  omega

theorem idx0 (t : Fin cfg0.N) : win0_0.index t = ![(bOf t).val, (pOf t).val, (qOf t).val] := by
  show cc0_transform_0 (grid0.coords t) = _
  unfold cc0_transform_0
  dsimp only
  rw [toNat_small (lt_trans (bOf t).isLt (by decide)), toNat_small (pOf t).isLt, toNat_small (qOf t).isLt]

theorem idx1 (t : Fin cfg0.N) : win0_1.index t = ![(bOf t).val, 0, (pOf t).val] := by
  show cc0_transform_1 (grid0.coords t) = _
  unfold cc0_transform_1
  dsimp only
  rw [toNat_small (lt_trans (bOf t).isLt (by decide)), toNat_small (pOf t).isLt]
  rfl

theorem idx2 (t : Fin cfg0.N) : win0_2.index t = ![(bOf t).val, (pOf t).val, 0, 0] := by
  show cc0_transform_2 (grid0.coords t) = _
  unfold cc0_transform_2
  dsimp only
  rw [toNat_small (lt_trans (bOf t).isLt (by decide)), toNat_small (pOf t).isLt]
  rfl

theorem idx3 (t : Fin cfg0.N) : win0_3.index t = ![(bOf t).val, (qOf t).val, (pOf t).val] := by
  show cc0_transform_3 (grid0.coords t) = _
  unfold cc0_transform_3
  dsimp only
  rw [toNat_small (lt_trans (bOf t).isLt (by decide)), toNat_small (pOf t).isLt, toNat_small (qOf t).isLt]

theorem at0 (X : S2x2048x8192.Idx → Elt Ideal .bf16) (t : Fin cfg0.N) (l : Fin 256) (q : Fin 1024) :
    ((cfg0.win 0).blk t).view.read (Elt Ideal) X (ix3 0 l q) = X (ix3 (bOf t) ⟨256 * (pOf t).val + l.val, by omega⟩ ⟨1024 * (qOf t).val + q.val, by omega⟩) := by
  refine congrArg X (funext fun a => Fin.ext ?_)
  refine (Pipeline.Window.rect_emb_val win0_0 t (ix3 0 l q) a rfl).trans ?_
  rw [idx0]
  fin_cases a
  · exact (by omega : (bOf t).val * 1 + 0 = (bOf t).val)
  · exact (by omega : (pOf t).val * 256 + l.val = 256 * (pOf t).val + l.val)
  · exact (by omega : (qOf t).val * 1024 + q.val = 1024 * (qOf t).val + q.val)

theorem blk0 (t : Fin cfg0.N) (l : Fin 256) (q : Fin 1024) :
    (iblk m c 0 t (ix3 0 l q) : EReal)
      = V m c main_v10 (ix3 (bOf t) ⟨256 * (pOf t).val + l.val, by omega⟩ ⟨1024 * (qOf t).val + q.val, by omega⟩) :=
  at0 (V m c main_v10) t l q

theorem at1 (X : S2x8704x2048.Idx → Elt Ideal .bf16) (t : Fin cfg0.N) (r : Fin 8704) (l : Fin 256) :
    ((cfg0.win 1).blk t).view.read (Elt Ideal) X (ix3 0 r l) = X (ix3 (bOf t) r ⟨256 * (pOf t).val + l.val, by omega⟩) := by
  refine congrArg X (funext fun a => Fin.ext ?_)
  refine (Pipeline.Window.rect_emb_val win0_1 t (ix3 0 r l) a rfl).trans ?_
  rw [idx1]
  fin_cases a
  · exact (by omega : (bOf t).val * 1 + 0 = (bOf t).val)
  · exact (by omega : 0 * 8704 + r.val = r.val)
  · exact (by omega : (pOf t).val * 256 + l.val = 256 * (pOf t).val + l.val)

theorem blk1 (t : Fin cfg0.N) (r : Fin 8704) (l : Fin 256) :
    (iblk m c 1 t (ix3 0 r l) : EReal)
      = V m c main_v31 (ix3 (bOf t) r ⟨256 * (pOf t).val + l.val, by omega⟩) :=
  at1 (V m c main_v31) t r l

theorem at2 (X : S2x16x80x8704.Idx → Elt Ideal .bf16) (t : Fin cfg0.N) (h : Fin 2) (d : Fin 80) (r : Fin 8704) :
    ((cfg0.win 2).blk t).view.read (Elt Ideal) X (ix4 0 h d r) = X (ix4 (bOf t) ⟨2 * (pOf t).val + h.val, by omega⟩ d r) := by
  refine congrArg X (funext fun a => Fin.ext ?_)
  refine (Pipeline.Window.rect_emb_val win0_2 t (ix4 0 h d r) a rfl).trans ?_
  rw [idx2]
  fin_cases a
  · exact (by omega : (bOf t).val * 1 + 0 = (bOf t).val)
  · exact (by omega : (pOf t).val * 2 + h.val = 2 * (pOf t).val + h.val)
  · exact (by omega : 0 * 80 + d.val = d.val)
  · exact (by omega : 0 * 8704 + r.val = r.val)

theorem blk2 (t : Fin cfg0.N) (h : Fin 2) (d : Fin 80) (r : Fin 8704) :
    (iblk m c 2 t (ix4 0 h d r) : EReal)
      = V m c main_v36 (ix4 (bOf t) ⟨2 * (pOf t).val + h.val, by omega⟩ d r) :=
  at2 (V m c main_v36) t h d r

/-- Where an entry of the output block goes. -/
theorem blk3 (t : Fin cfg0.N) (q : Fin 1024) (l : Fin 128) :
    ((cfg0.win 3).blk t).view.emb (ix3 0 q l)
      = ix3 (bOf t) (⟨1024 * (qOf t).val + q.val, by omega⟩ : Fin 8192) (⟨128 * (pOf t).val + l.val, by omega⟩ : Fin 1024) := by
  refine (funext fun a => Fin.ext ?_)
  refine (Pipeline.Window.rect_emb_val win0_3 t (ix3 0 q l) a rfl).trans ?_
  rw [idx3]
  fin_cases a
  · exact (by omega : (bOf t).val * 1 + 0 = (bOf t).val)
  · exact (by omega : (qOf t).val * 1024 + q.val = 1024 * (qOf t).val + q.val)
  · exact (by omega : (pOf t).val * 128 + l.val = 128 * (pOf t).val + l.val)

/-- The output window's blocks cover the output. -/
theorem covers3 : (cfg0.win 3).Covers := by decide +kernel

/-- The output array, from what every point leaves in its block. -/
theorem array (G : S2x8192x1024.Idx → EReal)
    (h : ∀ (t : Fin cfg0.N) (q : Fin 1024) (l : Fin 128),
      (outBlock c t (iblk m c 0 t) (iblk m c 1 t) (iblk m c 2 t) (ix3 0 q l) : EReal)
        = G (ix3 (bOf t) (⟨1024 * (qOf t).val + q.val, by omega⟩ : Fin 8192) (⟨128 * (pOf t).val + l.val, by omega⟩ : Fin 1024))) :
    (dats m 0 c).arrAt 3 cfg0.N = G := by
  refine (dats m 0 c).arrAt_eq_of_covers 3 G covers3 fun t _ y => ?_
  have hy : y = ix3 (0 : Fin 1) (y 1) (y 2) := by
    funext a
    fin_cases a
    · exact Subsingleton.elim (α := Fin 1) _ _
    · rfl
    · rfl
  refine Eq.trans ?_ (congrArg G ((blk3 t (y 1) (y 2)).symm.trans (congrArg _ hy.symm)))
  rw [← h t (y 1) (y 2)]
  exact congrArg (outBlock c t (iblk m c 0 t) (iblk m c 1 t) (iblk m c 2 t)) hy

end Cert.Proof.Value
-- ==== Proof.Value.Online.lean ====
/-
The online softmax of one query, over the reals.

`part s v e μ` is the weighted sum of the values `v` over the keys from 496 up to `e`, each with weight
`2 ^ (score - μ)`. Adding a block of keys under a new maximum is the step of the online softmax.
-/
module

public import Idealize.ShloMosaic.PureOps.Ideal
public import Mathlib.Algebra.BigOperators.Intervals
public import Mathlib.Algebra.BigOperators.Fin
public import Mathlib.Analysis.SpecialFunctions.Pow.Real

@[expose] public section

noncomputable section

namespace Cert.Proof.Value

open Idealize.ShloMosaic

/-- The weighted sum of the values of the keys from `a` up to `e`, relative to the shift `μ`. -/
def partFrom (a : ℕ) (s v : ℕ → ℝ) (e : ℕ) (μ : ℝ) : ℝ :=
  ∑ key ∈ Finset.Ico a e, (2 : ℝ) ^ (s key - μ) * v key

/-- The same from the first key, which is row 496 of the padded keys. -/
abbrev part (s v : ℕ → ℝ) (e : ℕ) (μ : ℝ) : ℝ := partFrom 496 s v e μ

theorem exp2_sub_coe (a b : ℝ) : Ideal.exp2 ((a : EReal) - (b : EReal)) = (((2 : ℝ) ^ (a - b) : ℝ) : EReal) := by
  rw [← EReal.coe_sub, Ideal.exp2_coe]
  rfl

theorem exp2_bot_sub (b : ℝ) : Ideal.exp2 ((⊥ : EReal) - (b : EReal)) = 0 := by
  rw [EReal.bot_sub, Ideal.exp2_bot]

/-- Changing the shift rescales the sum. -/
theorem rescale (a : ℕ) (s v : ℕ → ℝ) (e : ℕ) (μ m : ℝ) :
    (2 : ℝ) ^ (μ - m) * partFrom a s v e μ = partFrom a s v e m := by
  unfold partFrom
  rw [Finset.mul_sum]
  refine Finset.sum_congr rfl fun key _ => ?_
  rw [← mul_assoc, ← Real.rpow_add (by norm_num)]
  congr 2
  ring

theorem partFrom_add (a b e : ℕ) (s v : ℕ → ℝ) (m : ℝ) (hab : a ≤ b) (hbe : b ≤ e) :
    partFrom a s v b m + partFrom b s v e m = partFrom a s v e m := by
  unfold partFrom
  exact Finset.sum_Ico_consecutive _ hab hbe

theorem partFrom_self (a : ℕ) (s v : ℕ → ℝ) (m : ℝ) : partFrom a s v a m = 0 := by
  simp [partFrom]

theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A block of `n` keys from `k₀`, those from `e` on masked off, contracted with the values. -/
theorem block_sum (n k₀ e : ℕ) (he : k₀ ≤ e) (hn : e ≤ k₀ + n) (s v : ℕ → ℝ) (m : ℝ)
    (V T : Fin n → EReal) (hV : ∀ j, V j = (v (k₀ + j.val) : EReal))
    (hT : ∀ j, T j = if k₀ + j.val < e then (s (k₀ + j.val) : EReal) else ⊥) :
    ∑ j, V j * Ideal.exp2 (T j - (m : EReal)) = ((partFrom k₀ s v e m : ℝ) : EReal) := by
  have h1 : ∀ j, V j * Ideal.exp2 (T j - (m : EReal))
      = ((if k₀ + j.val < e then (2 : ℝ) ^ (s (k₀ + j.val) - m) * v (k₀ + j.val) else 0 : ℝ) : EReal) := by
    intro j
    rw [hV, hT]
    by_cases h : k₀ + j.val < e
    · rw [if_pos h, if_pos h, exp2_sub_coe, ← EReal.coe_mul, mul_comm]
    · rw [if_neg h, if_neg h, exp2_bot_sub, mul_zero, EReal.coe_zero]
  rw [Finset.sum_congr rfl fun j _ => h1 j, ← coe_sum]
  congr 1
  rw [Fin.sum_univ_eq_sum_range
    (fun j => if k₀ + j < e then (2 : ℝ) ^ (s (k₀ + j) - m) * v (k₀ + j) else 0) n, partFrom,
    Finset.sum_Ico_eq_sum_range]
  obtain ⟨d, rfl⟩ := Nat.exists_eq_add_of_le he
  rw [Nat.add_sub_cancel_left]
  have hd : d ≤ n := by omega
  rw [← Finset.sum_range_add_sum_Ico _ hd, Finset.sum_eq_zero (s := Finset.Ico d n), add_zero]
  · refine Finset.sum_congr rfl fun j hj => ?_
    rw [if_pos]
    have := Finset.mem_range.1 hj
    omega
  · intro j hj
    rw [if_neg]
    have := Finset.mem_Ico.1 hj
    omega

/-- A maximum of numbers none of which is `⊤` and one of which is not `⊥` is a real number. -/
theorem fold_max_real {n : ℕ} (f : Fin n → EReal) (htop : ∀ j, f j ≠ ⊤) (hbot : ∃ j, f j ≠ ⊥) :
    ∃ r : ℝ, Finset.univ.fold max ⊥ f = (r : EReal) := by
  have hle : ∀ (t : Finset (Fin n)), t.fold max ⊥ f ≠ ⊤ := by
    intro t
    classical
    induction t using Finset.induction_on with
    | empty => simp
    | insert a t ha ih =>
      rw [Finset.fold_insert ha]
      intro h
      rcases max_choice (f a) (t.fold max ⊥ f) with h' | h' <;> rw [h'] at h
      · exact htop a h
      · exact ih h
  obtain ⟨j, hj⟩ := hbot
  have hge : f j ≤ Finset.univ.fold max ⊥ f := by
    rw [Finset.le_fold_max]
    exact Or.inr ⟨j, Finset.mem_univ j, le_rfl⟩
  refine ⟨(Finset.univ.fold max ⊥ f).toReal, (EReal.coe_toReal (hle _) ?_).symm⟩
  intro h
  rw [h] at hge
  exact hj (le_bot_iff.1 hge)

theorem max_coe (a b : ℝ) : max (a : EReal) (b : EReal) = ((max a b : ℝ) : EReal) :=
  (EReal.coe_strictMono.monotone.map_max).symm

end Cert.Proof.Value
-- ==== Proof.Value.Tile.lean ====
/-
One step of the online softmax on a tile of 256 queries.

`Ok` says what the running maximum and the running sums of a tile hold after the keys up to `e`. The three steps
(a block of 512 keys, one of 256, and the 16 leading keys) each carry it on.
-/
module

public import proofs.«01_k».proof.Proof.Gen.KernelIdeal
public import proofs.«01_k».proof.Proof.Value.Online
public import Idealize.ShloMosaic.Lib.Pointwise

@[expose] public section

set_option maxRecDepth 16384

noncomputable section

namespace Cert.Proof.Value

open Cert.KernelIdeal Cert.KernelIdeal.Gen
open Idealize.ShloMosaic

/-- After the keys up to `e` (per query of the tile): the shift of every query is a real number, and its 80 sums are
    the weighted sums of the values relative to it. -/
def Ok (s v : ℕ → ℕ → ℝ) (q0 : ℕ) (e : ℕ → ℕ) (M : FVec Ideal S1x1x256 .f32) (A : FVec Ideal S1x80x256 .f32) : Prop :=
  ∀ q : Fin 256, ∃ μ : ℝ, M (ix3 0 0 q) = (μ : EReal) ∧
    ∀ r : Fin 80, A (ix3 0 r q) = ((part (fun k => s k (q0 + q.val)) (v r.val) (e q.val) μ : ℝ) : EReal)

/-- The new running maximum. -/
def upM (xs : FVec Ideal S1x256 .f32) (m : FVec Ideal S1x1x256 .f32) : FVec Ideal S1x256 .f32 :=
  maximumf (shapeCast S1x256 m shapeCasts_S1x1x256_S1x256) xs

/-- What the old sums are scaled by, times the old sums. -/
def old (xs : FVec Ideal S1x256 .f32) (m : FVec Ideal S1x1x256 .f32) (a : FVec Ideal S1x80x256 .f32) :
    FVec Ideal S80x256 .f32 :=
  mulf (broadcastTo S80x256 (exp2 (subf (shapeCast S1x256 m shapeCasts_S1x1x256_S1x256) (upM xs m)))
    broadcasts_S1x256_S80x256) (shapeCast S80x256 a shapeCasts_S1x80x256_S80x256)

/-- The weights of 256 keys contracted with their values. -/
def dot256 (xs : FVec Ideal S1x256 .f32) (m : FVec Ideal S1x1x256 .f32) (st : FVec Ideal S256x256 .f32)
    (v : FVec Ideal S1x1x80x256 .bf16) : FVec Ideal S80x256 .f32 :=
  matmul dot_S80x256_S256x256_S80x256_1_0_0_1_n_n none (shapeCast S80x256 v shapeCasts_S1x1x80x256_S80x256)
    (exp2 (truncf .bf16 (subf st (broadcastTo S256x256 (upM xs m) broadcasts_S1x256_S256x256)) bitsLt_bf16_f32))
    (constant S80x256 .f32 0x00000000#32)

/-- The weights of the 16 leading keys contracted with their values. -/
def dot16 (xs : FVec Ideal S1x256 .f32) (m : FVec Ideal S1x1x256 .f32) (st : FVec Ideal S16x256 .f32)
    (v : FVec Ideal S1x1x80x16 .bf16) : FVec Ideal S80x256 .f32 :=
  matmul dot_S80x16_S16x256_S80x256_1_0_0_1_n_n none (shapeCast S80x16 v shapeCasts_S1x1x80x16_S80x16)
    (exp2 (truncf .bf16 (subf st (broadcastTo S16x256 (upM xs m) broadcasts_S1x256_S16x256)) bitsLt_bf16_f32))
    (constant S80x256 .f32 0x00000000#32)

/-- The stored maximum. -/
def putM (xs : FVec Ideal S1x256 .f32) (m : FVec Ideal S1x1x256 .f32) : FVec Ideal S1x1x256 .f32 :=
  shapeCast S1x1x256 (upM xs m) shapeCasts_S1x256_S1x1x256

/-- The stored sums after 512 keys. -/
def putA2 (xs : FVec Ideal S1x256 .f32) (m : FVec Ideal S1x1x256 .f32) (st0 st1 : FVec Ideal S256x256 .f32)
    (v0 v1 : FVec Ideal S1x1x80x256 .bf16) (a : FVec Ideal S1x80x256 .f32) : FVec Ideal S1x80x256 .f32 :=
  shapeCast S1x80x256 (addf (old xs m a) (addf (dot256 xs m st0 v0) (dot256 xs m st1 v1))) shapeCasts_S80x256_S1x80x256

/-- The stored sums after 256 keys. -/
def putA1 (xs : FVec Ideal S1x256 .f32) (m : FVec Ideal S1x1x256 .f32) (st0 : FVec Ideal S256x256 .f32)
    (v0 : FVec Ideal S1x1x80x256 .bf16) (a : FVec Ideal S1x80x256 .f32) : FVec Ideal S1x80x256 .f32 :=
  shapeCast S1x80x256 (addf (old xs m a) (dot256 xs m st0 v0)) shapeCasts_S80x256_S1x80x256

/-- The stored sums after the 16 leading keys. -/
def putA0 (xs : FVec Ideal S1x256 .f32) (m : FVec Ideal S1x1x256 .f32) (st0 : FVec Ideal S16x256 .f32)
    (v0 : FVec Ideal S1x1x80x16 .bf16) (a : FVec Ideal S1x80x256 .f32) : FVec Ideal S1x80x256 .f32 :=
  shapeCast S1x80x256 (addf (old xs m a) (dot16 xs m st0 v0)) shapeCasts_S80x256_S1x80x256

theorem putM_at (xs : FVec Ideal S1x256 .f32) (m : FVec Ideal S1x1x256 .f32) (q : Fin 256) :
    putM xs m (ix3 0 0 q) = max (m (ix3 0 0 q)) (xs (ix2 0 q)) := by
  pointwise [putM, upM]

theorem old_at (xs : FVec Ideal S1x256 .f32) (m : FVec Ideal S1x1x256 .f32) (a : FVec Ideal S1x80x256 .f32)
    (r : Fin 80) (q : Fin 256) :
    old xs m a (ix2 r q)
      = Ideal.exp2 (m (ix3 0 0 q) - max (m (ix3 0 0 q)) (xs (ix2 0 q))) * a (ix3 0 r q) := by
  pointwise [old, upM]
  rfl

theorem dot256_at (xs : FVec Ideal S1x256 .f32) (m : FVec Ideal S1x1x256 .f32) (st : FVec Ideal S256x256 .f32)
    (v : FVec Ideal S1x1x80x256 .bf16) (r : Fin 80) (q : Fin 256) :
    dot256 xs m st v (ix2 r q)
      = ∑ j : Fin 256, v (ix4 0 0 r j) * Ideal.exp2 (st (ix2 j q) - max (m (ix3 0 0 q)) (xs (ix2 0 q))) := by
  pointwise [dot256, upM]
  rfl

theorem dot16_at (xs : FVec Ideal S1x256 .f32) (m : FVec Ideal S1x1x256 .f32) (st : FVec Ideal S16x256 .f32)
    (v : FVec Ideal S1x1x80x16 .bf16) (r : Fin 80) (q : Fin 256) :
    dot16 xs m st v (ix2 r q)
      = ∑ j : Fin 16, v (ix4 0 0 r j) * Ideal.exp2 (st (ix2 j q) - max (m (ix3 0 0 q)) (xs (ix2 0 q))) := by
  pointwise [dot16, upM]
  rfl

theorem cast_at (u : FVec Ideal S80x256 .f32) (r : Fin 80) (q : Fin 256) :
    shapeCast S1x80x256 u shapeCasts_S80x256_S1x80x256 (ix3 0 r q) = u (ix2 r q) := by
  pointwise

theorem add_at (u w : FVec Ideal S80x256 .f32) (r : Fin 80) (q : Fin 256) :
    addf u w (ix2 r q) = u (ix2 r q) + w (ix2 r q) := by
  pointwise

section

variable (s v : ℕ → ℕ → ℝ) (q0 : ℕ) (e0 : ℕ) (e' : ℕ → ℕ)
  (xs : FVec Ideal S1x256 .f32) (m : FVec Ideal S1x1x256 .f32) (a : FVec Ideal S1x80x256 .f32)

/-- A step over 512 keys, of which the query `q` sees those up to `e' q`. -/
theorem step2 (st0 st1 : FVec Ideal S256x256 .f32) (v0 v1 : FVec Ideal S1x1x80x256 .bf16)
    (h496 : 496 ≤ e0) (hlo : ∀ q : Fin 256, e0 + 256 ≤ e' q.val) (hhi : ∀ q : Fin 256, e' q.val ≤ e0 + 256 + 256)
    (hx : ∀ q : Fin 256, ∃ x : ℝ, xs (ix2 0 q) = (x : EReal))
    (h0 : ∀ j q : Fin 256, st0 (ix2 j q) = ((s (e0 + j.val) (q0 + q.val) : ℝ) : EReal))
    (h1 : ∀ j q : Fin 256, st1 (ix2 j q)
      = if e0 + 256 + j.val < e' q.val then ((s (e0 + 256 + j.val) (q0 + q.val) : ℝ) : EReal) else ⊥)
    (hv0 : ∀ (r : Fin 80) (j : Fin 256), v0 (ix4 0 0 r j) = ((v r.val (e0 + j.val) : ℝ) : EReal))
    (hv1 : ∀ (r : Fin 80) (j : Fin 256), v1 (ix4 0 0 r j) = ((v r.val (e0 + 256 + j.val) : ℝ) : EReal))
    (h : Ok s v q0 (fun _ => e0) m a) :
    Ok s v q0 e' (putM xs m) (putA2 xs m st0 st1 v0 v1 a) := by
  intro q
  obtain ⟨μ, hμ, hA⟩ := h q
  obtain ⟨x, hx⟩ := hx q
  refine ⟨max μ x, ?_, fun r => ?_⟩
  · rw [putM_at, hμ, hx, max_coe]
  rw [putA2, cast_at, add_at, add_at, old_at, dot256_at, dot256_at, hμ, hx, max_coe, exp2_sub_coe, hA,
    block_sum 256 e0 (e0 + 256) (by omega) le_rfl (fun k => s k (q0 + q.val)) (v r.val) (max μ x)
      (fun j => v0 (ix4 0 0 r j)) (fun j => st0 (ix2 j q)) (fun j => hv0 r j)
      (fun j => by rw [if_pos (by omega)]; exact h0 j q),
    block_sum 256 (e0 + 256) (e' q.val) (hlo q) (hhi q) (fun k => s k (q0 + q.val)) (v r.val) (max μ x)
      (fun j => v1 (ix4 0 0 r j)) (fun j => st1 (ix2 j q)) (fun j => hv1 r j) (fun j => h1 j q),
    ← EReal.coe_mul, rescale, ← EReal.coe_add, ← EReal.coe_add, ← add_assoc,
    partFrom_add _ _ _ _ _ _ h496 (by omega), partFrom_add _ _ _ _ _ _ (by omega) (hlo q)]

/-- A step over 256 keys, of which the query `q` sees those up to `e' q`. -/
theorem step1 (st0 : FVec Ideal S256x256 .f32) (v0 : FVec Ideal S1x1x80x256 .bf16)
    (h496 : 496 ≤ e0) (hlo : ∀ q : Fin 256, e0 ≤ e' q.val) (hhi : ∀ q : Fin 256, e' q.val ≤ e0 + 256)
    (hx : ∀ q : Fin 256, ∃ x : ℝ, xs (ix2 0 q) = (x : EReal))
    (h0 : ∀ j q : Fin 256, st0 (ix2 j q)
      = if e0 + j.val < e' q.val then ((s (e0 + j.val) (q0 + q.val) : ℝ) : EReal) else ⊥)
    (hv0 : ∀ (r : Fin 80) (j : Fin 256), v0 (ix4 0 0 r j) = ((v r.val (e0 + j.val) : ℝ) : EReal))
    (h : Ok s v q0 (fun _ => e0) m a) :
    Ok s v q0 e' (putM xs m) (putA1 xs m st0 v0 a) := by
  intro q
  obtain ⟨μ, hμ, hA⟩ := h q
  obtain ⟨x, hx⟩ := hx q
  refine ⟨max μ x, ?_, fun r => ?_⟩
  · rw [putM_at, hμ, hx, max_coe]
  rw [putA1, cast_at, add_at, old_at, dot256_at, hμ, hx, max_coe, exp2_sub_coe, hA,
    block_sum 256 e0 (e' q.val) (hlo q) (hhi q) (fun k => s k (q0 + q.val)) (v r.val) (max μ x)
      (fun j => v0 (ix4 0 0 r j)) (fun j => st0 (ix2 j q)) (fun j => hv0 r j) (fun j => h0 j q),
    ← EReal.coe_mul, rescale, ← EReal.coe_add, partFrom_add _ _ _ _ _ _ h496 (hlo q)]

/-- The first step, over the 16 leading keys, from the maximum `-∞` and no sums. -/
theorem step0 (st0 : FVec Ideal S16x256 .f32) (v0 : FVec Ideal S1x1x80x16 .bf16)
    (hx : ∀ q : Fin 256, ∃ x : ℝ, xs (ix2 0 q) = (x : EReal))
    (h0 : ∀ (j : Fin 16) (q : Fin 256), st0 (ix2 j q) = ((s (496 + j.val) (q0 + q.val) : ℝ) : EReal))
    (hv0 : ∀ (r : Fin 80) (j : Fin 16), v0 (ix4 0 0 r j) = ((v r.val (496 + j.val) : ℝ) : EReal))
    (hm : ∀ q : Fin 256, m (ix3 0 0 q) = ⊥) (ha : ∀ (r : Fin 80) (q : Fin 256), a (ix3 0 r q) = 0) :
    Ok s v q0 (fun _ => 512) (putM xs m) (putA0 xs m st0 v0 a) := by
  intro q
  obtain ⟨x, hx⟩ := hx q
  refine ⟨x, ?_, fun r => ?_⟩
  · rw [putM_at, hm, hx, max_eq_right bot_le]
  rw [putA0, cast_at, add_at, old_at, dot16_at, hm, hx, max_eq_right bot_le, ha, mul_zero, zero_add,
    block_sum 16 496 512 (by omega) le_rfl (fun k => s k (q0 + q.val)) (v r.val) x
      (fun j => v0 (ix4 0 0 r j)) (fun j => st0 (ix2 j q)) (fun j => hv0 r j)
      (fun j => by rw [if_pos (by omega)]; exact h0 j q)]

end

/-- The end of the keys may be written differently. -/
theorem Ok.congr {s v : ℕ → ℕ → ℝ} {q0 : ℕ} {e e' : ℕ → ℕ} {M : FVec Ideal S1x1x256 .f32}
    {A : FVec Ideal S1x80x256 .f32} (h : Ok s v q0 e M A) (he : ∀ q : Fin 256, e q.val = e' q.val) :
    Ok s v q0 e' M A := by
  intro q
  rw [← he q]
  exact h q

end Cert.Proof.Value
-- ==== Proof.Value.Scores.lean ====
/-
The scores of a block of keys, their column maxima, and the steps of `Tile` stated for what the buffers hold.
-/
module

public import proofs.«01_k».proof.Proof.Value.Tile
public import Idealize.ShloMosaic.Lib.WordCmp

@[expose] public section

set_option maxRecDepth 16384

noncomputable section

namespace Cert.Proof.Value

open Cert.KernelIdeal Cert.KernelIdeal.Gen
open Idealize.ShloMosaic

/-- A buffer of scores holds those of the keys from `e0` on. -/
def ScB (s : ℕ → ℕ → ℝ) (e0 : ℕ) (buf : FVec Ideal S1x512x1024 .f32) : Prop :=
  ∀ (j : Fin 512) (q : Fin 1024), buf (ix3 0 j q) = ((s (e0 + j.val) q.val : ℝ) : EReal)

/-- A half buffer of scores, for the queries from `qb` on. -/
def ScH (s : ℕ → ℕ → ℝ) (e0 qb : ℕ) (buf : FVec Ideal S1x512x512 .f32) : Prop :=
  ∀ j w : Fin 512, buf (ix3 0 j w) = ((s (e0 + j.val) (qb + w.val) : ℝ) : EReal)

/-- A row of maxima holds real numbers. -/
def ReB (x : FVec Ideal S1x1x1024 .f32) : Prop := ∀ q : Fin 1024, ∃ r : ℝ, x (ix3 0 0 q) = (r : EReal)

/-- A block of values holds those of the keys from `e0` on. -/
def VB (v : ℕ → ℕ → ℝ) (e0 : ℕ) (b : FVec Ideal S1x1x80x256 .bf16) : Prop :=
  ∀ (r : Fin 80) (j : Fin 256), b (ix4 0 0 r j) = ((v r.val (e0 + j.val) : ℝ) : EReal)

/-- A block of `128`-long key rows. -/
def KB (n : ℕ) (k : ℕ → ℕ → ℝ) (e0 : ℕ) (b : FVec Ideal (⟨3, ![1, n, 128]⟩ : Shape) .bf16) : Prop :=
  ∀ (j : Fin n) (l : Fin 128), b (ix3 0 j l) = ((k (e0 + j.val) l.val : ℝ) : EReal)

/-- A block of query columns. -/
def QB (n : ℕ) (x : ℕ → ℕ → ℝ) (qb : ℕ) (b : FVec Ideal (⟨3, ![1, 128, n]⟩ : Shape) .bf16) : Prop :=
  ∀ (l : Fin 128) (q : Fin n), b (ix3 0 l q) = ((x l.val (qb + q.val) : ℝ) : EReal)

/-- The score of a key and a query: the contraction over the 128 lanes. -/
def score (k x : ℕ → ℕ → ℝ) (key q : ℕ) : ℝ := ∑ l : Fin 128, k key l.val * x l.val q

theorem slice_at (o q0 : ℕ) (buf : FVec Ideal S1x512x1024 .f32) (h : S512x1024.Slices ![o, q0] S256x256)
    (j q : Fin 256) (ho : o + j.val < 512) (hq : q0 + q.val < 1024) :
    extractStridedSlice S256x256 ![o, q0] (shapeCast S512x1024 buf shapeCasts_S1x512x1024_S512x1024) h (ix2 j q)
      = buf (ix3 0 ⟨o + j.val, ho⟩ ⟨q0 + q.val, hq⟩) := by
  pointwise

theorem sliceX_at (q0 : ℕ) (x : FVec Ideal S1x1x1024 .f32) (h : S1x1024.Slices ![0, q0] S1x256)
    (q : Fin 256) (hq : q0 + q.val < 1024) :
    extractStridedSlice S1x256 ![0, q0] (shapeCast S1x1024 x shapeCasts_S1x1x1024_S1x1024) h (ix2 0 q)
      = x (ix3 0 0 ⟨q0 + q.val, hq⟩) := by
  pointwise

/-- A full step: 512 keys, all of them seen. -/
theorem stepFull (s v : ℕ → ℕ → ℝ) (e0 q0 : ℕ) (hq0 : q0 + 256 ≤ 1024) (h496 : 496 ≤ e0)
    (buf : FVec Ideal S1x512x1024 .f32) (x : FVec Ideal S1x1x1024 .f32) (m : FVec Ideal S1x1x256 .f32)
    (a : FVec Ideal S1x80x256 .f32) (v0 v1 : FVec Ideal S1x1x80x256 .bf16)
    (hs0 : S512x1024.Slices ![0, q0] S256x256) (hs1 : S512x1024.Slices ![256, q0] S256x256)
    (hsx : S1x1024.Slices ![0, q0] S1x256)
    (hb : ScB s e0 buf) (hx : ReB x) (hv0 : VB v e0 v0) (hv1 : VB v (e0 + 256) v1)
    (h : Ok s v q0 (fun _ => e0) m a) :
    Ok s v q0 (fun _ => e0 + 512)
      (putM (extractStridedSlice S1x256 ![0, q0] (shapeCast S1x1024 x shapeCasts_S1x1x1024_S1x1024) hsx) m)
      (putA2 (extractStridedSlice S1x256 ![0, q0] (shapeCast S1x1024 x shapeCasts_S1x1x1024_S1x1024) hsx) m
        (extractStridedSlice S256x256 ![0, q0] (shapeCast S512x1024 buf shapeCasts_S1x512x1024_S512x1024) hs0)
        (extractStridedSlice S256x256 ![256, q0] (shapeCast S512x1024 buf shapeCasts_S1x512x1024_S512x1024) hs1)
        v0 v1 a) := by
  refine step2 s v q0 e0 _ _ m a _ _ v0 v1 h496 (fun _ => by omega) (fun _ => by omega) ?_ ?_ ?_ hv0 hv1 h
  · intro q
    rw [sliceX_at q0 x hsx q (by omega)]
    exact hx _
  · intro j q
    rw [slice_at 0 q0 buf hs0 j q (by omega) (by omega), hb]
    simp only [Nat.zero_add]
  · intro j q
    rw [slice_at 256 q0 buf hs1 j q (by omega) (by omega), hb, if_pos (by omega), Nat.add_assoc]

/-! ### The masked half buffer -/

/-- The scores of half a block with the keys after the query masked. -/
def mk (buf : FVec Ideal S1x512x512 .f32) : FVec Ideal S512x512 .f32 :=
  select (cmpi .sle (iota .tc S512x512 32 [0] iota_S512x512_d0_w32) (iota .tc S512x512 32 [1] iota_S512x512_d1_w32))
    (shapeCast S512x512 buf shapeCasts_S1x512x512_S512x512)
    (broadcast S512x512 (Named.named (F := Ideal) κ "mask" 0xF149F2CA#32 : Ideal .f32))

/-- The column maxima of the masked scores. -/
def mkMax (buf : FVec Ideal S1x512x512 .f32) : FVec Ideal S1x512 .f32 :=
  shapeCast S1x512 (multiReduction .maximumf [0] S512 (mk buf) 0xFF800000#32 reduces_S512x512_S512 (.inl rfl) rfl)
    shapeCasts_S512_S1x512

theorem mask_bot : (Named.named (F := Ideal) κ "mask" 0xF149F2CA#32 : Ideal .f32) = (⊥ : EReal) := rfl

theorem negInf_bits : Ideal.ofBits .f32 0xFF800000#32 = ⊥ := by
  simp [Ideal.ofBits, Ideal.ieee]

theorem mk_at (buf : FVec Ideal S1x512x512 .f32) (j w : Fin 512) :
    mk buf (ix2 j w) = if j.val ≤ w.val then buf (ix3 0 j w) else ⊥ := by
  pointwise [mk]
  rw [WordCmp.cmpi_sle_ofNat (by omega) (by omega), WordCmp.select_ofBool, mask_bot]
  simp only [decide_eq_true_eq]

theorem mkMax_at (buf : FVec Ideal S1x512x512 .f32) (w : Fin 512) :
    mkMax buf (ix2 0 w) = Finset.univ.fold max ⊥ fun j : Fin 512 => mk buf (ix2 j w) := by
  pointwise [mkMax]
  rw [negInf_bits]

theorem mkMax_real (s : ℕ → ℕ → ℝ) (e0 qb : ℕ) (buf : FVec Ideal S1x512x512 .f32) (hb : ScH s e0 qb buf) (w : Fin 512) :
    ∃ r : ℝ, mkMax buf (ix2 0 w) = (r : EReal) := by
  rw [mkMax_at]
  refine fold_max_real _ (fun j => ?_) ⟨0, ?_⟩
  · rw [mk_at, hb]
    split
    · exact EReal.coe_ne_top _
    · exact bot_ne_top
  · rw [mk_at, hb, if_pos (show (0 : Fin 512).val ≤ w.val from Nat.zero_le _)]
    exact EReal.coe_ne_bot _

theorem sliceH_at (o w0 : ℕ) (u : FVec Ideal S512x512 .f32) (h : S512x512.Slices ![o, w0] S256x256)
    (j q : Fin 256) (ho : o + j.val < 512) (hq : w0 + q.val < 512) :
    extractStridedSlice S256x256 ![o, w0] u h (ix2 j q) = u (ix2 ⟨o + j.val, ho⟩ ⟨w0 + q.val, hq⟩) := by
  pointwise

theorem sliceHX_at (w0 : ℕ) (x : FVec Ideal S1x512 .f32) (h : S1x512.Slices ![0, w0] S1x256)
    (q : Fin 256) (hq : w0 + q.val < 512) :
    extractStridedSlice S1x256 ![0, w0] x h (ix2 0 q) = x (ix2 0 ⟨w0 + q.val, hq⟩) := by
  pointwise

/-- The diagonal step of the first 256 queries of half a block. -/
theorem stepDiag1 (s v : ℕ → ℕ → ℝ) (e0 qb : ℕ) (h496 : 496 ≤ e0)
    (buf : FVec Ideal S1x512x512 .f32) (m : FVec Ideal S1x1x256 .f32)
    (a : FVec Ideal S1x80x256 .f32) (v0 : FVec Ideal S1x1x80x256 .bf16)
    (hs0 : S512x512.Slices ![0, 0] S256x256) (hsx : S1x512.Slices ![0, 0] S1x256)
    (hb : ScH s e0 qb buf) (hv0 : VB v e0 v0) (h : Ok s v qb (fun _ => e0) m a) :
    Ok s v qb (fun q => e0 + q + 1)
      (putM (extractStridedSlice S1x256 ![0, 0] (mkMax buf) hsx) m)
      (putA1 (extractStridedSlice S1x256 ![0, 0] (mkMax buf) hsx) m
        (extractStridedSlice S256x256 ![0, 0] (mk buf) hs0) v0 a) := by
  refine step1 s v qb e0 _ _ m a _ v0 h496 (fun q => by omega) (fun q => by omega) ?_ ?_ hv0 h
  · intro q
    rw [sliceHX_at 0 _ hsx q (by omega)]
    exact mkMax_real s e0 qb buf hb _
  · intro j q
    rw [sliceH_at 0 0 _ hs0 j q (by omega) (by omega), mk_at, hb]
    simp only [Nat.zero_add]
    by_cases hj : j.val ≤ q.val
    · rw [if_pos hj, if_pos (by omega)]
    · rw [if_neg hj, if_neg (by omega)]

/-- The diagonal step of the last 256 queries of half a block. -/
theorem stepDiag2 (s v : ℕ → ℕ → ℝ) (e0 qb : ℕ) (h496 : 496 ≤ e0)
    (buf : FVec Ideal S1x512x512 .f32) (m : FVec Ideal S1x1x256 .f32)
    (a : FVec Ideal S1x80x256 .f32) (v0 v1 : FVec Ideal S1x1x80x256 .bf16)
    (hs0 : S512x512.Slices ![0, 256] S256x256) (hs1 : S512x512.Slices ![256, 256] S256x256)
    (hsx : S1x512.Slices ![0, 256] S1x256)
    (hb : ScH s e0 qb buf) (hv0 : VB v e0 v0) (hv1 : VB v (e0 + 256) v1)
    (h : Ok s v (qb + 256) (fun _ => e0) m a) :
    Ok s v (qb + 256) (fun q => e0 + 256 + q + 1)
      (putM (extractStridedSlice S1x256 ![0, 256] (mkMax buf) hsx) m)
      (putA2 (extractStridedSlice S1x256 ![0, 256] (mkMax buf) hsx) m
        (extractStridedSlice S256x256 ![0, 256] (mk buf) hs0) (extractStridedSlice S256x256 ![256, 256] (mk buf) hs1)
        v0 v1 a) := by
  refine step2 s v (qb + 256) e0 _ _ m a _ _ v0 v1 h496 (fun q => by omega) (fun q => by omega) ?_ ?_ ?_ hv0 hv1 h
  · intro q
    rw [sliceHX_at 256 _ hsx q (by omega)]
    exact mkMax_real s e0 qb buf hb _
  · intro j q
    rw [sliceH_at 0 256 _ hs0 j q (by omega) (by omega), mk_at, hb]
    simp only [Nat.zero_add]
    rw [if_pos (by omega), Nat.add_assoc]
  · intro j q
    rw [sliceH_at 256 256 _ hs1 j q (by omega) (by omega), mk_at, hb]
    by_cases hj : j.val ≤ q.val
    · rw [if_pos (by simpa using hj), if_pos (by omega)]
      simp only [Nat.add_assoc]
    · rw [if_neg (by simpa using hj), if_neg (by omega)]

/-! ### The first step -/

/-- The column maxima of the leading keys' scores. -/
def metaMax (st : FVec Ideal S16x1024 .f32) : FVec Ideal S1x1024 .f32 :=
  shapeCast S1x1024 (multiReduction .maximumf [0] S1024 st 0xFF800000#32 reduces_S16x1024_S1024 (.inl rfl) rfl)
    shapeCasts_S1024_S1x1024

theorem metaMax_at (st : FVec Ideal S16x1024 .f32) (w : Fin 1024) :
    metaMax st (ix2 0 w) = Finset.univ.fold max ⊥ fun j : Fin 16 => st (ix2 j w) := by
  pointwise [metaMax]
  rw [negInf_bits]

/-- The leading keys' scores as computed. -/
def metaSc (k : FVec Ideal S1x16x128 .bf16) (x : FVec Ideal S1x128x1024 .bf16) : FVec Ideal S16x1024 .f32 :=
  matmul dot_S16x128_S128x1024_S16x1024_1_0_0_1_n_n none (shapeCast S16x128 k shapeCasts_S1x16x128_S16x128)
    (shapeCast S128x1024 x shapeCasts_S1x128x1024_S128x1024) (constant S16x1024 .f32 0x00000000#32)

theorem metaSc_at (k : FVec Ideal S1x16x128 .bf16) (x : FVec Ideal S1x128x1024 .bf16) (j : Fin 16) (q : Fin 1024) :
    metaSc k x (ix2 j q) = ∑ l : Fin 128, k (ix3 0 j l) * x (ix3 0 l q) := by
  pointwise [metaSc]

theorem slice16_at (q0 : ℕ) (u : FVec Ideal S16x1024 .f32) (h : S16x1024.Slices ![0, q0] S16x256)
    (j : Fin 16) (q : Fin 256) (hq : q0 + q.val < 1024) :
    extractStridedSlice S16x256 ![0, q0] u h (ix2 j q) = u (ix2 j ⟨q0 + q.val, hq⟩) := by
  pointwise

theorem sliceY_at (q0 : ℕ) (x : FVec Ideal S1x1024 .f32) (h : S1x1024.Slices ![0, q0] S1x256)
    (q : Fin 256) (hq : q0 + q.val < 1024) :
    extractStridedSlice S1x256 ![0, q0] x h (ix2 0 q) = x (ix2 0 ⟨q0 + q.val, hq⟩) := by
  pointwise

/-- A contraction of real numbers is the real contraction. -/
theorem sum_real (f g : Fin 128 → EReal) (a b : ℕ → ℝ) (hf : ∀ l, f l = (a l.val : EReal))
    (hg : ∀ l, g l = (b l.val : EReal)) :
    ∑ l, f l * g l = ((∑ l : Fin 128, a l.val * b l.val : ℝ) : EReal) := by
  rw [coe_sum]
  refine Finset.sum_congr rfl fun l _ => ?_
  rw [hf, hg, EReal.coe_mul]

theorem metaSc_real (k x : ℕ → ℕ → ℝ) (kb : FVec Ideal S1x16x128 .bf16) (xb : FVec Ideal S1x128x1024 .bf16)
    (hk : KB 16 k 496 kb) (hx : QB 1024 x 0 xb) (j : Fin 16) (q : Fin 1024) :
    metaSc kb xb (ix2 j q) = ((score k x (496 + j.val) q.val : ℝ) : EReal) := by
  rw [metaSc_at]
  refine sum_real (fun l => kb (ix3 0 j l)) (fun l => xb (ix3 0 l q)) (k (496 + j.val)) (fun l => x l q.val)
    (fun l => hk j l) (fun l => ?_)
  exact (hx l q).trans (by rw [Nat.zero_add])

/-- The first step: the 16 leading keys. -/
theorem stepMeta (k x v : ℕ → ℕ → ℝ) (q0 : ℕ) (hq0 : q0 + 256 ≤ 1024)
    (kb : FVec Ideal S1x16x128 .bf16) (xb : FVec Ideal S1x128x1024 .bf16) (m : FVec Ideal S1x1x256 .f32)
    (a : FVec Ideal S1x80x256 .f32) (v0 : FVec Ideal S1x1x80x16 .bf16)
    (hs0 : S16x1024.Slices ![0, q0] S16x256) (hsx : S1x1024.Slices ![0, q0] S1x256)
    (hk : KB 16 k 496 kb) (hx : QB 1024 x 0 xb)
    (hv0 : ∀ (r : Fin 80) (j : Fin 16), v0 (ix4 0 0 r j) = ((v r.val (496 + j.val) : ℝ) : EReal))
    (hm : ∀ q : Fin 256, m (ix3 0 0 q) = ⊥) (ha : ∀ (r : Fin 80) (q : Fin 256), a (ix3 0 r q) = 0) :
    Ok (score k x) v q0 (fun _ => 512)
      (putM (extractStridedSlice S1x256 ![0, q0] (metaMax (metaSc kb xb)) hsx) m)
      (putA0 (extractStridedSlice S1x256 ![0, q0] (metaMax (metaSc kb xb)) hsx) m
        (extractStridedSlice S16x256 ![0, q0] (metaSc kb xb) hs0) v0 a) := by
  refine step0 (score k x) v q0 _ m a _ v0 ?_ ?_ hv0 hm ha
  · intro q
    rw [sliceY_at q0 _ hsx q (by omega), metaMax_at]
    refine fold_max_real _ (fun j => ?_) ⟨0, ?_⟩
    · rw [metaSc_real k x kb xb hk hx]
      exact EReal.coe_ne_top _
    · rw [metaSc_real k x kb xb hk hx]
      exact EReal.coe_ne_bot _
  · intro j q
    rw [slice16_at q0 _ hs0 j q (by omega), metaSc_real k x kb xb hk hx]

/-! ### The scores of a whole block -/

/-- The scores of 512 keys and 1024 queries as computed. -/
def blkSc (k : FVec Ideal S1x512x128 .bf16) (x : FVec Ideal S1x128x1024 .bf16) : FVec Ideal S512x1024 .f32 :=
  matmul dot_S512x128_S128x1024_S512x1024_1_0_0_1_n_n none (shapeCast S512x128 k shapeCasts_S1x512x128_S512x128)
    (shapeCast S128x1024 x shapeCasts_S1x128x1024_S128x1024) (constant S512x1024 .f32 0x00000000#32)

theorem blkSc_at (k : FVec Ideal S1x512x128 .bf16) (x : FVec Ideal S1x128x1024 .bf16) (j : Fin 512) (q : Fin 1024) :
    blkSc k x (ix2 j q) = ∑ l : Fin 128, k (ix3 0 j l) * x (ix3 0 l q) := by
  pointwise [blkSc]

/-- The stored scores. -/
def putSc (k : FVec Ideal S1x512x128 .bf16) (x : FVec Ideal S1x128x1024 .bf16) : FVec Ideal S1x512x1024 .f32 :=
  shapeCast S1x512x1024 (blkSc k x) shapeCasts_S512x1024_S1x512x1024

/-- The stored maxima. -/
def putMx (k : FVec Ideal S1x512x128 .bf16) (x : FVec Ideal S1x128x1024 .bf16) : FVec Ideal S1x1x1024 .f32 :=
  shapeCast S1x1x1024 (shapeCast S1x1024 (multiReduction .maximumf [0] S1024 (blkSc k x) 0xFF800000#32
    reduces_S512x1024_S1024 (.inl rfl) rfl) shapeCasts_S1024_S1x1024) shapeCasts_S1x1024_S1x1x1024

theorem putSc_at (k : FVec Ideal S1x512x128 .bf16) (x : FVec Ideal S1x128x1024 .bf16) (j : Fin 512) (q : Fin 1024) :
    putSc k x (ix3 0 j q) = blkSc k x (ix2 j q) := by
  pointwise [putSc]

theorem putMx_at (k : FVec Ideal S1x512x128 .bf16) (x : FVec Ideal S1x128x1024 .bf16) (w : Fin 1024) :
    putMx k x (ix3 0 0 w) = Finset.univ.fold max ⊥ fun j : Fin 512 => blkSc k x (ix2 j w) := by
  pointwise [putMx]
  rw [negInf_bits]

theorem blkSc_real (k x : ℕ → ℕ → ℝ) (e0 : ℕ) (kb : FVec Ideal S1x512x128 .bf16) (xb : FVec Ideal S1x128x1024 .bf16)
    (hk : KB 512 k e0 kb) (hx : QB 1024 x 0 xb) (j : Fin 512) (q : Fin 1024) :
    blkSc kb xb (ix2 j q) = ((score k x (e0 + j.val) q.val : ℝ) : EReal) := by
  rw [blkSc_at]
  refine sum_real (fun l => kb (ix3 0 j l)) (fun l => xb (ix3 0 l q)) (k (e0 + j.val)) (fun l => x l q.val)
    (fun l => hk j l) (fun l => ?_)
  exact (hx l q).trans (by rw [Nat.zero_add])

theorem putSc_ok (k x : ℕ → ℕ → ℝ) (e0 : ℕ) (kb : FVec Ideal S1x512x128 .bf16) (xb : FVec Ideal S1x128x1024 .bf16)
    (hk : KB 512 k e0 kb) (hx : QB 1024 x 0 xb) : ScB (score k x) e0 (putSc kb xb) := by
  intro j q
  rw [putSc_at, blkSc_real k x e0 kb xb hk hx]

theorem putMx_ok (k x : ℕ → ℕ → ℝ) (e0 : ℕ) (kb : FVec Ideal S1x512x128 .bf16) (xb : FVec Ideal S1x128x1024 .bf16)
    (hk : KB 512 k e0 kb) (hx : QB 1024 x 0 xb) : ReB (putMx kb xb) := by
  intro q
  rw [putMx_at]
  refine fold_max_real _ (fun j => ?_) ⟨0, ?_⟩
  · rw [blkSc_real k x e0 kb xb hk hx]
    exact EReal.coe_ne_top _
  · rw [blkSc_real k x e0 kb xb hk hx]
    exact EReal.coe_ne_bot _

/-- The stored scores of 512 keys and the last 512 queries. -/
def putH (k : FVec Ideal S1x512x128 .bf16) (x : FVec Ideal S1x128x512 .bf16) : FVec Ideal S1x512x512 .f32 :=
  shapeCast S1x512x512 (matmul dot_S512x128_S128x512_S512x512_1_0_0_1_n_n none
    (shapeCast S512x128 k shapeCasts_S1x512x128_S512x128) (shapeCast S128x512 x shapeCasts_S1x128x512_S128x512)
    (constant S512x512 .f32 0x00000000#32)) shapeCasts_S512x512_S1x512x512

theorem putH_at (k : FVec Ideal S1x512x128 .bf16) (x : FVec Ideal S1x128x512 .bf16) (j w : Fin 512) :
    putH k x (ix3 0 j w) = ∑ l : Fin 128, k (ix3 0 j l) * x (ix3 0 l w) := by
  pointwise [putH]

theorem putH_ok (k x : ℕ → ℕ → ℝ) (e0 qb : ℕ) (kb : FVec Ideal S1x512x128 .bf16) (xb : FVec Ideal S1x128x512 .bf16)
    (hk : KB 512 k e0 kb) (hx : QB 512 x qb xb) : ScH (score k x) e0 qb (putH kb xb) := by
  intro j w
  rw [putH_at]
  exact sum_real (fun l => kb (ix3 0 j l)) (fun l => xb (ix3 0 l w)) (k (e0 + j.val)) (fun l => x l (qb + w.val))
    (fun l => hk j l) (fun l => hx l w)

end Cert.Proof.Value
-- ==== Proof.Value.Windows.lean ====
/-
The blocks the kernel loads from its three input windows, as tables of real numbers.
-/
module

public import proofs.«01_k».proof.Proof.Value.Scores
public import Idealize.ShloMosaic.Lib.WholeRead
public import Idealize.ShloMosaic.Lib.Pipeline.ReadBack

@[expose] public section

set_option maxRecDepth 16384

noncomputable section

namespace Cert.Proof.Value

open Cert.KernelIdeal Cert.KernelIdeal.Gen
open Idealize.ShloMosaic Idealize.ShloMosaic.TcCoe

/-- The three input blocks of a grid point are tables of real numbers: `x` of the queries (lane, query), `k` of the
    keys (key, lane), `v` of the values (head of the pair, row, key). -/
structure Inp (x k : ℕ → ℕ → ℝ) (v : ℕ → ℕ → ℕ → ℝ) (x3 : S1x256x1024.Idx → Elt Ideal .bf16)
    (x4 : S1x8704x256.Idx → Elt Ideal .bf16) (x5 : S1x2x80x8704.Idx → Elt Ideal .bf16) : Prop where
  hx : ∀ (l : Fin 256) (q : Fin 1024), (x3 (ix3 0 l q) : EReal) = ((x l.val q.val : ℝ) : EReal)
  hk : ∀ (r : Fin 8704) (l : Fin 256), (x4 (ix3 0 r l) : EReal) = ((k r.val l.val : ℝ) : EReal)
  hv : ∀ (h : Fin 2) (d : Fin 80) (r : Fin 8704), (x5 (ix4 0 h d r) : EReal) = ((v h.val d.val r.val : ℝ) : EReal)

section

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5)

include I

theorem Inp.keys (n : ℕ) (arg4 : Memref sig .tc .vmem S1x8704x256 .bf16) (harg4 : arg4.IsWhole) (off : Fin 3 → ℕ)
    (inb : ∀ a, off a + (⟨3, ![1, n, 128]⟩ : Shape).size a ≤ S1x8704x256.size a) (e0 c0 : ℕ) (hoff : off = ![0, e0, c0]) :
    KB n (fun key l => k key (c0 + l)) e0 (View.readAt (Elt Ideal) arg4.view
      (Rect.unit (s := S1x8704x256) off (⟨3, ![1, n, 128]⟩ : Shape).size inb).toLoadRect (harg4.unread x4)) := by
  subst hoff
  intro j l
  have h1 : e0 + n ≤ 8704 := inb 1
  have h2 : c0 + 128 ≤ 256 := inb 2
  refine (harg4.readAt_unread x4 _ _).trans (Eq.trans (congrArg x4 ?_) (I.hk ⟨e0 + j.val, by omega⟩ ⟨c0 + l.val, by omega⟩))
  funext a
  refine Fin.ext ?_
  show ![0, e0, c0] a + 1 * (ix3 0 j l a).val = _
  fin_cases a
  · rfl
  · exact congrArg (e0 + ·) (Nat.one_mul _)
  · exact congrArg (c0 + ·) (Nat.one_mul _)

theorem Inp.queries (n : ℕ) (arg3 : Memref sig .tc .vmem S1x256x1024 .bf16) (harg3 : arg3.IsWhole) (off : Fin 3 → ℕ)
    (inb : ∀ a, off a + (⟨3, ![1, 128, n]⟩ : Shape).size a ≤ S1x256x1024.size a) (c0 q0 : ℕ) (hoff : off = ![0, c0, q0]) :
    QB n (fun l q => x (c0 + l) q) q0 (View.readAt (Elt Ideal) arg3.view
      (Rect.unit (s := S1x256x1024) off (⟨3, ![1, 128, n]⟩ : Shape).size inb).toLoadRect (harg3.unread x3)) := by
  subst hoff
  intro l q
  have h1 : c0 + 128 ≤ 256 := inb 1
  have h2 : q0 + n ≤ 1024 := inb 2
  refine (harg3.readAt_unread x3 _ _).trans (Eq.trans (congrArg x3 ?_) (I.hx ⟨c0 + l.val, by omega⟩ ⟨q0 + q.val, by omega⟩))
  funext a
  refine Fin.ext ?_
  show ![0, c0, q0] a + 1 * (ix3 0 l q a).val = _
  fin_cases a
  · rfl
  · exact congrArg (c0 + ·) (Nat.one_mul _)
  · exact congrArg (q0 + ·) (Nat.one_mul _)

theorem Inp.vals (n : ℕ) (arg5 : Memref sig .tc .vmem S1x2x80x8704 .bf16) (harg5 : arg5.IsWhole) (off : Fin 4 → ℕ)
    (inb : ∀ a, off a + (⟨4, ![1, 1, 80, n]⟩ : Shape).size a ≤ S1x2x80x8704.size a) (h e0 : ℕ) (hoff : off = ![0, h, 0, e0])
    (r : Fin 80) (j : Fin n) :
    (View.readAt (Elt Ideal) arg5.view
      (Rect.unit (s := S1x2x80x8704) off (⟨4, ![1, 1, 80, n]⟩ : Shape).size inb).toLoadRect (harg5.unread x5)
        (ix4 0 0 r j) : EReal) = ((v h r.val (e0 + j.val) : ℝ) : EReal) := by
  subst hoff
  have h1 : h + 1 ≤ 2 := inb 1
  have h3 : e0 + n ≤ 8704 := inb 3
  refine (harg5.readAt_unread x5 _ _).trans (Eq.trans (congrArg x5 ?_) (I.hv ⟨h, by omega⟩ r ⟨e0 + j.val, by omega⟩))
  funext a
  refine Fin.ext ?_
  show ![0, h, 0, e0] a + 1 * (ix4 0 0 r j a).val = _
  fin_cases a
  · rfl
  · exact congrArg (h + ·) (Nat.one_mul _)
  · exact (Nat.zero_add _).trans (Nat.one_mul _)
  · exact congrArg (e0 + ·) (Nat.one_mul _)

end

/-- The scores of one head of the pair. -/
abbrev sc (x k : ℕ → ℕ → ℝ) (h : ℕ) : ℕ → ℕ → ℝ := score (fun key l => k key (128 * h + l)) (fun l q => x (128 * h + l) q)

end Cert.Proof.Value
-- ==== Proof.Value.TripA.lean ====
/-
What one trip of the key loop does to the running maximum and sums of the eight tiles.

A trip folds two blocks of 512 keys in: the one whose scores it finds in the first score buffer, and the next one,
whose scores it computes into the second buffer; and it leaves the scores of the block after that in the first.
-/
module

public import proofs.«01_k».proof.Proof.KI.Loop
public import proofs.«01_k».proof.Proof.Value.Windows

@[expose] public section

set_option maxRecDepth 65536

noncomputable section

namespace Cert.Proof.Value

open Cert.KernelIdeal Cert.KernelIdeal.Gen Cert.Proof.KI
open Idealize.ShloMosaic Idealize.ShloMosaic.TcCoe

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)
  (arg2 : BitVec 32) (v17 : FVec Ideal S16x1024 .f32) (v151 : FVec Ideal S1x1024 .f32) (v226 : FVec Ideal S1x1x256 .f32)
  (f7 : Buf (Elt Ideal) (arg7.view.loc (c : Thread nD τ)))
  (f9 : Buf (Elt Ideal) (arg9.view.loc (c : Thread nD τ)))
  (f11 : Buf (Elt Ideal) (arg11.view.loc (c : Thread nD τ)))
  (f12 : Buf (Elt Ideal) (arg12.view.loc (c : Thread nD τ)))

theorem Ok.of_eq {s v : ℕ → ℕ → ℝ} {q0 : ℕ} {e : ℕ → ℕ} {M M' : FVec Ideal S1x1x256 .f32}
    {A A' : FVec Ideal S1x80x256 .f32} (hM : M = M') (hA : A = A') (h : Ok s v q0 e M' A') : Ok s v q0 e M A := by
  rw [hM, hA]
  exact h

theorem ScB.of_eq {s : ℕ → ℕ → ℝ} {e : ℕ} {b b' : FVec Ideal S1x512x1024 .f32} (hb : b = b') (h : ScB s e b') :
    ScB s e b := by
  rw [hb]
  exact h

theorem ReB.of_eq {b b' : FVec Ideal S1x1x1024 .f32} (hb : b = b') (h : ReB b') : ReB b := by
  rw [hb]
  exact h

/-- What the four buffers hold between trips: the scores of the block of keys from `e` on and real numbers for their
    maxima, and for each of the eight tiles the running maximum and sums of the keys before `e`. -/
structure Held (x k : ℕ → ℕ → ℝ) (v : ℕ → ℕ → ℕ → ℝ) (e : ℕ) : Prop where
  s0 : ScB (sc x k 0) e (View.readAt (Elt Ideal) arg7.view (Rect.unit (s := S2x512x1024) ![0, 0, 0] S1x512x1024.size (by decide)).toLoadRect f7)
  x0 : ReB (View.readAt (Elt Ideal) arg9.view (Rect.unit (s := S2x1x1024) ![0, 0, 0] S1x1x1024.size (by decide)).toLoadRect f9)
  s1 : ScB (sc x k 1) e (View.readAt (Elt Ideal) arg7.view (Rect.unit (s := S2x512x1024) ![1, 0, 0] S1x512x1024.size (by decide)).toLoadRect f7)
  x1 : ReB (View.readAt (Elt Ideal) arg9.view (Rect.unit (s := S2x1x1024) ![1, 0, 0] S1x1x1024.size (by decide)).toLoadRect f9)
  t0 : Ok (sc x k 0) (v 0) 0 (fun _ => e) (View.readAt (Elt Ideal) arg11.view (Rect.unit (s := S2x1x1024) ![0, 0, 0] S1x1x256.size (by decide)).toLoadRect f11)
    (View.readAt (Elt Ideal) arg12.view (Rect.unit (s := S2x80x1024) ![0, 0, 0] S1x80x256.size (by decide)).toLoadRect f12)
  t1 : Ok (sc x k 0) (v 0) 256 (fun _ => e) (View.readAt (Elt Ideal) arg11.view (Rect.unit (s := S2x1x1024) ![0, 0, 256] S1x1x256.size (by decide)).toLoadRect f11)
    (View.readAt (Elt Ideal) arg12.view (Rect.unit (s := S2x80x1024) ![0, 0, 256] S1x80x256.size (by decide)).toLoadRect f12)
  t2 : Ok (sc x k 0) (v 0) 512 (fun _ => e) (View.readAt (Elt Ideal) arg11.view (Rect.unit (s := S2x1x1024) ![0, 0, 512] S1x1x256.size (by decide)).toLoadRect f11)
    (View.readAt (Elt Ideal) arg12.view (Rect.unit (s := S2x80x1024) ![0, 0, 512] S1x80x256.size (by decide)).toLoadRect f12)
  t3 : Ok (sc x k 0) (v 0) 768 (fun _ => e) (View.readAt (Elt Ideal) arg11.view (Rect.unit (s := S2x1x1024) ![0, 0, 768] S1x1x256.size (by decide)).toLoadRect f11)
    (View.readAt (Elt Ideal) arg12.view (Rect.unit (s := S2x80x1024) ![0, 0, 768] S1x80x256.size (by decide)).toLoadRect f12)
  t4 : Ok (sc x k 1) (v 1) 0 (fun _ => e) (View.readAt (Elt Ideal) arg11.view (Rect.unit (s := S2x1x1024) ![1, 0, 0] S1x1x256.size (by decide)).toLoadRect f11)
    (View.readAt (Elt Ideal) arg12.view (Rect.unit (s := S2x80x1024) ![1, 0, 0] S1x80x256.size (by decide)).toLoadRect f12)
  t5 : Ok (sc x k 1) (v 1) 256 (fun _ => e) (View.readAt (Elt Ideal) arg11.view (Rect.unit (s := S2x1x1024) ![1, 0, 256] S1x1x256.size (by decide)).toLoadRect f11)
    (View.readAt (Elt Ideal) arg12.view (Rect.unit (s := S2x80x1024) ![1, 0, 256] S1x80x256.size (by decide)).toLoadRect f12)
  t6 : Ok (sc x k 1) (v 1) 512 (fun _ => e) (View.readAt (Elt Ideal) arg11.view (Rect.unit (s := S2x1x1024) ![1, 0, 512] S1x1x256.size (by decide)).toLoadRect f11)
    (View.readAt (Elt Ideal) arg12.view (Rect.unit (s := S2x80x1024) ![1, 0, 512] S1x80x256.size (by decide)).toLoadRect f12)
  t7 : Ok (sc x k 1) (v 1) 768 (fun _ => e) (View.readAt (Elt Ideal) arg11.view (Rect.unit (s := S2x1x1024) ![1, 0, 768] S1x1x256.size (by decide)).toLoadRect f11)
    (View.readAt (Elt Ideal) arg12.view (Rect.unit (s := S2x80x1024) ![1, 0, 768] S1x80x256.size (by decide)).toLoadRect f12)

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5) (t : Fin (k0_t1_loop i).trips)

theorem vec3 {a b c0 : ℕ} (h : a = b) : (![0, a, c0] : Fin 3 → ℕ) = ![0, b, c0] := by rw [h]

theorem vec4 {a b c0 : ℕ} (h : a = b) : (![0, c0, 0, a] : Fin 4 → ℕ) = ![0, c0, 0, b] := by rw [h]

include I in
theorem ScB_next0 : ScB (sc x k 0) (1024 * t.val + 512 + 512) (trip.sl.v1135 (F := Ideal) c i arg3 arg4 arg8 (harg3.unread x3) (harg4.unread x4) t) :=
  ScB.of_eq ((View.readCov_skip _ _ _ _ _ (by decide)).trans (View.readCov_cons_toLoadRect _ _ _ _)) (putSc_ok _ _ (1024 * t.val + 512 + 512) _ _
    (I.keys 512 arg4 harg4 _ _ (1024 * t.val + 512 + 512) (128 * 0) ((k0_off1_eq i t ⟨0, by decide⟩).trans (vec3 (show 1024 * t.val + 512 * 0 + 1024 = _ by omega))))
    (I.queries 1024 arg3 harg3 _ _ (128 * 0) 0 rfl))

include I in
theorem ReB_next0 : ReB (trip.sl.v1137 (F := Ideal) c i arg3 arg4 arg10 (harg3.unread x3) (harg4.unread x4) t) :=
  ReB.of_eq ((View.readCov_skip _ _ _ _ _ (by decide)).trans (View.readCov_cons_toLoadRect _ _ _ _)) (putMx_ok _ _ (1024 * t.val + 512 + 512) _ _
    (I.keys 512 arg4 harg4 _ _ (1024 * t.val + 512 + 512) (128 * 0) ((k0_off1_eq i t ⟨0, by decide⟩).trans (vec3 (show 1024 * t.val + 512 * 0 + 1024 = _ by omega))))
    (I.queries 1024 arg3 harg3 _ _ (128 * 0) 0 rfl))

include I in
theorem ScB_next1 : ScB (sc x k 1) (1024 * t.val + 512 + 512) (trip.sl.v1307 (F := Ideal) c i arg3 arg4 arg8 (harg3.unread x3) (harg4.unread x4) t) :=
  ScB.of_eq (View.readCov_cons_toLoadRect _ _ _ _) (putSc_ok _ _ (1024 * t.val + 512 + 512) _ _
    (I.keys 512 arg4 harg4 _ _ (1024 * t.val + 512 + 512) (128 * 1) ((k0_off3_eq i t ⟨0, by decide⟩).trans (vec3 (show 1024 * t.val + 512 * 0 + 1024 = _ by omega))))
    (I.queries 1024 arg3 harg3 _ _ (128 * 1) 0 rfl))

include I in
theorem ReB_next1 : ReB (trip.sl.v1309 (F := Ideal) c i arg3 arg4 arg10 (harg3.unread x3) (harg4.unread x4) t) :=
  ReB.of_eq (View.readCov_cons_toLoadRect _ _ _ _) (putMx_ok _ _ (1024 * t.val + 512 + 512) _ _
    (I.keys 512 arg4 harg4 _ _ (1024 * t.val + 512 + 512) (128 * 1) ((k0_off3_eq i t ⟨0, by decide⟩).trans (vec3 (show 1024 * t.val + 512 * 0 + 1024 = _ by omega))))
    (I.queries 1024 arg3 harg3 _ _ (128 * 1) 0 rfl))

include I in
theorem one0 (H : Held c arg7 arg9 arg11 arg12 f7 f9 f11 f12 x k v (1024 * t.val + 512)) :
    Ok (sc x k 0) (v 0) 0 (fun _ => 1024 * t.val + 512 + 512) (trip.sl.v1139 (F := Ideal) c arg9 arg11 f9 f11)
      (trip.sl.v1166 (F := Ideal) c i arg5 arg7 arg9 arg11 arg12 (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay10, k0_pay11, trip.sl.r, trip.sl.r_2, trip.sl.r_3, k0_pay5, k0_pay8, k0_pay9, k0_pay6,
    k0_pay7]
  exact stepFull (sc x k 0) (v 0) (1024 * t.val + 512) 0 (by omega) (by omega) _ _ _ _ _ _ _ _ _ H.s0 H.x0
    (I.vals 256 arg5 harg5 _ _ 0 (1024 * t.val + 512)
      ((k0_off2_eq i t ⟨0, by decide⟩).trans (vec4 (show 1024 * t.val + 256 * 0 + 512 = _ by omega))))
    (I.vals 256 arg5 harg5 _ _ 0 (1024 * t.val + 512 + 256)
      ((k0_off2_eq i t ⟨1, by decide⟩).trans (vec4 (show 1024 * t.val + 256 * 1 + 512 = _ by omega))))
    H.t0

include I in
theorem one1 (H : Held c arg7 arg9 arg11 arg12 f7 f9 f11 f12 x k v (1024 * t.val + 512)) :
    Ok (sc x k 0) (v 0) 256 (fun _ => 1024 * t.val + 512 + 512) (trip.sl.v1177 (F := Ideal) c i arg3 arg4 arg9 arg10 arg11 (harg3.unread x3) (harg4.unread x4) f9 f11 t)
      (trip.sl.v1204 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay15, k0_pay16, trip.sl.r, trip.sl.r_4, trip.sl.r_5, k0_pay14, k0_pay5, k0_pay12, k0_pay13,
    trip.sl.r_1, k0_pay6]
  exact stepFull (sc x k 0) (v 0) (1024 * t.val + 512) 256 (by omega) (by omega) _ _ _ _ _ _ _ _ _ H.s0 H.x0
    (I.vals 256 arg5 harg5 _ _ 0 (1024 * t.val + 512)
      ((k0_off2_eq i t ⟨0, by decide⟩).trans (vec4 (show 1024 * t.val + 256 * 0 + 512 = _ by omega))))
    (I.vals 256 arg5 harg5 _ _ 0 (1024 * t.val + 512 + 256)
      ((k0_off2_eq i t ⟨1, by decide⟩).trans (vec4 (show 1024 * t.val + 256 * 1 + 512 = _ by omega))))
    H.t1

include I in
theorem one2 (H : Held c arg7 arg9 arg11 arg12 f7 f9 f11 f12 x k v (1024 * t.val + 512)) :
    Ok (sc x k 0) (v 0) 512 (fun _ => 1024 * t.val + 512 + 512) (trip.sl.v1215 (F := Ideal) c i arg3 arg4 arg9 arg10 arg11 (harg3.unread x3) (harg4.unread x4) f9 f11 t)
      (trip.sl.v1242 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay19, k0_pay20, trip.sl.r, trip.sl.r_1, k0_pay17, k0_pay18, k0_pay5, k0_pay6]
  exact stepFull (sc x k 0) (v 0) (1024 * t.val + 512) 512 (by omega) (by omega) _ _ _ _ _ _ _ _ _ H.s0 H.x0
    (I.vals 256 arg5 harg5 _ _ 0 (1024 * t.val + 512)
      ((k0_off2_eq i t ⟨0, by decide⟩).trans (vec4 (show 1024 * t.val + 256 * 0 + 512 = _ by omega))))
    (I.vals 256 arg5 harg5 _ _ 0 (1024 * t.val + 512 + 256)
      ((k0_off2_eq i t ⟨1, by decide⟩).trans (vec4 (show 1024 * t.val + 256 * 1 + 512 = _ by omega))))
    H.t2

include I in
theorem one3 (H : Held c arg7 arg9 arg11 arg12 f7 f9 f11 f12 x k v (1024 * t.val + 512)) :
    Ok (sc x k 0) (v 0) 768 (fun _ => 1024 * t.val + 512 + 512) (trip.sl.v1253 (F := Ideal) c i arg3 arg4 arg9 arg10 arg11 (harg3.unread x3) (harg4.unread x4) f9 f11 t)
      (trip.sl.v1280 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay23, k0_pay24, trip.sl.r, trip.sl.r_1, k0_pay21, k0_pay22, k0_pay5, k0_pay6]
  exact stepFull (sc x k 0) (v 0) (1024 * t.val + 512) 768 (by omega) (by omega) _ _ _ _ _ _ _ _ _ H.s0 H.x0
    (I.vals 256 arg5 harg5 _ _ 0 (1024 * t.val + 512)
      ((k0_off2_eq i t ⟨0, by decide⟩).trans (vec4 (show 1024 * t.val + 256 * 0 + 512 = _ by omega))))
    (I.vals 256 arg5 harg5 _ _ 0 (1024 * t.val + 512 + 256)
      ((k0_off2_eq i t ⟨1, by decide⟩).trans (vec4 (show 1024 * t.val + 256 * 1 + 512 = _ by omega))))
    H.t3

include I in
theorem one4 (H : Held c arg7 arg9 arg11 arg12 f7 f9 f11 f12 x k v (1024 * t.val + 512)) :
    Ok (sc x k 1) (v 1) 0 (fun _ => 1024 * t.val + 512 + 512) (trip.sl.v1311 (F := Ideal) c i arg3 arg4 arg9 arg10 arg11 (harg3.unread x3) (harg4.unread x4) f9 f11 t)
      (trip.sl.v1338 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay34, k0_pay35, trip.sl.r_10, trip.sl.r_6, trip.sl.r_8, trip.sl.r_9, k0_pay33, k0_pay28,
    k0_pay31, k0_pay32, k0_pay29, k0_pay30]
  exact stepFull (sc x k 1) (v 1) (1024 * t.val + 512) 0 (by omega) (by omega) _ _ _ _ _ _ _ _ _ H.s1 H.x1
    (I.vals 256 arg5 harg5 _ _ 1 (1024 * t.val + 512)
      ((k0_off4_eq i t ⟨0, by decide⟩).trans (vec4 (show 1024 * t.val + 256 * 0 + 512 = _ by omega))))
    (I.vals 256 arg5 harg5 _ _ 1 (1024 * t.val + 512 + 256)
      ((k0_off4_eq i t ⟨1, by decide⟩).trans (vec4 (show 1024 * t.val + 256 * 1 + 512 = _ by omega))))
    H.t4

include I in
theorem one5 (H : Held c arg7 arg9 arg11 arg12 f7 f9 f11 f12 x k v (1024 * t.val + 512)) :
    Ok (sc x k 1) (v 1) 256 (fun _ => 1024 * t.val + 512 + 512) (trip.sl.v1349 (F := Ideal) c i arg3 arg4 arg9 arg10 arg11 (harg3.unread x3) (harg4.unread x4) f9 f11 t)
      (trip.sl.v1376 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay40, k0_pay41, trip.sl.r_11, trip.sl.r_12, trip.sl.r_13, trip.sl.r_6, k0_pay37, trip.sl.r_7,
    k0_pay38, k0_pay39, k0_pay28, k0_pay36, k0_pay29]
  exact stepFull (sc x k 1) (v 1) (1024 * t.val + 512) 256 (by omega) (by omega) _ _ _ _ _ _ _ _ _ H.s1 H.x1
    (I.vals 256 arg5 harg5 _ _ 1 (1024 * t.val + 512)
      ((k0_off4_eq i t ⟨0, by decide⟩).trans (vec4 (show 1024 * t.val + 256 * 0 + 512 = _ by omega))))
    (I.vals 256 arg5 harg5 _ _ 1 (1024 * t.val + 512 + 256)
      ((k0_off4_eq i t ⟨1, by decide⟩).trans (vec4 (show 1024 * t.val + 256 * 1 + 512 = _ by omega))))
    H.t5

include I in
theorem one6 (H : Held c arg7 arg9 arg11 arg12 f7 f9 f11 f12 x k v (1024 * t.val + 512)) :
    Ok (sc x k 1) (v 1) 512 (fun _ => 1024 * t.val + 512 + 512) (trip.sl.v1387 (F := Ideal) c i arg3 arg4 arg9 arg10 arg11 (harg3.unread x3) (harg4.unread x4) f9 f11 t)
      (trip.sl.v1414 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay46, k0_pay47, trip.sl.r_14, trip.sl.r_15, trip.sl.r_16, trip.sl.r_6, k0_pay43, trip.sl.r_7,
    k0_pay44, k0_pay45, k0_pay28, k0_pay42, k0_pay29]
  exact stepFull (sc x k 1) (v 1) (1024 * t.val + 512) 512 (by omega) (by omega) _ _ _ _ _ _ _ _ _ H.s1 H.x1
    (I.vals 256 arg5 harg5 _ _ 1 (1024 * t.val + 512)
      ((k0_off4_eq i t ⟨0, by decide⟩).trans (vec4 (show 1024 * t.val + 256 * 0 + 512 = _ by omega))))
    (I.vals 256 arg5 harg5 _ _ 1 (1024 * t.val + 512 + 256)
      ((k0_off4_eq i t ⟨1, by decide⟩).trans (vec4 (show 1024 * t.val + 256 * 1 + 512 = _ by omega))))
    H.t6

include I in
theorem one7 (H : Held c arg7 arg9 arg11 arg12 f7 f9 f11 f12 x k v (1024 * t.val + 512)) :
    Ok (sc x k 1) (v 1) 768 (fun _ => 1024 * t.val + 512 + 512) (trip.sl.v1425 (F := Ideal) c i arg3 arg4 arg9 arg10 arg11 (harg3.unread x3) (harg4.unread x4) f9 f11 t)
      (trip.sl.v1452 (F := Ideal) c i arg3 arg4 arg5 arg7 arg8 arg9 arg10 arg11 arg12 (harg3.unread x3) (harg4.unread x4) (harg5.unread x5) f7 f9 f11 f12 t) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay52, k0_pay53, trip.sl.r_17, trip.sl.r_18, trip.sl.r_19, trip.sl.r_6, k0_pay49, trip.sl.r_7,
    k0_pay50, k0_pay51, k0_pay28, k0_pay48, k0_pay29]
  exact stepFull (sc x k 1) (v 1) (1024 * t.val + 512) 768 (by omega) (by omega) _ _ _ _ _ _ _ _ _ H.s1 H.x1
    (I.vals 256 arg5 harg5 _ _ 1 (1024 * t.val + 512)
      ((k0_off4_eq i t ⟨0, by decide⟩).trans (vec4 (show 1024 * t.val + 256 * 0 + 512 = _ by omega))))
    (I.vals 256 arg5 harg5 _ _ 1 (1024 * t.val + 512 + 256)
      ((k0_off4_eq i t ⟨1, by decide⟩).trans (vec4 (show 1024 * t.val + 256 * 1 + 512 = _ by omega))))
    H.t7

end Cert.Proof.Value
-- ==== Proof.Value.TripB.lean ====
/-
The second block of a trip, and what a trip leaves: the eight tiles 1024 keys further, and the next scores.
-/
module

public import proofs.«01_k».proof.Proof.Value.TripA

@[expose] public section

set_option maxRecDepth 65536

noncomputable section

namespace Cert.Proof.Value

open Cert.KernelIdeal Cert.KernelIdeal.Gen Cert.Proof.KI
open Idealize.ShloMosaic Idealize.ShloMosaic.TcCoe

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)
  (arg2 : BitVec 32) (v17 : FVec Ideal S16x1024 .f32) (v151 : FVec Ideal S1x1024 .f32) (v226 : FVec Ideal S1x1x256 .f32)
  (f7 : Buf (Elt Ideal) (arg7.view.loc (c : Thread nD τ)))
  (f9 : Buf (Elt Ideal) (arg9.view.loc (c : Thread nD τ)))
  (f11 : Buf (Elt Ideal) (arg11.view.loc (c : Thread nD τ)))
  (f12 : Buf (Elt Ideal) (arg12.view.loc (c : Thread nD τ)))

theorem readAt_skip {sig : RefSig} {κ : Kind} {sp : Space} {s : Shape} {e : EltTy} {Val : EltTy → Type}
    (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  exact View.read_writes_cons_miss v f ⟨r, w⟩ L _ (LoadRect.idx_not_mem_of_disj h j)

theorem readAt_hit {sig : RefSig} {κ : Kind} {sp : Space} {s : Shape} {e : EltTy} {Val : EltTy → Type}
    (v : View sig κ sp s e) (f : v.ty.Contents Val) (r : Rect s) (w : r.shape.Idx → Val e)
    (L : List (View.Piece Val s e)) : v.readAt Val r.toLoadRect (v.writes Val f (⟨r, w⟩ :: L)) = w := by
  funext j
  exact View.read_writes_cons_emb v f r w L j

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5) (t : Fin (k0_t1_loop i).trips)

include I in
theorem two0 (H : Held c arg7 arg9 arg11 arg12 f7 f9 f11 f12 x k v (1024 * t.val + 512)) :
    Ok (sc x k 0) (v 0) 0 (fun _ => 1024 * t.val + 512 + 512 + 512)
      (View.readAt (Elt Ideal) arg11.view (Rect.unit (s := S2x1x1024) ![0, 0, 0] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![0, 0, 0] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay63, k0_pay64, trip.sl.r_20, trip.sl.r_22, trip.sl.r_23, trip.sl.r_24, trip.sl.r_25, k0_pay57,
    k0_pay60, k0_pay61, k0_pay62, k0_pay58, k0_pay59]
  exact stepFull (sc x k 0) (v 0) (1024 * t.val + 512 + 512) 0 (by omega) (by omega) _ _ _ _ _ _ _ _ _
    (ScB_next0 c i arg3 harg3 arg4 harg4 arg8 I t) (ReB_next0 c i arg3 harg3 arg4 harg4 arg10 I t)
    (I.vals 256 arg5 harg5 _ _ 0 (1024 * t.val + 512 + 512)
      ((k0_off5_eq i t ⟨0, by decide⟩).trans (vec4 (show 1024 * t.val + 256 * 0 + 1024 = _ by omega))))
    (I.vals 256 arg5 harg5 _ _ 0 (1024 * t.val + 512 + 512 + 256)
      ((k0_off5_eq i t ⟨1, by decide⟩).trans (vec4 (show 1024 * t.val + 256 * 1 + 1024 = _ by omega))))
    (one0 c i arg5 harg5 arg7 arg9 arg11 arg12 f7 f9 f11 f12 I t H)

include I in
theorem two1 (H : Held c arg7 arg9 arg11 arg12 f7 f9 f11 f12 x k v (1024 * t.val + 512)) :
    Ok (sc x k 0) (v 0) 256 (fun _ => 1024 * t.val + 512 + 512 + 512)
      (View.readAt (Elt Ideal) arg11.view (Rect.unit (s := S2x1x1024) ![0, 0, 256] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![0, 0, 256] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay69, k0_pay70, trip.sl.r_20, trip.sl.r_26, trip.sl.r_27, trip.sl.r_28, k0_pay57, k0_pay66,
    trip.sl.r_21, k0_pay67, k0_pay68, k0_pay65, k0_pay58]
  exact stepFull (sc x k 0) (v 0) (1024 * t.val + 512 + 512) 256 (by omega) (by omega) _ _ _ _ _ _ _ _ _
    (ScB_next0 c i arg3 harg3 arg4 harg4 arg8 I t) (ReB_next0 c i arg3 harg3 arg4 harg4 arg10 I t)
    (I.vals 256 arg5 harg5 _ _ 0 (1024 * t.val + 512 + 512)
      ((k0_off5_eq i t ⟨0, by decide⟩).trans (vec4 (show 1024 * t.val + 256 * 0 + 1024 = _ by omega))))
    (I.vals 256 arg5 harg5 _ _ 0 (1024 * t.val + 512 + 512 + 256)
      ((k0_off5_eq i t ⟨1, by decide⟩).trans (vec4 (show 1024 * t.val + 256 * 1 + 1024 = _ by omega))))
    (one1 c i arg3 harg3 arg4 harg4 arg5 harg5 arg7 arg8 arg9 arg10 arg11 arg12 f7 f9 f11 f12 I t H)

include I in
theorem two2 (H : Held c arg7 arg9 arg11 arg12 f7 f9 f11 f12 x k v (1024 * t.val + 512)) :
    Ok (sc x k 0) (v 0) 512 (fun _ => 1024 * t.val + 512 + 512 + 512)
      (View.readAt (Elt Ideal) arg11.view (Rect.unit (s := S2x1x1024) ![0, 0, 512] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![0, 0, 512] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay75, k0_pay76, trip.sl.r_20, trip.sl.r_29, trip.sl.r_30, trip.sl.r_31, k0_pay57, k0_pay72,
    trip.sl.r_21, k0_pay73, k0_pay74, k0_pay71, k0_pay58]
  exact stepFull (sc x k 0) (v 0) (1024 * t.val + 512 + 512) 512 (by omega) (by omega) _ _ _ _ _ _ _ _ _
    (ScB_next0 c i arg3 harg3 arg4 harg4 arg8 I t) (ReB_next0 c i arg3 harg3 arg4 harg4 arg10 I t)
    (I.vals 256 arg5 harg5 _ _ 0 (1024 * t.val + 512 + 512)
      ((k0_off5_eq i t ⟨0, by decide⟩).trans (vec4 (show 1024 * t.val + 256 * 0 + 1024 = _ by omega))))
    (I.vals 256 arg5 harg5 _ _ 0 (1024 * t.val + 512 + 512 + 256)
      ((k0_off5_eq i t ⟨1, by decide⟩).trans (vec4 (show 1024 * t.val + 256 * 1 + 1024 = _ by omega))))
    (one2 c i arg3 harg3 arg4 harg4 arg5 harg5 arg7 arg8 arg9 arg10 arg11 arg12 f7 f9 f11 f12 I t H)

include I in
theorem two3 (H : Held c arg7 arg9 arg11 arg12 f7 f9 f11 f12 x k v (1024 * t.val + 512)) :
    Ok (sc x k 0) (v 0) 768 (fun _ => 1024 * t.val + 512 + 512 + 512)
      (View.readAt (Elt Ideal) arg11.view (Rect.unit (s := S2x1x1024) ![0, 0, 768] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![0, 0, 768] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay81, k0_pay82, trip.sl.r_20, trip.sl.r_32, trip.sl.r_33, trip.sl.r_34, k0_pay57, k0_pay78,
    trip.sl.r_21, k0_pay79, k0_pay80, k0_pay77, k0_pay58]
  exact stepFull (sc x k 0) (v 0) (1024 * t.val + 512 + 512) 768 (by omega) (by omega) _ _ _ _ _ _ _ _ _
    (ScB_next0 c i arg3 harg3 arg4 harg4 arg8 I t) (ReB_next0 c i arg3 harg3 arg4 harg4 arg10 I t)
    (I.vals 256 arg5 harg5 _ _ 0 (1024 * t.val + 512 + 512)
      ((k0_off5_eq i t ⟨0, by decide⟩).trans (vec4 (show 1024 * t.val + 256 * 0 + 1024 = _ by omega))))
    (I.vals 256 arg5 harg5 _ _ 0 (1024 * t.val + 512 + 512 + 256)
      ((k0_off5_eq i t ⟨1, by decide⟩).trans (vec4 (show 1024 * t.val + 256 * 1 + 1024 = _ by omega))))
    (one3 c i arg3 harg3 arg4 harg4 arg5 harg5 arg7 arg8 arg9 arg10 arg11 arg12 f7 f9 f11 f12 I t H)

include I in
theorem two4 (H : Held c arg7 arg9 arg11 arg12 f7 f9 f11 f12 x k v (1024 * t.val + 512)) :
    Ok (sc x k 1) (v 1) 0 (fun _ => 1024 * t.val + 512 + 512 + 512)
      (View.readAt (Elt Ideal) arg11.view (Rect.unit (s := S2x1x1024) ![1, 0, 0] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![1, 0, 0] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      readAt_hit _ _ _ _ _) ?_
  dsimp only [k0_pay95, k0_pay96, trip.sl.r_39, trip.sl.r_40, trip.sl.r_41, trip.sl.r_42, k0_pay91, k0_pay92,
    k0_pay93, k0_pay94, k0_pay89, k0_pay90, k0_pay88]
  exact stepFull (sc x k 1) (v 1) (1024 * t.val + 512 + 512) 0 (by omega) (by omega) _ _ _ _ _ _ _ _ _
    (ScB_next1 c i arg3 harg3 arg4 harg4 arg8 I t) (ReB_next1 c i arg3 harg3 arg4 harg4 arg10 I t)
    (I.vals 256 arg5 harg5 _ _ 1 (1024 * t.val + 512 + 512)
      ((k0_off6_eq i t ⟨0, by decide⟩).trans (vec4 (show 1024 * t.val + 256 * 0 + 1024 = _ by omega))))
    (I.vals 256 arg5 harg5 _ _ 1 (1024 * t.val + 512 + 512 + 256)
      ((k0_off6_eq i t ⟨1, by decide⟩).trans (vec4 (show 1024 * t.val + 256 * 1 + 1024 = _ by omega))))
    (one4 c i arg3 harg3 arg4 harg4 arg5 harg5 arg7 arg8 arg9 arg10 arg11 arg12 f7 f9 f11 f12 I t H)

include I in
theorem two5 (H : Held c arg7 arg9 arg11 arg12 f7 f9 f11 f12 x k v (1024 * t.val + 512)) :
    Ok (sc x k 1) (v 1) 256 (fun _ => 1024 * t.val + 512 + 512 + 512)
      (View.readAt (Elt Ideal) arg11.view (Rect.unit (s := S2x1x1024) ![1, 0, 256] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![1, 0, 256] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      readAt_hit _ _ _ _ _) ?_
  dsimp only [k0_pay102, k0_pay103, trip.sl.r_43, trip.sl.r_44, trip.sl.r_45, trip.sl.r_46, k0_pay98,
    trip.sl.r_38, k0_pay99, k0_pay100, trip.sl.r_37, k0_pay101, k0_pay97, k0_pay89, k0_pay88]
  exact stepFull (sc x k 1) (v 1) (1024 * t.val + 512 + 512) 256 (by omega) (by omega) _ _ _ _ _ _ _ _ _
    (ScB_next1 c i arg3 harg3 arg4 harg4 arg8 I t) (ReB_next1 c i arg3 harg3 arg4 harg4 arg10 I t)
    (I.vals 256 arg5 harg5 _ _ 1 (1024 * t.val + 512 + 512)
      ((k0_off6_eq i t ⟨0, by decide⟩).trans (vec4 (show 1024 * t.val + 256 * 0 + 1024 = _ by omega))))
    (I.vals 256 arg5 harg5 _ _ 1 (1024 * t.val + 512 + 512 + 256)
      ((k0_off6_eq i t ⟨1, by decide⟩).trans (vec4 (show 1024 * t.val + 256 * 1 + 1024 = _ by omega))))
    (one5 c i arg3 harg3 arg4 harg4 arg5 harg5 arg7 arg8 arg9 arg10 arg11 arg12 f7 f9 f11 f12 I t H)

include I in
theorem two6 (H : Held c arg7 arg9 arg11 arg12 f7 f9 f11 f12 x k v (1024 * t.val + 512)) :
    Ok (sc x k 1) (v 1) 512 (fun _ => 1024 * t.val + 512 + 512 + 512)
      (View.readAt (Elt Ideal) arg11.view (Rect.unit (s := S2x1x1024) ![1, 0, 512] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![1, 0, 512] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq ((readAt_skip _ _ _ _ _ _ (by decide)).trans <|
      readAt_hit _ _ _ _ _)
    ((readAt_skip _ _ _ _ _ _ (by decide)).trans <|
      readAt_hit _ _ _ _ _) ?_
  dsimp only [k0_pay109, k0_pay110, trip.sl.r_47, trip.sl.r_48, trip.sl.r_49, trip.sl.r_50, k0_pay105,
    trip.sl.r_38, k0_pay106, k0_pay107, trip.sl.r_37, k0_pay108, k0_pay104, k0_pay89, k0_pay88]
  exact stepFull (sc x k 1) (v 1) (1024 * t.val + 512 + 512) 512 (by omega) (by omega) _ _ _ _ _ _ _ _ _
    (ScB_next1 c i arg3 harg3 arg4 harg4 arg8 I t) (ReB_next1 c i arg3 harg3 arg4 harg4 arg10 I t)
    (I.vals 256 arg5 harg5 _ _ 1 (1024 * t.val + 512 + 512)
      ((k0_off6_eq i t ⟨0, by decide⟩).trans (vec4 (show 1024 * t.val + 256 * 0 + 1024 = _ by omega))))
    (I.vals 256 arg5 harg5 _ _ 1 (1024 * t.val + 512 + 512 + 256)
      ((k0_off6_eq i t ⟨1, by decide⟩).trans (vec4 (show 1024 * t.val + 256 * 1 + 1024 = _ by omega))))
    (one6 c i arg3 harg3 arg4 harg4 arg5 harg5 arg7 arg8 arg9 arg10 arg11 arg12 f7 f9 f11 f12 I t H)

include I in
theorem two7 (H : Held c arg7 arg9 arg11 arg12 f7 f9 f11 f12 x k v (1024 * t.val + 512)) :
    Ok (sc x k 1) (v 1) 768 (fun _ => 1024 * t.val + 512 + 512 + 512)
      (View.readAt (Elt Ideal) arg11.view (Rect.unit (s := S2x1x1024) ![1, 0, 768] S1x1x256.size (by decide)).toLoadRect
        (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1))
      (View.readAt (Elt Ideal) arg12.view (Rect.unit (s := S2x80x1024) ![1, 0, 768] S1x80x256.size (by decide)).toLoadRect
        (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1)) := by
  unfold trip
  refine Ok.of_eq (readAt_hit _ _ _ _ _)
    (readAt_hit _ _ _ _ _) ?_
  dsimp only [k0_pay284, k0_pay285, trip.sl.r_51, trip.sl.r_52, trip.sl.r_53, trip.sl.r_54, k0_pay112,
    trip.sl.r_38, k0_pay113, k0_pay114, trip.sl.r_37, k0_pay115, k0_pay111, k0_pay89, k0_pay88]
  exact stepFull (sc x k 1) (v 1) (1024 * t.val + 512 + 512) 768 (by omega) (by omega) _ _ _ _ _ _ _ _ _
    (ScB_next1 c i arg3 harg3 arg4 harg4 arg8 I t) (ReB_next1 c i arg3 harg3 arg4 harg4 arg10 I t)
    (I.vals 256 arg5 harg5 _ _ 1 (1024 * t.val + 512 + 512)
      ((k0_off6_eq i t ⟨0, by decide⟩).trans (vec4 (show 1024 * t.val + 256 * 0 + 1024 = _ by omega))))
    (I.vals 256 arg5 harg5 _ _ 1 (1024 * t.val + 512 + 512 + 256)
      ((k0_off6_eq i t ⟨1, by decide⟩).trans (vec4 (show 1024 * t.val + 256 * 1 + 1024 = _ by omega))))
    (one7 c i arg3 harg3 arg4 harg4 arg5 harg5 arg7 arg8 arg9 arg10 arg11 arg12 f7 f9 f11 f12 I t H)

include I in
theorem ScB_left0 : ScB (sc x k 0) (1024 * t.val + 512 + 512 + 512) (View.readAt (Elt Ideal) arg7.view (Rect.unit (s := S2x512x1024) ![0, 0, 0] S1x512x1024.size (by decide)).toLoadRect
    (arg7.view.writes (Elt Ideal) f7 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).1)) := by
  unfold trip
  refine ScB.of_eq ((readAt_skip _ _ _ _ _ _ (by decide)).trans <|
      readAt_hit _ _ _ _ _) ?_
  exact putSc_ok _ _ (1024 * t.val + 512 + 512 + 512) _ _
    (I.keys 512 arg4 harg4 _ _ (1024 * t.val + 512 + 512 + 512) (128 * 0)
      ((k0_off1_eq i t ⟨1, by decide⟩).trans (vec3 (show 1024 * t.val + 512 * 1 + 1024 = _ by omega))))
    (I.queries 1024 arg3 harg3 _ _ (128 * 0) 0 rfl)

include I in
theorem ReB_left0 : ReB (View.readAt (Elt Ideal) arg9.view (Rect.unit (s := S2x1x1024) ![0, 0, 0] S1x1x1024.size (by decide)).toLoadRect
    (arg9.view.writes (Elt Ideal) f9 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.1)) := by
  unfold trip
  refine ReB.of_eq ((readAt_skip _ _ _ _ _ _ (by decide)).trans <|
      readAt_hit _ _ _ _ _) ?_
  exact putMx_ok _ _ (1024 * t.val + 512 + 512 + 512) _ _
    (I.keys 512 arg4 harg4 _ _ (1024 * t.val + 512 + 512 + 512) (128 * 0)
      ((k0_off1_eq i t ⟨1, by decide⟩).trans (vec3 (show 1024 * t.val + 512 * 1 + 1024 = _ by omega))))
    (I.queries 1024 arg3 harg3 _ _ (128 * 0) 0 rfl)

include I in
theorem ScB_left1 : ScB (sc x k 1) (1024 * t.val + 512 + 512 + 512) (View.readAt (Elt Ideal) arg7.view (Rect.unit (s := S2x512x1024) ![1, 0, 0] S1x512x1024.size (by decide)).toLoadRect
    (arg7.view.writes (Elt Ideal) f7 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).1)) := by
  unfold trip
  refine ScB.of_eq (readAt_hit _ _ _ _ _) ?_
  dsimp only [k0_pay86, trip.sl.r_35, trip.sl.r_36, k0_pay85, k0_pay83, k0_pay84]
  exact putSc_ok _ _ (1024 * t.val + 512 + 512 + 512) _ _
    (I.keys 512 arg4 harg4 _ _ (1024 * t.val + 512 + 512 + 512) (128 * 1)
      ((k0_off3_eq i t ⟨1, by decide⟩).trans (vec3 (show 1024 * t.val + 512 * 1 + 1024 = _ by omega))))
    (I.queries 1024 arg3 harg3 _ _ (128 * 1) 0 rfl)

include I in
theorem ReB_left1 : ReB (View.readAt (Elt Ideal) arg9.view (Rect.unit (s := S2x1x1024) ![1, 0, 0] S1x1x1024.size (by decide)).toLoadRect
    (arg9.view.writes (Elt Ideal) f9 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.1)) := by
  unfold trip
  refine ReB.of_eq (readAt_hit _ _ _ _ _) ?_
  dsimp only [k0_pay87, trip.sl.r_35, trip.sl.r_36, k0_pay85, k0_pay83, k0_pay84]
  exact putMx_ok _ _ (1024 * t.val + 512 + 512 + 512) _ _
    (I.keys 512 arg4 harg4 _ _ (1024 * t.val + 512 + 512 + 512) (128 * 1)
      ((k0_off3_eq i t ⟨1, by decide⟩).trans (vec3 (show 1024 * t.val + 512 * 1 + 1024 = _ by omega))))
    (I.queries 1024 arg3 harg3 _ _ (128 * 1) 0 rfl)

include I in
/-- A trip carries the buffers from the keys before `1024 t + 512` to those before `1024 (t + 1) + 512`. -/
theorem held_after (H : Held c arg7 arg9 arg11 arg12 f7 f9 f11 f12 x k v (1024 * t.val + 512)) :
    Held c arg7 arg9 arg11 arg12 (arg7.view.writes (Elt Ideal) f7 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).1)
      (arg9.view.writes (Elt Ideal) f9 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.1)
      (arg11.view.writes (Elt Ideal) f11 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.1)
      (arg12.view.writes (Elt Ideal) f12 (trip (F := Ideal) c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) f7 f9 f11 f12 t).2.2.2.1) x k v (1024 * (t.val + 1) + 512) := by
  have e : 1024 * (t.val + 1) + 512 = 1024 * t.val + 512 + 512 + 512 := by omega
  rw [e]
  exact ⟨ScB_left0 c i arg3 harg3 arg4 harg4 arg5 harg5 arg6 harg6 arg7 harg7 arg8 harg8 arg9 harg9 arg10 harg10 arg11 harg11 arg12 harg12 arg2 v17 v151 v226 f7 f9 f11 f12 I t,
    ReB_left0 c i arg3 harg3 arg4 harg4 arg5 harg5 arg6 harg6 arg7 harg7 arg8 harg8 arg9 harg9 arg10 harg10 arg11 harg11 arg12 harg12 arg2 v17 v151 v226 f7 f9 f11 f12 I t,
    ScB_left1 c i arg3 harg3 arg4 harg4 arg5 harg5 arg6 harg6 arg7 harg7 arg8 harg8 arg9 harg9 arg10 harg10 arg11 harg11 arg12 harg12 arg2 v17 v151 v226 f7 f9 f11 f12 I t,
    ReB_left1 c i arg3 harg3 arg4 harg4 arg5 harg5 arg6 harg6 arg7 harg7 arg8 harg8 arg9 harg9 arg10 harg10 arg11 harg11 arg12 harg12 arg2 v17 v151 v226 f7 f9 f11 f12 I t,
    two0 c i arg3 harg3 arg4 harg4 arg5 harg5 arg6 harg6 arg7 harg7 arg8 harg8 arg9 harg9 arg10 harg10 arg11 harg11 arg12 harg12 arg2 v17 v151 v226 f7 f9 f11 f12 I t H,
    two1 c i arg3 harg3 arg4 harg4 arg5 harg5 arg6 harg6 arg7 harg7 arg8 harg8 arg9 harg9 arg10 harg10 arg11 harg11 arg12 harg12 arg2 v17 v151 v226 f7 f9 f11 f12 I t H,
    two2 c i arg3 harg3 arg4 harg4 arg5 harg5 arg6 harg6 arg7 harg7 arg8 harg8 arg9 harg9 arg10 harg10 arg11 harg11 arg12 harg12 arg2 v17 v151 v226 f7 f9 f11 f12 I t H,
    two3 c i arg3 harg3 arg4 harg4 arg5 harg5 arg6 harg6 arg7 harg7 arg8 harg8 arg9 harg9 arg10 harg10 arg11 harg11 arg12 harg12 arg2 v17 v151 v226 f7 f9 f11 f12 I t H,
    two4 c i arg3 harg3 arg4 harg4 arg5 harg5 arg6 harg6 arg7 harg7 arg8 harg8 arg9 harg9 arg10 harg10 arg11 harg11 arg12 harg12 arg2 v17 v151 v226 f7 f9 f11 f12 I t H,
    two5 c i arg3 harg3 arg4 harg4 arg5 harg5 arg6 harg6 arg7 harg7 arg8 harg8 arg9 harg9 arg10 harg10 arg11 harg11 arg12 harg12 arg2 v17 v151 v226 f7 f9 f11 f12 I t H,
    two6 c i arg3 harg3 arg4 harg4 arg5 harg5 arg6 harg6 arg7 harg7 arg8 harg8 arg9 harg9 arg10 harg10 arg11 harg11 arg12 harg12 arg2 v17 v151 v226 f7 f9 f11 f12 I t H,
    two7 c i arg3 harg3 arg4 harg4 arg5 harg5 arg6 harg6 arg7 harg7 arg8 harg8 arg9 harg9 arg10 harg10 arg11 harg11 arg12 harg12 arg2 v17 v151 v226 f7 f9 f11 f12 I t H⟩

end Cert.Proof.Value
-- ==== Proof.Value.Entry.lean ====
/-
What the loop is entered with and what it leaves: the eight tiles over the 16 leading keys, then over those and
1024 keys for every trip.
-/
module

public import proofs.«01_k».proof.Proof.KI.Run
public import proofs.«01_k».proof.Proof.Value.TripB

@[expose] public section

set_option maxRecDepth 65536

noncomputable section

namespace Cert.Proof.Value

open Cert.KernelIdeal Cert.KernelIdeal.Gen Cert.Proof.KI
open Idealize.ShloMosaic Idealize.ShloMosaic.TcCoe

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5)

theorem pay230_at (y : S2x1x1024.Idx) : (k0_pay230 (F := Ideal) y : EReal) = ⊥ := rfl

theorem pay231_at (y : S2x80x1024.Idx) : (k0_pay231 (F := Ideal) y : EReal) = 0 := by
  pointwise [k0_pay231]

theorem clearM0 : (run.sl.v50 (F := Ideal) c arg11) = View.ld (k0_pay230 (F := Ideal)) (Rect.unit (s := S2x1x1024) ![0, 0, 0] S1x1x256.size (by decide)) :=
  (View.readCov_fill _ _ _ _ _ (by decide))

theorem clearA0 : (run.sl.v64 (F := Ideal) c arg12) = View.ld (k0_pay231 (F := Ideal)) (Rect.unit (s := S2x80x1024) ![0, 0, 0] S1x80x256.size (by decide)) :=
  (View.readCov_fill _ _ _ _ _ (by decide))

include I in
theorem first0 : Ok (sc x k 0) (v 0) 0 (fun _ => 512)
    (View.readAt (Elt Ideal) arg11.view (Rect.unit (s := S2x1x1024) ![0, 0, 0] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![0, 0, 0] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay245, k0_pay246, run.sl.r_4, run.sl.r_5, run.sl.r_6, k0_pay242, run.sl.r, k0_pay243,
    k0_pay244, k0_pay240, k0_pay241, k0_pay232]
  exact stepMeta (fun key l => k key (128 * 0 + l)) (fun l q => x (128 * 0 + l) q) (v 0) 0 (by omega) _ _ _ _ _ _ _
    (I.keys 16 arg4 harg4 _ _ 496 (128 * 0) rfl) (I.queries 1024 arg3 harg3 _ _ (128 * 0) 0 rfl)
    (I.vals 16 arg5 harg5 _ _ 0 496 rfl)
    (fun q => (congrFun (clearM0 ..) _).trans (pay230_at _)) (fun r q => (congrFun (clearA0 ..) _).trans (pay231_at _))

theorem clearM1 : (run.sl.v75 (F := Ideal) c arg3 harg3 arg4 harg4 arg11 x3 x4) = View.ld (k0_pay230 (F := Ideal)) (Rect.unit (s := S2x1x1024) ![0, 0, 256] S1x1x256.size (by decide)) :=
  ((View.readCov_skip _ _ _ _ _ (by decide)).trans <|
      View.readCov_fill _ _ _ _ _ (by decide))

theorem clearA1 : (run.sl.v89 (F := Ideal) c arg3 harg3 arg4 harg4 arg5 harg5 arg11 arg12 x3 x4 x5) = View.ld (k0_pay231 (F := Ideal)) (Rect.unit (s := S2x80x1024) ![0, 0, 256] S1x80x256.size (by decide)) :=
  ((View.readCov_skip _ _ _ _ _ (by decide)).trans <|
      View.readCov_fill _ _ _ _ _ (by decide))

include I in
theorem first1 : Ok (sc x k 0) (v 0) 256 (fun _ => 512)
    (View.readAt (Elt Ideal) arg11.view (Rect.unit (s := S2x1x1024) ![0, 0, 256] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![0, 0, 256] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay251, k0_pay252, run.sl.r_7, run.sl.r_8, run.sl.r_9, k0_pay248, run.sl.r_3, k0_pay249,
    k0_pay250, run.sl.r, k0_pay247, k0_pay240, k0_pay232]
  exact stepMeta (fun key l => k key (128 * 0 + l)) (fun l q => x (128 * 0 + l) q) (v 0) 256 (by omega) _ _ _ _ _ _ _
    (I.keys 16 arg4 harg4 _ _ 496 (128 * 0) rfl) (I.queries 1024 arg3 harg3 _ _ (128 * 0) 0 rfl)
    (I.vals 16 arg5 harg5 _ _ 0 496 rfl)
    (fun q => (congrFun (clearM1 ..) _).trans (pay230_at _)) (fun r q => (congrFun (clearA1 ..) _).trans (pay231_at _))

theorem clearM2 : (run.sl.v100 (F := Ideal) c arg3 harg3 arg4 harg4 arg11 x3 x4) = View.ld (k0_pay230 (F := Ideal)) (Rect.unit (s := S2x1x1024) ![0, 0, 512] S1x1x256.size (by decide)) :=
  ((View.readCov_skip _ _ _ _ _ (by decide)).trans <|
      (View.readCov_skip _ _ _ _ _ (by decide)).trans <|
      View.readCov_fill _ _ _ _ _ (by decide))

theorem clearA2 : (run.sl.v114 (F := Ideal) c arg3 harg3 arg4 harg4 arg5 harg5 arg11 arg12 x3 x4 x5) = View.ld (k0_pay231 (F := Ideal)) (Rect.unit (s := S2x80x1024) ![0, 0, 512] S1x80x256.size (by decide)) :=
  ((View.readCov_skip _ _ _ _ _ (by decide)).trans <|
      (View.readCov_skip _ _ _ _ _ (by decide)).trans <|
      View.readCov_fill _ _ _ _ _ (by decide))

include I in
theorem first2 : Ok (sc x k 0) (v 0) 512 (fun _ => 512)
    (View.readAt (Elt Ideal) arg11.view (Rect.unit (s := S2x1x1024) ![0, 0, 512] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![0, 0, 512] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay255, k0_pay256, run.sl.r, run.sl.r_10, run.sl.r_3, k0_pay253, k0_pay254, k0_pay232,
    k0_pay240]
  exact stepMeta (fun key l => k key (128 * 0 + l)) (fun l q => x (128 * 0 + l) q) (v 0) 512 (by omega) _ _ _ _ _ _ _
    (I.keys 16 arg4 harg4 _ _ 496 (128 * 0) rfl) (I.queries 1024 arg3 harg3 _ _ (128 * 0) 0 rfl)
    (I.vals 16 arg5 harg5 _ _ 0 496 rfl)
    (fun q => (congrFun (clearM2 ..) _).trans (pay230_at _)) (fun r q => (congrFun (clearA2 ..) _).trans (pay231_at _))

theorem clearM3 : (run.sl.v125 (F := Ideal) c arg3 harg3 arg4 harg4 arg11 x3 x4) = View.ld (k0_pay230 (F := Ideal)) (Rect.unit (s := S2x1x1024) ![0, 0, 768] S1x1x256.size (by decide)) :=
  ((View.readCov_skip _ _ _ _ _ (by decide)).trans <|
      (View.readCov_skip _ _ _ _ _ (by decide)).trans <|
      (View.readCov_skip _ _ _ _ _ (by decide)).trans <|
      View.readCov_fill _ _ _ _ _ (by decide))

theorem clearA3 : (run.sl.v139 (F := Ideal) c arg3 harg3 arg4 harg4 arg5 harg5 arg11 arg12 x3 x4 x5) = View.ld (k0_pay231 (F := Ideal)) (Rect.unit (s := S2x80x1024) ![0, 0, 768] S1x80x256.size (by decide)) :=
  ((View.readCov_skip _ _ _ _ _ (by decide)).trans <|
      (View.readCov_skip _ _ _ _ _ (by decide)).trans <|
      (View.readCov_skip _ _ _ _ _ (by decide)).trans <|
      View.readCov_fill _ _ _ _ _ (by decide))

include I in
theorem first3 : Ok (sc x k 0) (v 0) 768 (fun _ => 512)
    (View.readAt (Elt Ideal) arg11.view (Rect.unit (s := S2x1x1024) ![0, 0, 768] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![0, 0, 768] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      (readAt_skip _ _ _ _ _ _ (by decide)).trans <|
      readAt_hit _ _ _ _ _) ?_
  dsimp only [k0_pay259, k0_pay260, run.sl.r, run.sl.r_3, k0_pay257, k0_pay258, k0_pay232, k0_pay240]
  exact stepMeta (fun key l => k key (128 * 0 + l)) (fun l q => x (128 * 0 + l) q) (v 0) 768 (by omega) _ _ _ _ _ _ _
    (I.keys 16 arg4 harg4 _ _ 496 (128 * 0) rfl) (I.queries 1024 arg3 harg3 _ _ (128 * 0) 0 rfl)
    (I.vals 16 arg5 harg5 _ _ 0 496 rfl)
    (fun q => (congrFun (clearM3 ..) _).trans (pay230_at _)) (fun r q => (congrFun (clearA3 ..) _).trans (pay231_at _))

theorem clearM4 : (run.sl.v152 (F := Ideal) c arg3 harg3 arg4 harg4 arg11 x3 x4) = View.ld (k0_pay230 (F := Ideal)) (Rect.unit (s := S2x1x1024) ![1, 0, 0] S1x1x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

theorem clearA4 : (run.sl.v166 (F := Ideal) c arg3 harg3 arg4 harg4 arg5 harg5 arg11 arg12 x3 x4 x5) = View.ld (k0_pay231 (F := Ideal)) (Rect.unit (s := S2x80x1024) ![1, 0, 0] S1x80x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

include I in
theorem first4 : Ok (sc x k 1) (v 1) 0 (fun _ => 512)
    (View.readAt (Elt Ideal) arg11.view (Rect.unit (s := S2x1x1024) ![1, 0, 0] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![1, 0, 0] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      (readAt_skip _ _ _ _ _ _ (by decide)).trans <|
      readAt_hit _ _ _ _ _) ?_
  dsimp only [k0_pay267, k0_pay268, run.sl.r_12, run.sl.r_13, run.sl.r_14, run.sl.r_15, k0_pay263, run.sl.r_1,
    k0_pay264, k0_pay265, k0_pay266, k0_pay261, k0_pay262, k0_pay233]
  exact stepMeta (fun key l => k key (128 * 1 + l)) (fun l q => x (128 * 1 + l) q) (v 1) 0 (by omega) _ _ _ _ _ _ _
    (I.keys 16 arg4 harg4 _ _ 496 (128 * 1) rfl) (I.queries 1024 arg3 harg3 _ _ (128 * 1) 0 rfl)
    (I.vals 16 arg5 harg5 _ _ 1 496 rfl)
    (fun q => (congrFun (clearM4 ..) _).trans (pay230_at _)) (fun r q => (congrFun (clearA4 ..) _).trans (pay231_at _))

theorem clearM5 : (run.sl.v177 (F := Ideal) c arg3 harg3 arg4 harg4 arg11 x3 x4) = View.ld (k0_pay230 (F := Ideal)) (Rect.unit (s := S2x1x1024) ![1, 0, 256] S1x1x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

theorem clearA5 : (run.sl.v191 (F := Ideal) c arg3 harg3 arg4 harg4 arg5 harg5 arg11 arg12 x3 x4 x5) = View.ld (k0_pay231 (F := Ideal)) (Rect.unit (s := S2x80x1024) ![1, 0, 256] S1x80x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

include I in
theorem first5 : Ok (sc x k 1) (v 1) 256 (fun _ => 512)
    (View.readAt (Elt Ideal) arg11.view (Rect.unit (s := S2x1x1024) ![1, 0, 256] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![1, 0, 256] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      (readAt_skip _ _ _ _ _ _ (by decide)).trans <|
      readAt_hit _ _ _ _ _)
    ((readAt_skip _ _ _ _ _ _ (by decide)).trans <|
      (readAt_skip _ _ _ _ _ _ (by decide)).trans <|
      readAt_hit _ _ _ _ _) ?_
  dsimp only [k0_pay274, k0_pay275, run.sl.r_16, run.sl.r_17, run.sl.r_18, run.sl.r_19, k0_pay270, run.sl.r_11,
    k0_pay271, k0_pay272, run.sl.r_1, k0_pay273, k0_pay269, k0_pay261, k0_pay233]
  exact stepMeta (fun key l => k key (128 * 1 + l)) (fun l q => x (128 * 1 + l) q) (v 1) 256 (by omega) _ _ _ _ _ _ _
    (I.keys 16 arg4 harg4 _ _ 496 (128 * 1) rfl) (I.queries 1024 arg3 harg3 _ _ (128 * 1) 0 rfl)
    (I.vals 16 arg5 harg5 _ _ 1 496 rfl)
    (fun q => (congrFun (clearM5 ..) _).trans (pay230_at _)) (fun r q => (congrFun (clearA5 ..) _).trans (pay231_at _))

theorem clearM6 : (run.sl.v202 (F := Ideal) c arg3 harg3 arg4 harg4 arg11 x3 x4) = View.ld (k0_pay230 (F := Ideal)) (Rect.unit (s := S2x1x1024) ![1, 0, 512] S1x1x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

theorem clearA6 : (run.sl.v216 (F := Ideal) c arg3 harg3 arg4 harg4 arg5 harg5 arg11 arg12 x3 x4 x5) = View.ld (k0_pay231 (F := Ideal)) (Rect.unit (s := S2x80x1024) ![1, 0, 512] S1x80x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

include I in
theorem first6 : Ok (sc x k 1) (v 1) 512 (fun _ => 512)
    (View.readAt (Elt Ideal) arg11.view (Rect.unit (s := S2x1x1024) ![1, 0, 512] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![1, 0, 512] S1x80x256.size (by decide)).toLoadRect (arg12.view.writes (Elt Ideal) arg12.view.junk (run.sl.H12_9 (F := Ideal) c arg3 harg3 arg4 harg4 arg5 harg5 arg11 arg12 x3 x4 x5))) := by
  refine Ok.of_eq ((readAt_skip _ _ _ _ _ _ (by decide)).trans <|
      readAt_hit _ _ _ _ _)
    ((readAt_skip _ _ _ _ _ _ (by decide)).trans <|
      readAt_hit _ _ _ _ _) ?_
  dsimp only [k0_pay278, run.sl.r_1, run.sl.r_11, run.sl.r_20, k0_pay276, k0_pay277, k0_pay233, k0_pay261,
    k0_pay279]
  exact stepMeta (fun key l => k key (128 * 1 + l)) (fun l q => x (128 * 1 + l) q) (v 1) 512 (by omega) _ _ _ _ _ _ _
    (I.keys 16 arg4 harg4 _ _ 496 (128 * 1) rfl) (I.queries 1024 arg3 harg3 _ _ (128 * 1) 0 rfl)
    (I.vals 16 arg5 harg5 _ _ 1 496 rfl)
    (fun q => (congrFun (clearM6 ..) _).trans (pay230_at _)) (fun r q => (congrFun (clearA6 ..) _).trans (pay231_at _))

theorem clearM7 : (run.sl.v227 (F := Ideal) c arg3 harg3 arg4 harg4 arg11 x3 x4) = View.ld (k0_pay230 (F := Ideal)) (Rect.unit (s := S2x1x1024) ![1, 0, 768] S1x1x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

theorem clearA7 : (run.sl.v241 (F := Ideal) c arg3 harg3 arg4 harg4 arg5 harg5 arg11 arg12 x3 x4 x5) = View.ld (k0_pay231 (F := Ideal)) (Rect.unit (s := S2x80x1024) ![1, 0, 768] S1x80x256.size (by decide)) :=
  ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_fill _ _ _ _ _ (by decide))

include I in
theorem first7 : Ok (sc x k 1) (v 1) 768 (fun _ => 512)
    (View.readAt (Elt Ideal) arg11.view (Rect.unit (s := S2x1x1024) ![1, 0, 768] S1x1x256.size (by decide)).toLoadRect (arg11.view.writes (Elt Ideal) arg11.view.junk (run.sl.H11_9 (F := Ideal) c arg3 harg3 arg4 harg4 arg11 x3 x4)))
    (View.readAt (Elt Ideal) arg12.view (Rect.unit (s := S2x80x1024) ![1, 0, 768] S1x80x256.size (by decide)).toLoadRect (arg12.view.writes (Elt Ideal) arg12.view.junk (run.sl.H12_9 (F := Ideal) c arg3 harg3 arg4 harg4 arg5 harg5 arg11 arg12 x3 x4 x5))) := by
  refine Ok.of_eq (readAt_hit _ _ _ _ _)
    (readAt_hit _ _ _ _ _) ?_
  dsimp only [k0_pay282, k0_pay283, run.sl.r_1, run.sl.r_11, k0_pay280, k0_pay281, k0_pay233, k0_pay261]
  exact stepMeta (fun key l => k key (128 * 1 + l)) (fun l q => x (128 * 1 + l) q) (v 1) 768 (by omega) _ _ _ _ _ _ _
    (I.keys 16 arg4 harg4 _ _ 496 (128 * 1) rfl) (I.queries 1024 arg3 harg3 _ _ (128 * 1) 0 rfl)
    (I.vals 16 arg5 harg5 _ _ 1 496 rfl)
    (fun q => (congrFun (clearM7 ..) _).trans (pay230_at _)) (fun r q => (congrFun (clearA7 ..) _).trans (pay231_at _))

include I in
theorem ScB_first0 : ScB (sc x k 0) 512 (View.readAt (Elt Ideal) arg7.view (Rect.unit (s := S2x512x1024) ![0, 0, 0] S1x512x1024.size (by decide)).toLoadRect (arg7.view.writes (Elt Ideal) arg7.view.junk (run.sl.H7_2 (F := Ideal) c arg3 harg3 arg4 harg4 x3 x4))) := by
  refine ScB.of_eq ((readAt_skip _ _ _ _ _ _ (by decide)).trans <|
      readAt_hit _ _ _ _ _) ?_
  dsimp only [k0_pay235, run.sl.r_2, k0_pay234]
  exact putSc_ok _ _ 512 _ _ (I.keys 512 arg4 harg4 _ _ 512 (128 * 0) rfl) (I.queries 1024 arg3 harg3 _ _ (128 * 0) 0 rfl)

include I in
theorem ReB_first0 : ReB (View.readAt (Elt Ideal) arg9.view (Rect.unit (s := S2x1x1024) ![0, 0, 0] S1x1x1024.size (by decide)).toLoadRect (arg9.view.writes (Elt Ideal) arg9.view.junk (run.sl.H9_2 (F := Ideal) c arg3 harg3 arg4 harg4 x3 x4))) := by
  refine ReB.of_eq ((readAt_skip _ _ _ _ _ _ (by decide)).trans <|
      readAt_hit _ _ _ _ _) ?_
  dsimp only [k0_pay236, run.sl.r_2, k0_pay234]
  exact putMx_ok _ _ 512 _ _ (I.keys 512 arg4 harg4 _ _ 512 (128 * 0) rfl) (I.queries 1024 arg3 harg3 _ _ (128 * 0) 0 rfl)

include I in
theorem ScB_first1 : ScB (sc x k 1) 512 (View.readAt (Elt Ideal) arg7.view (Rect.unit (s := S2x512x1024) ![1, 0, 0] S1x512x1024.size (by decide)).toLoadRect (arg7.view.writes (Elt Ideal) arg7.view.junk (run.sl.H7_2 (F := Ideal) c arg3 harg3 arg4 harg4 x3 x4))) := by
  refine ScB.of_eq (readAt_hit _ _ _ _ _) ?_
  dsimp only [k0_pay238, k0_pay237]
  exact putSc_ok _ _ 512 _ _ (I.keys 512 arg4 harg4 _ _ 512 (128 * 1) rfl) (I.queries 1024 arg3 harg3 _ _ (128 * 1) 0 rfl)

include I in
theorem ReB_first1 : ReB (View.readAt (Elt Ideal) arg9.view (Rect.unit (s := S2x1x1024) ![1, 0, 0] S1x1x1024.size (by decide)).toLoadRect (arg9.view.writes (Elt Ideal) arg9.view.junk (run.sl.H9_2 (F := Ideal) c arg3 harg3 arg4 harg4 x3 x4))) := by
  refine ReB.of_eq (readAt_hit _ _ _ _ _) ?_
  dsimp only [k0_pay239, k0_pay237]
  exact putMx_ok _ _ 512 _ _ (I.keys 512 arg4 harg4 _ _ 512 (128 * 1) rfl) (I.queries 1024 arg3 harg3 _ _ (128 * 1) 0 rfl)

include I in
theorem held_entry : Held c arg7 arg9 arg11 arg12 (arg7.view.writes (Elt Ideal) arg7.view.junk (run.sl.H7_2 (F := Ideal) c arg3 harg3 arg4 harg4 x3 x4))
    (arg9.view.writes (Elt Ideal) arg9.view.junk (run.sl.H9_2 (F := Ideal) c arg3 harg3 arg4 harg4 x3 x4))
    (arg11.view.writes (Elt Ideal) arg11.view.junk (run.sl.H11_9 (F := Ideal) c arg3 harg3 arg4 harg4 arg11 x3 x4))
    (arg12.view.writes (Elt Ideal) arg12.view.junk (run.sl.H12_9 (F := Ideal) c arg3 harg3 arg4 harg4 arg5 harg5 arg11 arg12 x3 x4 x5)) x k v 512 :=
  ⟨ScB_first0 c arg3 harg3 arg4 harg4 arg7 I,
    ReB_first0 c arg3 harg3 arg4 harg4 arg9 I,
    ScB_first1 c arg3 harg3 arg4 harg4 arg7 I,
    ReB_first1 c arg3 harg3 arg4 harg4 arg9 I,
    first0 c arg3 harg3 arg4 harg4 arg5 harg5 arg11 arg12 I,
    first1 c arg3 harg3 arg4 harg4 arg5 harg5 arg11 arg12 I,
    first2 c arg3 harg3 arg4 harg4 arg5 harg5 arg11 arg12 I,
    first3 c arg3 harg3 arg4 harg4 arg5 harg5 arg11 arg12 I,
    first4 c arg3 harg3 arg4 harg4 arg5 harg5 arg11 arg12 I,
    first5 c arg3 harg3 arg4 harg4 arg5 harg5 arg11 arg12 I,
    first6 c arg3 harg3 arg4 harg4 arg5 harg5 arg11 arg12 I,
    first7 c arg3 harg3 arg4 harg4 arg5 harg5 arg11 arg12 I⟩

theorem trips_eq : (k0_t1_loop i).trips = (i 2).val := by
  have h : ∀ a : Fin 8, (({ lb := 0#32, ub := Scalar.addi 0#32 (Scalar.muli (Scalar.divsi (Scalar.subi (BitVec.ofNat 32 a.val) 0#32) 1#32) 1#32), st := 1#32 } : Scf.Loop 32).trips) = a.val := by
    decide
  exact h (i 2)

section

variable (arg2 : BitVec 32) (v17 : FVec Ideal S16x1024 .f32) (v151 : FVec Ideal S1x1024 .f32) (v226 : FVec Ideal S1x1x256 .f32)
  (f7 : Buf (Elt Ideal) (arg7.view.loc (c : Thread nD τ)))
  (f9 : Buf (Elt Ideal) (arg9.view.loc (c : Thread nD τ)))
  (f11 : Buf (Elt Ideal) (arg11.view.loc (c : Thread nD τ)))
  (f12 : Buf (Elt Ideal) (arg12.view.loc (c : Thread nD τ)))

include I in
theorem held_state (H : Held c arg7 arg9 arg11 arg12 f7 f9 f11 f12 x k v 512) :
    ∀ n : ℕ, n ≤ (k0_t1_loop i).trips → Held c arg7 arg9 arg11 arg12
      (state c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) ⟨f7, f9, f11, f12⟩ n).s
      (state c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) ⟨f7, f9, f11, f12⟩ n).x
      (state c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) ⟨f7, f9, f11, f12⟩ n).m
      (state c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) ⟨f7, f9, f11, f12⟩ n).a x k v (1024 * n + 512)
  | 0, _ => H
  | n + 1, hn => by
    have hs := state_succ c i arg3 harg3 arg4 harg4 arg5 harg5 arg6 harg6 arg7 harg7 arg8 harg8 arg9 harg9 arg10 harg10 arg11 harg11 arg12 harg12 arg2 v17 v151 v226 (harg3.unread x3) (harg4.unread x4) (harg5.unread x5) ⟨f7, f9, f11, f12⟩ ⟨n, hn⟩
    dsimp only at hs
    rw [hs]
    exact held_after c i arg3 harg3 arg4 harg4 arg5 harg5 arg6 harg6 arg7 harg7 arg8 harg8 arg9 harg9 arg10 harg10 arg11 harg11 arg12 harg12 arg2 v17 v151 v226 _ _ _ _ I ⟨n, hn⟩
      (held_state H n (Nat.le_of_succ_le hn))

end

include I in
/-- What the loop leaves: all keys before the diagonal block. -/
theorem held_exit : Held c arg7 arg9 arg11 arg12
    (sAt c i arg3 harg3 arg4 harg4 arg5 harg5 arg6 harg6 arg7 harg7 arg8 harg8 arg9 harg9 arg10 harg10 arg11 harg11 arg12 harg12 (BitVec.ofNat 32 (i 2).val)
      (run.sl.r_1 (F := Ideal) c arg3 harg3 arg4 harg4 x3 x4) (run.sl.r_11 (F := Ideal) c arg3 harg3 arg4 harg4 x3 x4) (run.sl.r_20 (F := Ideal) c arg3 harg3 arg4 harg4 arg11 x3 x4)
      (harg3.unread x3) (harg4.unread x4) (harg5.unread x5) (arg7.view.writes (Elt Ideal) arg7.view.junk (run.sl.H7_2 (F := Ideal) c arg3 harg3 arg4 harg4 x3 x4))
      (arg9.view.writes (Elt Ideal) arg9.view.junk (run.sl.H9_2 (F := Ideal) c arg3 harg3 arg4 harg4 x3 x4))
      (arg11.view.writes (Elt Ideal) arg11.view.junk (run.sl.H11_9 (F := Ideal) c arg3 harg3 arg4 harg4 arg11 x3 x4))
      (arg12.view.writes (Elt Ideal) arg12.view.junk (run.sl.H12_9 (F := Ideal) c arg3 harg3 arg4 harg4 arg5 harg5 arg11 arg12 x3 x4 x5)) (k0_t1_loop i).trips)
    (xAt c i arg3 harg3 arg4 harg4 arg5 harg5 arg6 harg6 arg7 harg7 arg8 harg8 arg9 harg9 arg10 harg10 arg11 harg11 arg12 harg12 (BitVec.ofNat 32 (i 2).val)
      (run.sl.r_1 (F := Ideal) c arg3 harg3 arg4 harg4 x3 x4) (run.sl.r_11 (F := Ideal) c arg3 harg3 arg4 harg4 x3 x4) (run.sl.r_20 (F := Ideal) c arg3 harg3 arg4 harg4 arg11 x3 x4)
      (harg3.unread x3) (harg4.unread x4) (harg5.unread x5) (arg7.view.writes (Elt Ideal) arg7.view.junk (run.sl.H7_2 (F := Ideal) c arg3 harg3 arg4 harg4 x3 x4))
      (arg9.view.writes (Elt Ideal) arg9.view.junk (run.sl.H9_2 (F := Ideal) c arg3 harg3 arg4 harg4 x3 x4))
      (arg11.view.writes (Elt Ideal) arg11.view.junk (run.sl.H11_9 (F := Ideal) c arg3 harg3 arg4 harg4 arg11 x3 x4))
      (arg12.view.writes (Elt Ideal) arg12.view.junk (run.sl.H12_9 (F := Ideal) c arg3 harg3 arg4 harg4 arg5 harg5 arg11 arg12 x3 x4 x5)) (k0_t1_loop i).trips)
    (mAt c i arg3 harg3 arg4 harg4 arg5 harg5 arg6 harg6 arg7 harg7 arg8 harg8 arg9 harg9 arg10 harg10 arg11 harg11 arg12 harg12 (BitVec.ofNat 32 (i 2).val)
      (run.sl.r_1 (F := Ideal) c arg3 harg3 arg4 harg4 x3 x4) (run.sl.r_11 (F := Ideal) c arg3 harg3 arg4 harg4 x3 x4) (run.sl.r_20 (F := Ideal) c arg3 harg3 arg4 harg4 arg11 x3 x4)
      (harg3.unread x3) (harg4.unread x4) (harg5.unread x5) (arg7.view.writes (Elt Ideal) arg7.view.junk (run.sl.H7_2 (F := Ideal) c arg3 harg3 arg4 harg4 x3 x4))
      (arg9.view.writes (Elt Ideal) arg9.view.junk (run.sl.H9_2 (F := Ideal) c arg3 harg3 arg4 harg4 x3 x4))
      (arg11.view.writes (Elt Ideal) arg11.view.junk (run.sl.H11_9 (F := Ideal) c arg3 harg3 arg4 harg4 arg11 x3 x4))
      (arg12.view.writes (Elt Ideal) arg12.view.junk (run.sl.H12_9 (F := Ideal) c arg3 harg3 arg4 harg4 arg5 harg5 arg11 arg12 x3 x4 x5)) (k0_t1_loop i).trips)
    (aAt c i arg3 harg3 arg4 harg4 arg5 harg5 arg6 harg6 arg7 harg7 arg8 harg8 arg9 harg9 arg10 harg10 arg11 harg11 arg12 harg12 (BitVec.ofNat 32 (i 2).val)
      (run.sl.r_1 (F := Ideal) c arg3 harg3 arg4 harg4 x3 x4) (run.sl.r_11 (F := Ideal) c arg3 harg3 arg4 harg4 x3 x4) (run.sl.r_20 (F := Ideal) c arg3 harg3 arg4 harg4 arg11 x3 x4)
      (harg3.unread x3) (harg4.unread x4) (harg5.unread x5) (arg7.view.writes (Elt Ideal) arg7.view.junk (run.sl.H7_2 (F := Ideal) c arg3 harg3 arg4 harg4 x3 x4))
      (arg9.view.writes (Elt Ideal) arg9.view.junk (run.sl.H9_2 (F := Ideal) c arg3 harg3 arg4 harg4 x3 x4))
      (arg11.view.writes (Elt Ideal) arg11.view.junk (run.sl.H11_9 (F := Ideal) c arg3 harg3 arg4 harg4 arg11 x3 x4))
      (arg12.view.writes (Elt Ideal) arg12.view.junk (run.sl.H12_9 (F := Ideal) c arg3 harg3 arg4 harg4 arg5 harg5 arg11 arg12 x3 x4 x5)) (k0_t1_loop i).trips)
    x k v (1024 * (i 2).val + 512) := by
  rw [sAt_eq, xAt_eq, mAt_eq, aAt_eq]
  have h := held_state (I := I) (i := i) (arg2 := BitVec.ofNat 32 (i 2).val)
    (v17 := (run.sl.r_1 (F := Ideal) c arg3 harg3 arg4 harg4 x3 x4)) (v151 := (run.sl.r_11 (F := Ideal) c arg3 harg3 arg4 harg4 x3 x4))
    (v226 := (run.sl.r_20 (F := Ideal) c arg3 harg3 arg4 harg4 arg11 x3 x4)) c arg3 harg3 arg4 harg4 arg5 harg5 arg6 harg6 arg7 harg7 arg8 harg8 arg9 harg9 arg10 harg10 arg11 harg11 arg12 harg12
    (arg7.view.writes (Elt Ideal) arg7.view.junk (run.sl.H7_2 (F := Ideal) c arg3 harg3 arg4 harg4 x3 x4)) (arg9.view.writes (Elt Ideal) arg9.view.junk (run.sl.H9_2 (F := Ideal) c arg3 harg3 arg4 harg4 x3 x4))
      (arg11.view.writes (Elt Ideal) arg11.view.junk (run.sl.H11_9 (F := Ideal) c arg3 harg3 arg4 harg4 arg11 x3 x4)) (arg12.view.writes (Elt Ideal) arg12.view.junk (run.sl.H12_9 (F := Ideal) c arg3 harg3 arg4 harg4 arg5 harg5 arg11 arg12 x3 x4 x5)) (held_entry c arg3 harg3 arg4 harg4 arg5 harg5 arg7 arg9 arg11 arg12 I) (k0_t1_loop i).trips (Nat.le_refl _)
  rw [show 1024 * (i 2).val + 512 = 1024 * (k0_t1_loop i).trips + 512 by rw [trips_eq]]
  exact h

end Cert.Proof.Value
-- ==== Proof.Value.Exit.lean ====
/-
What follows the loop: the diagonal block of the keys, then the last block for the last 512 queries.
-/
module

public import proofs.«01_k».proof.Proof.Value.Entry

@[expose] public section

set_option maxRecDepth 65536

noncomputable section

namespace Cert.Proof.Value

open Cert.KernelIdeal Cert.KernelIdeal.Gen Cert.Proof.KI
open Idealize.ShloMosaic Idealize.ShloMosaic.TcCoe

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5)

theorem ScH.of_eq {s : ℕ → ℕ → ℝ} {e qb : ℕ} {b b' : FVec Ideal S1x512x512 .f32} (hb : b = b') (h : ScH s e qb b') :
    ScH s e qb b := by
  rw [hb]
  exact h

theorem half {s : ℕ → ℕ → ℝ} {e h : ℕ} (f7 : Buf (Elt Ideal) (arg7.view.loc (c : Thread nD τ)))
    (h1 : ∀ a, ![h, 0, 0] a + S1x512x1024.size a ≤ S2x512x1024.size a) (h2 : ∀ a, ![h, 0, 0] a + S1x512x512.size a ≤ S2x512x1024.size a)
    (H : ScB s e (View.readAt (Elt Ideal) arg7.view (Rect.unit (s := S2x512x1024) ![h, 0, 0] S1x512x1024.size h1).toLoadRect f7)) :
    ScH s e 0 (View.readAt (Elt Ideal) arg7.view (Rect.unit (s := S2x512x1024) ![h, 0, 0] S1x512x512.size h2).toLoadRect f7) := by
  intro j w
  rw [Nat.zero_add]
  refine Eq.trans ?_ (H j ⟨w.val, by omega⟩)
  exact congrArg (View.read (Elt Ideal) arg7.view f7) (by
    funext a
    fin_cases a <;> rfl)

include I in
theorem exitH0 : ScH (sc x k 0) (1024 * (i 2).val + 512) 0 (run.sl.v278 (F := Ideal) c i arg3 harg3 arg4 harg4 arg5 harg5 arg6 harg6 arg7 harg7 arg8 harg8 arg9 harg9 arg10 harg10 arg11 harg11 arg12 harg12 x3 x4 x5) :=
  half c arg7 _ _ _ (held_exit c i arg3 harg3 arg4 harg4 arg5 harg5 arg6 harg6 arg7 harg7 arg8 harg8 arg9 harg9 arg10 harg10 arg11 harg11 arg12 harg12 I).s0

include I in
theorem exitS0 : ScB (sc x k 0) (1024 * (i 2).val + 512) (run.sl.v349 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).s0

include I in
theorem exitX0 : ReB (run.sl.v351 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).x0

include I in
theorem exitH1 : ScH (sc x k 1) (1024 * (i 2).val + 512) 0 (run.sl.v443 (F := Ideal) c i arg3 harg3 arg4 harg4 arg5 harg5 arg6 harg6 arg7 harg7 arg8 harg8 arg9 harg9 arg10 harg10 arg11 harg11 arg12 harg12 x3 x4 x5) :=
  half c arg7 _ _ _ (held_exit c i arg3 harg3 arg4 harg4 arg5 harg5 arg6 harg6 arg7 harg7 arg8 harg8 arg9 harg9 arg10 harg10 arg11 harg11 arg12 harg12 I).s1

include I in
theorem exitS1 : ScB (sc x k 1) (1024 * (i 2).val + 512) (run.sl.v514 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).s1

include I in
theorem exitX1 : ReB (run.sl.v516 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).x1

include I in
theorem exit0 : Ok (sc x k 0) (v 0) 0 (fun _ => 1024 * (i 2).val + 512) (run.sl.v284 (F := Ideal) c i arg3 harg3 arg4 harg4 arg5 harg5 arg6 harg6 arg7 harg7 arg8 harg8 arg9 harg9 arg10 harg10 arg11 harg11 arg12 harg12 x3 x4 x5)
    (run.sl.v300 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t0

include I in
theorem exit1 : Ok (sc x k 0) (v 0) 256 (fun _ => 1024 * (i 2).val + 512) (run.sl.v311 (F := Ideal) c i arg3 harg3 arg4 harg4 arg5 harg5 arg6 harg6 arg7 harg7 arg8 harg8 arg9 harg9 arg10 harg10 arg11 harg11 arg12 harg12 x3 x4 x5)
    (run.sl.v338 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t1

include I in
theorem exit2 : Ok (sc x k 0) (v 0) 512 (fun _ => 1024 * (i 2).val + 512) (run.sl.v353 (F := Ideal) c i arg3 harg3 arg4 harg4 arg5 harg5 arg6 harg6 arg7 harg7 arg8 harg8 arg9 harg9 arg10 harg10 arg11 harg11 arg12 harg12 x3 x4 x5)
    (run.sl.v380 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t2

include I in
theorem exit3 : Ok (sc x k 0) (v 0) 768 (fun _ => 1024 * (i 2).val + 512) (run.sl.v391 (F := Ideal) c i arg3 harg3 arg4 harg4 arg5 harg5 arg6 harg6 arg7 harg7 arg8 harg8 arg9 harg9 arg10 harg10 arg11 harg11 arg12 harg12 x3 x4 x5)
    (run.sl.v418 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t3

include I in
theorem exit4 : Ok (sc x k 1) (v 1) 0 (fun _ => 1024 * (i 2).val + 512) (run.sl.v449 (F := Ideal) c i arg3 harg3 arg4 harg4 arg5 harg5 arg6 harg6 arg7 harg7 arg8 harg8 arg9 harg9 arg10 harg10 arg11 harg11 arg12 harg12 x3 x4 x5)
    (run.sl.v465 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t4

include I in
theorem exit5 : Ok (sc x k 1) (v 1) 256 (fun _ => 1024 * (i 2).val + 512) (run.sl.v476 (F := Ideal) c i arg3 harg3 arg4 harg4 arg5 harg5 arg6 harg6 arg7 harg7 arg8 harg8 arg9 harg9 arg10 harg10 arg11 harg11 arg12 harg12 x3 x4 x5)
    (run.sl.v503 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t5

include I in
theorem exit6 : Ok (sc x k 1) (v 1) 512 (fun _ => 1024 * (i 2).val + 512) (run.sl.v518 (F := Ideal) c i arg3 harg3 arg4 harg4 arg5 harg5 arg6 harg6 arg7 harg7 arg8 harg8 arg9 harg9 arg10 harg10 arg11 harg11 arg12 harg12 x3 x4 x5)
    (run.sl.v545 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t6

include I in
theorem exit7 : Ok (sc x k 1) (v 1) 768 (fun _ => 1024 * (i 2).val + 512) (run.sl.v556 (F := Ideal) c i arg3 harg3 arg4 harg4 arg5 harg5 arg6 harg6 arg7 harg7 arg8 harg8 arg9 harg9 arg10 harg10 arg11 harg11 arg12 harg12 x3 x4 x5)
    (run.sl.v583 (F := Ideal) c i arg3 harg3 arg4 harg4 arg5 harg5 arg6 harg6 arg7 harg7 arg8 harg8 arg9 harg9 arg10 harg10 arg11 harg11 arg12 harg12 x3 x4 x5) := (held_exit c i arg3 harg3 arg4 harg4 arg5 harg5 arg6 harg6 arg7 harg7 arg8 harg8 arg9 harg9 arg10 harg10 arg11 harg11 arg12 harg12 I).t7

include I in
theorem nextH0 : ScH (sc x k 0) (1024 * (i 2).val + 512 + 512) 512 (run.sl.v600 (F := Ideal) i arg3 harg3 arg4 harg4 arg8 x3 x4) := by
  refine ScH.of_eq ((View.readCov_skip _ _ _ _ _ (by decide)).trans <|
      View.readCov_cons_toLoadRect _ _ _ _) ?_
  dsimp only [k0_pay288]
  exact putH_ok _ _ (1024 * (i 2).val + 512 + 512) 512 _ _
    (I.keys 512 arg4 harg4 _ _ (1024 * (i 2).val + 512 + 512) (128 * 0) ((k0_off13_eq i).trans (vec3 (by omega))))
    (I.queries 512 arg3 harg3 _ _ (128 * 0) 512 rfl)

include I in
theorem nextH1 : ScH (sc x k 1) (1024 * (i 2).val + 512 + 512) 512 (run.sl.v677 (F := Ideal) i arg3 harg3 arg4 harg4 arg8 x3 x4) := by
  refine ScH.of_eq (View.readCov_cons_toLoadRect _ _ _ _) ?_
  dsimp only [k0_pay319, run.sl.r_38, k0_pay318]
  exact putH_ok _ _ (1024 * (i 2).val + 512 + 512) 512 _ _
    (I.keys 512 arg4 harg4 _ _ (1024 * (i 2).val + 512 + 512) (128 * 1) ((k0_off15_eq i).trans (vec3 (by omega))))
    (I.queries 512 arg3 harg3 _ _ (128 * 1) 512 rfl)

include I in
theorem mid2 : Ok (sc x k 0) (v 0) 512 (fun _ => 1024 * (i 2).val + 512 + 512) (run.sl.v606 (F := Ideal) c i arg3 harg3 arg4 harg4 arg5 harg5 arg6 harg6 arg7 harg7 arg8 harg8 arg9 harg9 arg10 harg10 arg11 harg11 arg12 harg12 x3 x4 x5)
    (run.sl.v622 (F := Ideal) c i arg3 harg3 arg4 harg4 arg5 harg5 arg6 harg6 arg7 harg7 arg8 harg8 arg9 harg9 arg10 harg10 arg11 harg11 arg12 harg12 x3 x4 x5) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay310, k0_pay311, run.sl.r_30, run.sl.r_32, run.sl.r_33, run.sl.r_34, k0_pay304, k0_pay307,
    k0_pay308, k0_pay309, k0_pay305, k0_pay306]
  exact stepFull (sc x k 0) (v 0) (1024 * (i 2).val + 512) 512 (by omega) (by omega) _ _ _ _ _ _ _ _ _ (exitS0 c i arg3 harg3 arg4 harg4 arg5 harg5 arg6 harg6 arg7 harg7 arg8 harg8 arg9 harg9 arg10 harg10 arg11 harg11 arg12 harg12 I) (exitX0 c i arg3 harg3 arg4 harg4 arg5 harg5 arg6 harg6 arg7 harg7 arg8 harg8 arg9 harg9 arg10 harg10 arg11 harg11 arg12 harg12 I)
    (I.vals 256 arg5 harg5 _ _ 0 (1024 * (i 2).val + 512) ((k0_off14_eq i ⟨0, by decide⟩).trans (vec4 (show 1024 * (i 2).val + 256 * 0 + 512 = _ by omega))))
    (I.vals 256 arg5 harg5 _ _ 0 (1024 * (i 2).val + 512 + 256) ((k0_off14_eq i ⟨1, by decide⟩).trans (vec4 (show 1024 * (i 2).val + 256 * 1 + 512 = _ by omega)))) (exit2 c i arg3 harg3 arg4 harg4 arg5 harg5 arg6 harg6 arg7 harg7 arg8 harg8 arg9 harg9 arg10 harg10 arg11 harg11 arg12 harg12 I)

include I in
theorem mid3 : Ok (sc x k 0) (v 0) 768 (fun _ => 1024 * (i 2).val + 512 + 512) (run.sl.v633 (F := Ideal) c i arg3 harg3 arg4 harg4 arg5 harg5 arg6 harg6 arg7 harg7 arg8 harg8 arg9 harg9 arg10 harg10 arg11 harg11 arg12 harg12 x3 x4 x5)
    (run.sl.v660 (F := Ideal) c i arg3 harg3 arg4 harg4 arg5 harg5 arg6 harg6 arg7 harg7 arg8 harg8 arg9 harg9 arg10 harg10 arg11 harg11 arg12 harg12 x3 x4 x5) := by
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay316, k0_pay317, run.sl.r_30, run.sl.r_35, run.sl.r_36, run.sl.r_37, k0_pay304, k0_pay313,
    run.sl.r_31, k0_pay314, k0_pay315, k0_pay312, k0_pay305]
  exact stepFull (sc x k 0) (v 0) (1024 * (i 2).val + 512) 768 (by omega) (by omega) _ _ _ _ _ _ _ _ _ (exitS0 c i arg3 harg3 arg4 harg4 arg5 harg5 arg6 harg6 arg7 harg7 arg8 harg8 arg9 harg9 arg10 harg10 arg11 harg11 arg12 harg12 I) (exitX0 c i arg3 harg3 arg4 harg4 arg5 harg5 arg6 harg6 arg7 harg7 arg8 harg8 arg9 harg9 arg10 harg10 arg11 harg11 arg12 harg12 I)
    (I.vals 256 arg5 harg5 _ _ 0 (1024 * (i 2).val + 512) ((k0_off14_eq i ⟨0, by decide⟩).trans (vec4 (show 1024 * (i 2).val + 256 * 0 + 512 = _ by omega))))
    (I.vals 256 arg5 harg5 _ _ 0 (1024 * (i 2).val + 512 + 256) ((k0_off14_eq i ⟨1, by decide⟩).trans (vec4 (show 1024 * (i 2).val + 256 * 1 + 512 = _ by omega)))) (exit3 c i arg3 harg3 arg4 harg4 arg5 harg5 arg6 harg6 arg7 harg7 arg8 harg8 arg9 harg9 arg10 harg10 arg11 harg11 arg12 harg12 I)

include I in
theorem mid6 : Ok (sc x k 1) (v 1) 512 (fun _ => 1024 * (i 2).val + 512 + 512) (run.sl.v683 (F := Ideal) c i arg3 harg3 arg4 harg4 arg5 harg5 arg6 harg6 arg7 harg7 arg8 harg8 arg9 harg9 arg10 harg10 arg11 harg11 arg12 harg12 x3 x4 x5)
    (run.sl.v699 (F := Ideal) c i arg3 harg3 arg4 harg4 arg5 harg5 arg6 harg6 arg7 harg7 arg8 harg8 arg9 harg9 arg10 harg10 arg11 harg11 arg12 harg12 x3 x4 x5) := by
  refine Ok.of_eq ((View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay339, k0_pay340, run.sl.r_47, run.sl.r_48, run.sl.r_49, run.sl.r_50, k0_pay335, k0_pay336,
    k0_pay337, k0_pay338, k0_pay333, k0_pay334, k0_pay332]
  exact stepFull (sc x k 1) (v 1) (1024 * (i 2).val + 512) 512 (by omega) (by omega) _ _ _ _ _ _ _ _ _ (exitS1 c i arg3 harg3 arg4 harg4 arg5 harg5 arg6 harg6 arg7 harg7 arg8 harg8 arg9 harg9 arg10 harg10 arg11 harg11 arg12 harg12 I) (exitX1 c i arg3 harg3 arg4 harg4 arg5 harg5 arg6 harg6 arg7 harg7 arg8 harg8 arg9 harg9 arg10 harg10 arg11 harg11 arg12 harg12 I)
    (I.vals 256 arg5 harg5 _ _ 1 (1024 * (i 2).val + 512) ((k0_off16_eq i ⟨0, by decide⟩).trans (vec4 (show 1024 * (i 2).val + 256 * 0 + 512 = _ by omega))))
    (I.vals 256 arg5 harg5 _ _ 1 (1024 * (i 2).val + 512 + 256) ((k0_off16_eq i ⟨1, by decide⟩).trans (vec4 (show 1024 * (i 2).val + 256 * 1 + 512 = _ by omega)))) (exit6 c i arg3 harg3 arg4 harg4 arg5 harg5 arg6 harg6 arg7 harg7 arg8 harg8 arg9 harg9 arg10 harg10 arg11 harg11 arg12 harg12 I)

include I in
theorem mid7 : Ok (sc x k 1) (v 1) 768 (fun _ => 1024 * (i 2).val + 512 + 512) (run.sl.v710 (F := Ideal) c i arg3 harg3 arg4 harg4 arg5 harg5 arg6 harg6 arg7 harg7 arg8 harg8 arg9 harg9 arg10 harg10 arg11 harg11 arg12 harg12 x3 x4 x5)
    (run.sl.v737 (F := Ideal) c i arg3 harg3 arg4 harg4 arg5 harg5 arg6 harg6 arg7 harg7 arg8 harg8 arg9 harg9 arg10 harg10 arg11 harg11 arg12 harg12 x3 x4 x5) := by
  refine Ok.of_eq ((View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay347, k0_pay348, run.sl.r_51, run.sl.r_52, run.sl.r_53, run.sl.r_54, run.sl.r_55, k0_pay342,
    run.sl.r_46, k0_pay343, k0_pay344, run.sl.r_45, k0_pay345, k0_pay346, k0_pay341, k0_pay333, k0_pay332]
  exact stepFull (sc x k 1) (v 1) (1024 * (i 2).val + 512) 768 (by omega) (by omega) _ _ _ _ _ _ _ _ _ (exitS1 c i arg3 harg3 arg4 harg4 arg5 harg5 arg6 harg6 arg7 harg7 arg8 harg8 arg9 harg9 arg10 harg10 arg11 harg11 arg12 harg12 I) (exitX1 c i arg3 harg3 arg4 harg4 arg5 harg5 arg6 harg6 arg7 harg7 arg8 harg8 arg9 harg9 arg10 harg10 arg11 harg11 arg12 harg12 I)
    (I.vals 256 arg5 harg5 _ _ 1 (1024 * (i 2).val + 512) ((k0_off16_eq i ⟨0, by decide⟩).trans (vec4 (show 1024 * (i 2).val + 256 * 0 + 512 = _ by omega))))
    (I.vals 256 arg5 harg5 _ _ 1 (1024 * (i 2).val + 512 + 256) ((k0_off16_eq i ⟨1, by decide⟩).trans (vec4 (show 1024 * (i 2).val + 256 * 1 + 512 = _ by omega)))) (exit7 c i arg3 harg3 arg4 harg4 arg5 harg5 arg6 harg6 arg7 harg7 arg8 harg8 arg9 harg9 arg10 harg10 arg11 harg11 arg12 harg12 I)

include I in
theorem last0 : ∃ M, Ok (sc x k 0) (v 0) 0 (fun q => 1024 * (i 2).val + 512 + 0 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 0] S1x80x256.size (by decide)).toLoadRect) := by
  refine ⟨(arg11.view.readCov (run.sl.H11_8_1 (F := Ideal) c i arg3 harg3 arg4 harg4 arg5 harg5 arg6 harg6 arg7 harg7 arg8 harg8 arg9 harg9 arg10 harg10 arg11 harg11 arg12 harg12 x3 x4 x5) (Rect.unit (s := S2x1x1024) ![0, 0, 0] S1x1x256.size (by decide)).toLoadRect), ?_⟩
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay295, k0_pay296, run.sl.r_23, run.sl.r_24, run.sl.r_25, k0_pay292, k0_pay293, k0_pay294,
    k0_pay290, k0_pay291, k0_pay289]
  exact Ok.congr (stepDiag1 (sc x k 0) (v 0) (1024 * (i 2).val + 512) 0 (by omega) _ _ _ _ _ _ (exitH0 c i arg3 harg3 arg4 harg4 arg5 harg5 arg6 harg6 arg7 harg7 arg8 harg8 arg9 harg9 arg10 harg10 arg11 harg11 arg12 harg12 I)
    (I.vals 256 arg5 harg5 _ _ 0 (1024 * (i 2).val + 512) ((k0_off14_eq i ⟨0, by decide⟩).trans (vec4 (show 1024 * (i 2).val + 256 * 0 + 512 = _ by omega)))) (exit0 c i arg3 harg3 arg4 harg4 arg5 harg5 arg6 harg6 arg7 harg7 arg8 harg8 arg9 harg9 arg10 harg10 arg11 harg11 arg12 harg12 I)) (fun q => by omega)

include I in
theorem last1 : ∃ M, Ok (sc x k 0) (v 0) 256 (fun q => 1024 * (i 2).val + 512 + 256 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 256] S1x80x256.size (by decide)).toLoadRect) := by
  refine ⟨(arg11.view.readCov (run.sl.H11_8_1 (F := Ideal) c i arg3 harg3 arg4 harg4 arg5 harg5 arg6 harg6 arg7 harg7 arg8 harg8 arg9 harg9 arg10 harg10 arg11 harg11 arg12 harg12 x3 x4 x5) (Rect.unit (s := S2x1x1024) ![0, 0, 256] S1x1x256.size (by decide)).toLoadRect), ?_⟩
  refine Ok.of_eq ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay302, k0_pay303, run.sl.r_26, run.sl.r_27, run.sl.r_28, run.sl.r_29, k0_pay298, run.sl.r_22,
    k0_pay299, k0_pay300, run.sl.r_21, k0_pay301, k0_pay297, k0_pay290, k0_pay289]
  exact Ok.congr (stepDiag2 (sc x k 0) (v 0) (1024 * (i 2).val + 512) 0 (by omega) _ _ _ _ _ _ _ _ (exitH0 c i arg3 harg3 arg4 harg4 arg5 harg5 arg6 harg6 arg7 harg7 arg8 harg8 arg9 harg9 arg10 harg10 arg11 harg11 arg12 harg12 I)
    (I.vals 256 arg5 harg5 _ _ 0 (1024 * (i 2).val + 512) ((k0_off14_eq i ⟨0, by decide⟩).trans (vec4 (show 1024 * (i 2).val + 256 * 0 + 512 = _ by omega))))
    (I.vals 256 arg5 harg5 _ _ 0 (1024 * (i 2).val + 512 + 256) ((k0_off14_eq i ⟨1, by decide⟩).trans (vec4 (show 1024 * (i 2).val + 256 * 1 + 512 = _ by omega)))) (exit1 c i arg3 harg3 arg4 harg4 arg5 harg5 arg6 harg6 arg7 harg7 arg8 harg8 arg9 harg9 arg10 harg10 arg11 harg11 arg12 harg12 I)) (fun q => by omega)

include I in
theorem last2 : ∃ M, Ok (sc x k 0) (v 0) 512 (fun q => 1024 * (i 2).val + 512 + 512 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 512] S1x80x256.size (by decide)).toLoadRect) := by
  refine ⟨(arg11.view.readCov (run.sl.H11_9_1 (F := Ideal) c i arg3 harg3 arg4 harg4 arg5 harg5 arg6 harg6 arg7 harg7 arg8 harg8 arg9 harg9 arg10 harg10 arg11 harg11 arg12 harg12 x3 x4 x5) (Rect.unit (s := S2x1x1024) ![0, 0, 512] S1x1x256.size (by decide)).toLoadRect), ?_⟩
  refine Ok.of_eq (View.readCov_cons_toLoadRect _ _ _ _)
    ((View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay355, k0_pay356, run.sl.r_58, run.sl.r_59, run.sl.r_60, k0_pay352, k0_pay353, k0_pay354,
    k0_pay350, k0_pay351, k0_pay349]
  exact Ok.congr (stepDiag1 (sc x k 0) (v 0) (1024 * (i 2).val + 512 + 512) 512 (by omega) _ _ _ _ _ _ (nextH0 i arg3 harg3 arg4 harg4 arg8 I)
    (I.vals 256 arg5 harg5 _ _ 0 (1024 * (i 2).val + 512 + 512) ((k0_off17_eq i ⟨0, by decide⟩).trans (vec4 (show 1024 * (i 2).val + 256 * 0 + 1024 = _ by omega)))) (mid2 c i arg3 harg3 arg4 harg4 arg5 harg5 arg6 harg6 arg7 harg7 arg8 harg8 arg9 harg9 arg10 harg10 arg11 harg11 arg12 harg12 I)) (fun q => by omega)

include I in
theorem last3 : ∃ M, Ok (sc x k 0) (v 0) 768 (fun q => 1024 * (i 2).val + 512 + 768 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 768] S1x80x256.size (by decide)).toLoadRect) := by
  refine ⟨(arg11.view.readCov (run.sl.H11_10 (F := Ideal) c i arg3 harg3 arg4 harg4 arg5 harg5 arg6 harg6 arg7 harg7 arg8 harg8 arg9 harg9 arg10 harg10 arg11 harg11 arg12 harg12 x3 x4 x5) (Rect.unit (s := S2x1x1024) ![0, 0, 768] S1x1x256.size (by decide)).toLoadRect), ?_⟩
  refine Ok.of_eq (View.readCov_cons_toLoadRect _ _ _ _)
    ((View.readCov_skip _ _ _ _ _ (by decide)).trans <|
      (View.readCov_skip _ _ _ _ _ (by decide)).trans <|
      View.readCov_cons_toLoadRect _ _ _ _) ?_
  dsimp only [k0_pay362, k0_pay363, run.sl.r_61, run.sl.r_62, run.sl.r_63, run.sl.r_64, k0_pay358, run.sl.r_57,
    k0_pay359, k0_pay360, run.sl.r_56, k0_pay361, k0_pay357, k0_pay350, k0_pay349]
  exact Ok.congr (stepDiag2 (sc x k 0) (v 0) (1024 * (i 2).val + 512 + 512) 512 (by omega) _ _ _ _ _ _ _ _ (nextH0 i arg3 harg3 arg4 harg4 arg8 I)
    (I.vals 256 arg5 harg5 _ _ 0 (1024 * (i 2).val + 512 + 512) ((k0_off17_eq i ⟨0, by decide⟩).trans (vec4 (show 1024 * (i 2).val + 256 * 0 + 1024 = _ by omega))))
    (I.vals 256 arg5 harg5 _ _ 0 (1024 * (i 2).val + 512 + 512 + 256) ((k0_off17_eq i ⟨1, by decide⟩).trans (vec4 (show 1024 * (i 2).val + 256 * 1 + 1024 = _ by omega)))) (mid3 c i arg3 harg3 arg4 harg4 arg5 harg5 arg6 harg6 arg7 harg7 arg8 harg8 arg9 harg9 arg10 harg10 arg11 harg11 arg12 harg12 I)) (fun q => by omega)

include I in
theorem last4 : ∃ M, Ok (sc x k 1) (v 1) 0 (fun q => 1024 * (i 2).val + 512 + 0 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 0] S1x80x256.size (by decide)).toLoadRect) := by
  refine ⟨(arg11.view.readCov (run.sl.H11_8_1 (F := Ideal) c i arg3 harg3 arg4 harg4 arg5 harg5 arg6 harg6 arg7 harg7 arg8 harg8 arg9 harg9 arg10 harg10 arg11 harg11 arg12 harg12 x3 x4 x5) (Rect.unit (s := S2x1x1024) ![1, 0, 0] S1x1x256.size (by decide)).toLoadRect), ?_⟩
  refine Ok.of_eq ((View.readCov_skip _ _ _ _ _ (by decide)).trans <|
      (View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay325, k0_pay326, run.sl.r_41, run.sl.r_42, k0_pay323, k0_pay324, k0_pay321, k0_pay322,
    k0_pay320]
  exact Ok.congr (stepDiag1 (sc x k 1) (v 1) (1024 * (i 2).val + 512) 0 (by omega) _ _ _ _ _ _ (exitH1 c i arg3 harg3 arg4 harg4 arg5 harg5 arg6 harg6 arg7 harg7 arg8 harg8 arg9 harg9 arg10 harg10 arg11 harg11 arg12 harg12 I)
    (I.vals 256 arg5 harg5 _ _ 1 (1024 * (i 2).val + 512) ((k0_off16_eq i ⟨0, by decide⟩).trans (vec4 (show 1024 * (i 2).val + 256 * 0 + 512 = _ by omega)))) (exit4 c i arg3 harg3 arg4 harg4 arg5 harg5 arg6 harg6 arg7 harg7 arg8 harg8 arg9 harg9 arg10 harg10 arg11 harg11 arg12 harg12 I)) (fun q => by omega)

include I in
theorem last5 : ∃ M, Ok (sc x k 1) (v 1) 256 (fun q => 1024 * (i 2).val + 512 + 256 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 256] S1x80x256.size (by decide)).toLoadRect) := by
  refine ⟨(arg11.view.readCov (run.sl.H11_8_1 (F := Ideal) c i arg3 harg3 arg4 harg4 arg5 harg5 arg6 harg6 arg7 harg7 arg8 harg8 arg9 harg9 arg10 harg10 arg11 harg11 arg12 harg12 x3 x4 x5) (Rect.unit (s := S2x1x1024) ![1, 0, 256] S1x1x256.size (by decide)).toLoadRect), ?_⟩
  refine Ok.of_eq ((View.readCov_skip _ _ _ _ _ (by decide)).trans <|
      (View.readCov_skip _ _ _ _ _ (by decide)).trans <|
      View.readCov_cons_toLoadRect _ _ _ _)
    ((View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      (View.readCov_skip _ _ _ _ _ (by decide)).trans <|
      View.readCov_cons_toLoadRect _ _ _ _) ?_
  dsimp only [k0_pay330, k0_pay331, run.sl.r_43, run.sl.r_44, k0_pay328, run.sl.r_40, k0_pay329, run.sl.r_39,
    k0_pay327, k0_pay321, k0_pay320]
  exact Ok.congr (stepDiag2 (sc x k 1) (v 1) (1024 * (i 2).val + 512) 0 (by omega) _ _ _ _ _ _ _ _ (exitH1 c i arg3 harg3 arg4 harg4 arg5 harg5 arg6 harg6 arg7 harg7 arg8 harg8 arg9 harg9 arg10 harg10 arg11 harg11 arg12 harg12 I)
    (I.vals 256 arg5 harg5 _ _ 1 (1024 * (i 2).val + 512) ((k0_off16_eq i ⟨0, by decide⟩).trans (vec4 (show 1024 * (i 2).val + 256 * 0 + 512 = _ by omega))))
    (I.vals 256 arg5 harg5 _ _ 1 (1024 * (i 2).val + 512 + 256) ((k0_off16_eq i ⟨1, by decide⟩).trans (vec4 (show 1024 * (i 2).val + 256 * 1 + 512 = _ by omega)))) (exit5 c i arg3 harg3 arg4 harg4 arg5 harg5 arg6 harg6 arg7 harg7 arg8 harg8 arg9 harg9 arg10 harg10 arg11 harg11 arg12 harg12 I)) (fun q => by omega)

include I in
theorem last6 : ∃ M, Ok (sc x k 1) (v 1) 512 (fun q => 1024 * (i 2).val + 512 + 512 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 512] S1x80x256.size (by decide)).toLoadRect) := by
  refine ⟨(arg11.view.readCov (run.sl.H11_11 (F := Ideal) c i arg3 harg3 arg4 harg4 arg5 harg5 arg6 harg6 arg7 harg7 arg8 harg8 arg9 harg9 arg10 harg10 arg11 harg11 arg12 harg12 x3 x4 x5) (Rect.unit (s := S2x1x1024) ![1, 0, 512] S1x1x256.size (by decide)).toLoadRect), ?_⟩
  refine Ok.of_eq (View.readCov_cons_toLoadRect _ _ _ _)
    ((View.readCov_skip _ _ _ _ _ (by decide)).trans <|
      View.readCov_cons_toLoadRect _ _ _ _) ?_
  dsimp only [k0_pay369, k0_pay370, run.sl.r_65, run.sl.r_67, run.sl.r_68, k0_pay364, k0_pay367, k0_pay368,
    k0_pay365, k0_pay366]
  exact Ok.congr (stepDiag1 (sc x k 1) (v 1) (1024 * (i 2).val + 512 + 512) 512 (by omega) _ _ _ _ _ _ (nextH1 i arg3 harg3 arg4 harg4 arg8 I)
    (I.vals 256 arg5 harg5 _ _ 1 (1024 * (i 2).val + 512 + 512) ((k0_off18_eq i ⟨0, by decide⟩).trans (vec4 (show 1024 * (i 2).val + 256 * 0 + 1024 = _ by omega)))) (mid6 c i arg3 harg3 arg4 harg4 arg5 harg5 arg6 harg6 arg7 harg7 arg8 harg8 arg9 harg9 arg10 harg10 arg11 harg11 arg12 harg12 I)) (fun q => by omega)

include I in
theorem last7 : ∃ M, Ok (sc x k 1) (v 1) 768 (fun q => 1024 * (i 2).val + 512 + 768 + q + 1) M
    (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 768] S1x80x256.size (by decide)).toLoadRect) := by
  refine ⟨(k0_pay377 (run.sl.r_69 (F := Ideal) c i arg3 harg3 arg4 harg4 arg5 harg5 arg6 harg6 arg7 harg7 arg8 harg8 arg9 harg9 arg10 harg10 arg11 harg11 arg12 harg12 x3 x4 x5)), ?_⟩
  refine Ok.of_eq rfl
    (View.readCov_cons_toLoadRect _ _ _ _) ?_
  dsimp only [k0_pay376, k0_pay377, run.sl.cst_470, run.sl.r_65, run.sl.r_69, run.sl.r_70, run.sl.r_71,
    run.sl.r_72, k0_pay364, k0_pay372, run.sl.r_66, k0_pay373, k0_pay374, k0_pay375, k0_pay371, k0_pay365]
  exact Ok.congr (stepDiag2 (sc x k 1) (v 1) (1024 * (i 2).val + 512 + 512) 512 (by omega) _ _ _ _ _ _ _ _ (nextH1 i arg3 harg3 arg4 harg4 arg8 I)
    (I.vals 256 arg5 harg5 _ _ 1 (1024 * (i 2).val + 512 + 512) ((k0_off18_eq i ⟨0, by decide⟩).trans (vec4 (show 1024 * (i 2).val + 256 * 0 + 1024 = _ by omega))))
    (I.vals 256 arg5 harg5 _ _ 1 (1024 * (i 2).val + 512 + 512 + 256) ((k0_off18_eq i ⟨1, by decide⟩).trans (vec4 (show 1024 * (i 2).val + 256 * 1 + 1024 = _ by omega)))) (mid7 c i arg3 harg3 arg4 harg4 arg5 harg5 arg6 harg6 arg7 harg7 arg8 harg8 arg9 harg9 arg10 harg10 arg11 harg11 arg12 harg12 I)) (fun q => by omega)

end Cert.Proof.Value
-- ==== Proof.Value.Block.lean ====
module

public import proofs.«01_k».proof.Proof.Value.Exit

@[expose] public section

set_option maxRecDepth 65536

noncomputable section

namespace Cert.Proof.Value

open Cert.KernelIdeal Cert.KernelIdeal.Gen Cert.Proof.KI
open Idealize.ShloMosaic Idealize.ShloMosaic.TcCoe

theorem out_lo (a0 a1 : FVec Ideal S1x64x1024 .f32) (l0 l1 : FVec Ideal S1x1x1024 .f32) (q : Fin 1024) (d : Fin 64) :
    (k0_pay1 (F := Ideal) (k0_pay378 a0 l0) (k0_pay379 a1) l1 (ix3 0 q ⟨d.val, by omega⟩) : EReal)
      = Ideal.div (a0 (ix3 0 d q)) (l0 (ix3 0 0 q)) := by
  pointwise [k0_pay1, k0_pay378, k0_pay379]

theorem out_hi (a0 a1 : FVec Ideal S1x64x1024 .f32) (l0 l1 : FVec Ideal S1x1x1024 .f32) (q : Fin 1024) (d : Fin 64) :
    (k0_pay1 (F := Ideal) (k0_pay378 a0 l0) (k0_pay379 a1) l1 (ix3 0 q ⟨64 + d.val, by omega⟩) : EReal)
      = Ideal.div (a1 (ix3 0 d q)) (l1 (ix3 0 0 q)) := by
  pointwise [k0_pay1, k0_pay378, k0_pay379]

/-- The weighted mean of the values of the keys below `e`: the softmax's weights are powers of two. -/
def mean (s v : ℕ → ℝ) (e : ℕ) : ℝ :=
  (∑ key ∈ Finset.Ico 496 e, (2 : ℝ) ^ s key * v key) / ∑ key ∈ Finset.Ico 496 e, (2 : ℝ) ^ s key

/-- The quotient of the two sums does not depend on the shift. -/
theorem div_part (s v w : ℕ → ℝ) (e : ℕ) (μ : ℝ) (he : 496 < e) (hw : ∀ key, 496 ≤ key → key < e → w key = 1) :
    Ideal.div ((part s v e μ : ℝ) : EReal) ((part s w e μ : ℝ) : EReal) = ((mean s v e : ℝ) : EReal) := by
  have hp (f : ℕ → ℝ) : part s f e μ = (2 : ℝ) ^ (-μ) * ∑ key ∈ Finset.Ico 496 e, (2 : ℝ) ^ s key * f key := by
    rw [part, ← rescale 496 s f e 0 μ, zero_sub]
    simp [partFrom]
  have h1 : ∑ key ∈ Finset.Ico 496 e, (2 : ℝ) ^ s key * w key = ∑ key ∈ Finset.Ico 496 e, (2 : ℝ) ^ s key :=
    Finset.sum_congr rfl fun key hk => by
      rw [hw key (Finset.mem_Ico.1 hk).1 (Finset.mem_Ico.1 hk).2, mul_one]
  have h2 : 0 < ∑ key ∈ Finset.Ico 496 e, (2 : ℝ) ^ s key :=
    Finset.sum_pos (fun key _ => Real.rpow_pos_of_pos (by norm_num) _) ⟨496, Finset.mem_Ico.2 ⟨le_refl _, he⟩⟩
  have h3 : (0 : ℝ) < 2 ^ (-μ) := Real.rpow_pos_of_pos (by norm_num) _
  rw [hp v, hp w, h1, Ideal.div_coe (mul_pos h3 h2).ne', ← EReal.coe_mul, mean, mul_one_div,
    mul_div_mul_left _ _ h3.ne']

variable (c : Dev nD) (i : grid0.Coords)
  (arg3 : Memref sig .tc .vmem S1x256x1024 .bf16) (harg3 : arg3.IsWhole)
  (arg4 : Memref sig .tc .vmem S1x8704x256 .bf16) (harg4 : arg4.IsWhole)
  (arg5 : Memref sig .tc .vmem S1x2x80x8704 .bf16) (harg5 : arg5.IsWhole)
  (arg6 : Memref sig .tc .vmem S1x1024x128 .bf16) (harg6 : arg6.IsWhole)
  (arg7 : Memref sig .tc .vmem S2x512x1024 .f32) (harg7 : arg7.IsWhole)
  (arg8 : Memref sig .tc .vmem S2x512x1024 .f32) (harg8 : arg8.IsWhole)
  (arg9 : Memref sig .tc .vmem S2x1x1024 .f32) (harg9 : arg9.IsWhole)
  (arg10 : Memref sig .tc .vmem S2x1x1024 .f32) (harg10 : arg10.IsWhole)
  (arg11 : Memref sig .tc .vmem S2x1x1024 .f32) (harg11 : arg11.IsWhole)
  (arg12 : Memref sig .tc .vmem S2x80x1024 .f32) (harg12 : arg12.IsWhole)

variable {x k : ℕ → ℕ → ℝ} {v : ℕ → ℕ → ℕ → ℝ} {x3 : S1x256x1024.Idx → Elt Ideal .bf16}
  {x4 : S1x8704x256.Idx → Elt Ideal .bf16} {x5 : S1x2x80x8704.Idx → Elt Ideal .bf16}
  (I : Inp x k v x3 x4 x5)

/-- What the accumulator holds when the output is formed. -/
abbrev fin (x3 : S1x256x1024.Idx → Elt Ideal .bf16) (x4 : S1x8704x256.Idx → Elt Ideal .bf16)
    (x5 : S1x2x80x8704.Idx → Elt Ideal .bf16) : S2x80x1024.Idx → Elt Ideal .f32 :=
  arg12.view.read (Elt Ideal) (arg12.view.writes (Elt Ideal) arg12.view.junk
    (run.sl.H12_12 (F := Ideal) c i arg3 harg3 arg4 harg4 arg5 harg5 arg6 harg6 arg7 harg7 arg8 harg8 arg9 harg9 arg10 harg10 arg11 harg11 arg12 harg12 x3 x4 x5))

/-- A load of some rows of the accumulator, at one entry. -/
theorem rows_fin (L : List (View.Piece (Elt Ideal) S2x80x1024 .f32)) (n h r0 : ℕ) (inb) (d : Fin n) (q : Fin 1024)
    (hh : h < 2) (hr : r0 + d.val < 80) :
    (arg12.view.readCov L (Rect.unit (s := S2x80x1024) ![h, r0, 0] (⟨3, ![1, n, 1024]⟩ : Shape).size inb).toLoadRect)
        (ix3 0 d q)
      = arg12.view.read (Elt Ideal) (arg12.view.writes (Elt Ideal) arg12.view.junk L) (ix3 ⟨h, hh⟩ ⟨r0 + d.val, hr⟩ q) := by
  refine congrArg (arg12.view.read (Elt Ideal) (arg12.view.writes (Elt Ideal) arg12.view.junk L)) (funext fun a => Fin.ext ?_)
  fin_cases a
  · exact (by omega : h + 1 * 0 = h)
  · exact (by omega : r0 + 1 * d.val = r0 + d.val)
  · exact (by omega : 0 + 1 * q.val = q.val)

/-- A tile of the accumulator, at the accumulator's own coordinates. -/
theorem tile_fin (f : S2x80x1024.Idx → Elt Ideal .f32) (s v : ℕ → ℕ → ℝ) (h : Fin 2) (q0 D : ℕ) (inb)
    (M : FVec Ideal S1x1x256 .f32)
    (H : Ok s v q0 (fun q => D + q0 + q + 1) M
      (fun y => f ((Rect.unit (s := S2x80x1024) ![h.val, 0, q0] S1x80x256.size inb).toLoadRect.idx y)))
    (q : Fin 1024) (h0 : q0 ≤ q.val) (h1 : q.val < q0 + 256) :
    ∃ μ : ℝ, ∀ r : Fin 80, (f (ix3 h r q) : EReal)
      = ((part (fun k => s k q.val) (v r.val) (D + q.val + 1) μ : ℝ) : EReal) := by
  obtain ⟨μ, -, hA⟩ := H ⟨q.val - q0, by omega⟩
  refine ⟨μ, fun r => ?_⟩
  have h2 := hA r
  dsimp only at h2
  rw [show q0 + (q.val - q0) = q.val by omega, show D + q0 + (q.val - q0) = D + q.val by omega] at h2
  rw [← h2]
  refine congrArg f (funext fun a => Fin.ext ?_)
  fin_cases a
  · exact (by omega : h.val = h.val + 1 * 0)
  · exact (by omega : r.val = 0 + 1 * r.val)
  · exact (by omega : q.val = q0 + 1 * (q.val - q0))

include I

/-- Every row of the accumulator is the weighted sum of that row of values, at one shift per head and query. -/
theorem fin_at (h : Fin 2) (q : Fin 1024) :
    ∃ μ : ℝ, ∀ r : Fin 80, (fin c i arg3 harg3 arg4 harg4 arg5 harg5 arg6 harg6 arg7 harg7 arg8 harg8 arg9 harg9 arg10 harg10 arg11 harg11 arg12 harg12 x3 x4 x5 (ix3 h r q) : EReal)
      = ((part (fun key => sc x k h.val key q.val) (v h.val r.val) (1024 * (i 2).val + 512 + q.val + 1) μ : ℝ) : EReal) := by
  obtain ⟨M0, H0⟩ := last0 c i arg3 harg3 arg4 harg4 arg5 harg5 arg6 harg6 arg7 harg7 arg8 harg8 arg9 harg9 arg10 harg10 arg11 harg11 arg12 harg12 I
  obtain ⟨M1, H1⟩ := last1 c i arg3 harg3 arg4 harg4 arg5 harg5 arg6 harg6 arg7 harg7 arg8 harg8 arg9 harg9 arg10 harg10 arg11 harg11 arg12 harg12 I
  obtain ⟨M2, H2⟩ := last2 c i arg3 harg3 arg4 harg4 arg5 harg5 arg6 harg6 arg7 harg7 arg8 harg8 arg9 harg9 arg10 harg10 arg11 harg11 arg12 harg12 I
  obtain ⟨M3, H3⟩ := last3 c i arg3 harg3 arg4 harg4 arg5 harg5 arg6 harg6 arg7 harg7 arg8 harg8 arg9 harg9 arg10 harg10 arg11 harg11 arg12 harg12 I
  obtain ⟨M4, H4⟩ := last4 c i arg3 harg3 arg4 harg4 arg5 harg5 arg6 harg6 arg7 harg7 arg8 harg8 arg9 harg9 arg10 harg10 arg11 harg11 arg12 harg12 I
  obtain ⟨M5, H5⟩ := last5 c i arg3 harg3 arg4 harg4 arg5 harg5 arg6 harg6 arg7 harg7 arg8 harg8 arg9 harg9 arg10 harg10 arg11 harg11 arg12 harg12 I
  obtain ⟨M6, H6⟩ := last6 c i arg3 harg3 arg4 harg4 arg5 harg5 arg6 harg6 arg7 harg7 arg8 harg8 arg9 harg9 arg10 harg10 arg11 harg11 arg12 harg12 I
  obtain ⟨M7, H7⟩ := last7 c i arg3 harg3 arg4 harg4 arg5 harg5 arg6 harg6 arg7 harg7 arg8 harg8 arg9 harg9 arg10 harg10 arg11 harg11 arg12 harg12 I
  have hq := q.isLt
  match h with
  | ⟨0, _⟩ =>
    by_cases c1 : q.val < 256
    · exact tile_fin _ (sc x k 0) (v 0) 0 0 _ _ M0 H0 q (by omega) (by omega)
    by_cases c2 : q.val < 512
    · exact tile_fin _ (sc x k 0) (v 0) 0 256 _ _ M1 H1 q (by omega) (by omega)
    by_cases c3 : q.val < 768
    · exact tile_fin _ (sc x k 0) (v 0) 0 512 _ _ M2 H2 q (by omega) (by omega)
    · exact tile_fin _ (sc x k 0) (v 0) 0 768 _ _ M3 H3 q (by omega) (by omega)
  | ⟨1, _⟩ =>
    by_cases c1 : q.val < 256
    · exact tile_fin _ (sc x k 1) (v 1) 1 0 _ _ M4 H4 q (by omega) (by omega)
    by_cases c2 : q.val < 512
    · exact tile_fin _ (sc x k 1) (v 1) 1 256 _ _ M5 H5 q (by omega) (by omega)
    by_cases c3 : q.val < 768
    · exact tile_fin _ (sc x k 1) (v 1) 1 512 _ _ M6 H6 q (by omega) (by omega)
    · exact tile_fin _ (sc x k 1) (v 1) 1 768 _ _ M7 H7 q (by omega) (by omega)

omit I in
/-- The body's one store. -/
theorem run_store : (run (F := Ideal) c i arg3 harg3 arg4 harg4 arg5 harg5 arg6 harg6 arg7 harg7 arg8 harg8 arg9 harg9 arg10 harg10 arg11 harg11 arg12 harg12 x3 x4 x5).1
    = [⟨Rect.unit (s := S1x1024x128) ![0, 0, 0] S1x1024x128.size (by decide),
        k0_pay1 (k0_pay378 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 0] S1x64x1024.size (by decide)).toLoadRect) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 64, 0] S1x1x1024.size (by decide)).toLoadRect)) (k0_pay379 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 0] S1x64x1024.size (by decide)).toLoadRect)) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 64, 0] S1x1x1024.size (by decide)).toLoadRect)⟩] := by
  unfold run
  rfl

/-- Entry `d` of a query's row is the mean of row `d` of the values of head 0 of the pair. -/
theorem store_lo (hone : ∀ h key, 496 ≤ key → key < 8704 → v h 64 key = 1) (q : Fin 1024) (d : Fin 64) :
    (k0_pay1 (F := Ideal) (k0_pay378 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 0] S1x64x1024.size (by decide)).toLoadRect) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 64, 0] S1x1x1024.size (by decide)).toLoadRect)) (k0_pay379 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 0] S1x64x1024.size (by decide)).toLoadRect)) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 64, 0] S1x1x1024.size (by decide)).toLoadRect)
        (ix3 0 q ⟨d.val, by omega⟩) : EReal)
      = ((mean (fun key => sc x k 0 key q.val) (v 0 d.val) (1024 * (i 2).val + 512 + q.val + 1) : ℝ) : EReal) := by
  have hi : (i 2).val < 8 := (i 2).isLt
  have hq := q.isLt
  obtain ⟨μ, hA⟩ := fin_at c i arg3 harg3 arg4 harg4 arg5 harg5 arg6 harg6 arg7 harg7 arg8 harg8 arg9 harg9 arg10 harg10 arg11 harg11 arg12 harg12 I 0 q
  rw [out_lo]
  refine (congrArg₂ Ideal.div ((rows_fin arg12 _ 64 0 0 _ d q (by decide) (by omega)).trans
    ((congrArg (fun r => fin c i arg3 harg3 arg4 harg4 arg5 harg5 arg6 harg6 arg7 harg7 arg8 harg8 arg9 harg9 arg10 harg10 arg11 harg11 arg12 harg12 x3 x4 x5 (ix3 0 r q)) (Fin.ext (by simp))).trans (hA ⟨d.val, by omega⟩)))
    ((rows_fin arg12 _ 1 0 64 _ 0 q (by decide) (by decide)).trans (hA ⟨64, by decide⟩))).trans ?_
  exact div_part _ _ (v 0 64) _ μ (by omega) (fun key h1 h2 => hone 0 key h1 (by omega))

/-- Entry `64 + d` of a query's row is the mean of row `d` of the values of head 1 of the pair. -/
theorem store_hi (hone : ∀ h key, 496 ≤ key → key < 8704 → v h 64 key = 1) (q : Fin 1024) (d : Fin 64) :
    (k0_pay1 (F := Ideal) (k0_pay378 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 0, 0] S1x64x1024.size (by decide)).toLoadRect) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![0, 64, 0] S1x1x1024.size (by decide)).toLoadRect)) (k0_pay379 (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 0, 0] S1x64x1024.size (by decide)).toLoadRect)) (arg12.view.readCov (run.sl.H12_12 (F := Ideal) c i arg3 harg3 arg4 harg4 arg5 harg5 arg6 harg6 arg7 harg7 arg8 harg8 arg9 harg9 arg10 harg10 arg11 harg11 arg12 harg12 x3 x4 x5) (Rect.unit (s := S2x80x1024) ![1, 64, 0] S1x1x1024.size (by decide)).toLoadRect)
        (ix3 0 q ⟨64 + d.val, by omega⟩) : EReal)
      = ((mean (fun key => sc x k 1 key q.val) (v 1 d.val) (1024 * (i 2).val + 512 + q.val + 1) : ℝ) : EReal) := by
  have hi : (i 2).val < 8 := (i 2).isLt
  have hq := q.isLt
  obtain ⟨μ, hA⟩ := fin_at c i arg3 harg3 arg4 harg4 arg5 harg5 arg6 harg6 arg7 harg7 arg8 harg8 arg9 harg9 arg10 harg10 arg11 harg11 arg12 harg12 I 1 q
  rw [out_hi]
  refine (congrArg₂ Ideal.div ((rows_fin arg12 _ 64 1 0 _ d q (by decide) (by omega)).trans
    ((congrArg (fun r => fin c i arg3 harg3 arg4 harg4 arg5 harg5 arg6 harg6 arg7 harg7 arg8 harg8 arg9 harg9 arg10 harg10 arg11 harg11 arg12 harg12 x3 x4 x5 (ix3 1 r q)) (Fin.ext (by simp))).trans (hA ⟨d.val, by omega⟩)))
    ((rows_fin arg12 _ 1 1 64 _ 0 q (by decide) (by decide)).trans (hA ⟨64, by decide⟩))).trans ?_
  exact div_part _ _ (v 1 64) _ μ (by omega) (fun key h1 h2 => hone 1 key h1 (by omega))

end Cert.Proof.Value
-- ==== Proof.Value.Spec.lean ====
/-
The result both programs compute: attention with a forget gate, over the reals.
-/
module

public import Mathlib.Analysis.SpecialFunctions.Pow.Real
public import Mathlib.Analysis.SpecialFunctions.Log.Basic
public import Idealize.ShloMosaic.PureOps.Ideal
public import Idealize.ShloMosaic.Lib.Pointwise

@[expose] public section

noncomputable section

namespace Cert.Proof.Value

open Idealize.ShloMosaic

/-- The four arguments: queries, keys, values, and the summed logarithms of the forget gates. -/
abbrev QS : Shape := ⟨4, ![2, 16, 8192, 64]⟩
abbrev KS : Shape := ⟨4, ![2, 16, 8208, 64]⟩
abbrev FS : Shape := ⟨3, ![2, 16, 8208]⟩

/-- Every entry is a real number. -/
def Real' {s : Shape} (X : s.Idx → EReal) : Prop := ∀ i, X i ≠ ⊤ ∧ X i ≠ ⊥

/-- An array's entry as a real number, zero outside the array. -/
def qr (X : QS.Idx → EReal) (b H s d : ℕ) : ℝ :=
  if h : b < 2 ∧ H < 16 ∧ s < 8192 ∧ d < 64 then
    (X (ix4 (⟨b, h.1⟩ : Fin 2) (⟨H, h.2.1⟩ : Fin 16) (⟨s, h.2.2.1⟩ : Fin 8192) (⟨d, h.2.2.2⟩ : Fin 64))).toReal else 0

def kr (X : KS.Idx → EReal) (b H s d : ℕ) : ℝ :=
  if h : b < 2 ∧ H < 16 ∧ s < 8208 ∧ d < 64 then
    (X (ix4 (⟨b, h.1⟩ : Fin 2) (⟨H, h.2.1⟩ : Fin 16) (⟨s, h.2.2.1⟩ : Fin 8208) (⟨d, h.2.2.2⟩ : Fin 64))).toReal else 0

def fr (X : FS.Idx → EReal) (b H s : ℕ) : ℝ :=
  if h : b < 2 ∧ H < 16 ∧ s < 8208 then
    (X (ix3 (⟨b, h.1⟩ : Fin 2) (⟨H, h.2.1⟩ : Fin 16) (⟨s, h.2.2⟩ : Fin 8208))).toReal else 0

theorem qr_at {X : QS.Idx → EReal} (hX : Real' X) (b : Fin 2) (H : Fin 16) (s : Fin 8192) (d : Fin 64) :
    X (ix4 b H s d) = ((qr X b.val H.val s.val d.val : ℝ) : EReal) := by
  rw [qr, dif_pos ⟨b.isLt, H.isLt, s.isLt, d.isLt⟩]
  exact (EReal.coe_toReal (hX _).1 (hX _).2).symm

theorem kr_at {X : KS.Idx → EReal} (hX : Real' X) (b : Fin 2) (H : Fin 16) (s : Fin 8208) (d : Fin 64) :
    X (ix4 b H s d) = ((kr X b.val H.val s.val d.val : ℝ) : EReal) := by
  rw [kr, dif_pos ⟨b.isLt, H.isLt, s.isLt, d.isLt⟩]
  exact (EReal.coe_toReal (hX _).1 (hX _).2).symm

theorem fr_at {X : FS.Idx → EReal} (hX : Real' X) (b : Fin 2) (H : Fin 16) (s : Fin 8208) :
    X (ix3 b H s) = ((fr X b.val H.val s.val : ℝ) : EReal) := by
  rw [fr, dif_pos ⟨b.isLt, H.isLt, s.isLt⟩]
  exact (EReal.coe_toReal (hX _).1 (hX _).2).symm

variable (X0 : QS.Idx → EReal) (X1 X2 : KS.Idx → EReal) (X3 : FS.Idx → EReal)

/-- The score of query `s` against key `j`, up to a term that depends on the query alone. -/
def logit (b H s j : ℕ) : ℝ := (∑ d : Fin 64, qr X0 b H s d.val * (1 / 8) * kr X1 b H j d.val) - fr X3 b H j

/-- The attention's value: query `s` sees the 16 leading keys and the keys up to its own. -/
def attn (b H s d : ℕ) : ℝ :=
  (∑ j ∈ Finset.range (s + 17), Real.exp (logit X0 X1 X3 b H s j) * kr X2 b H j d)
    / ∑ j ∈ Finset.range (s + 17), Real.exp (logit X0 X1 X3 b H s j)

end Cert.Proof.Value
-- ==== Proof.Value.Inputs.lean ====
/-
The blocks of a grid point as tables of real numbers, and the kernel's scores in the problem's own terms.
-/
module

public import proofs.«01_k».proof.Proof.Value.Array
public import proofs.«01_k».proof.Proof.Value.Block
public import proofs.«01_k».proof.Proof.Value.Spec

@[expose] public section

set_option maxRecDepth 16384

noncomputable section

namespace Cert.Proof.Value

open Cert.KernelIdeal Cert.KernelIdeal.Gen Cert.Proof.KI
open Idealize.ShloMosaic Idealize.ShloMosaic.TcCoe

theorem two_bits : Ideal.ofBits .f32 0x40000000#32 = ((2 : ℝ) : EReal) := by
  simp [Ideal.ofBits, Ideal.ieee]
  rw [← EReal.coe_mul]
  norm_num

theorem eighth_bits : Ideal.ofBits .f32 0x3E000000#32 = ((1 / 8 : ℝ) : EReal) := by
  simp [Ideal.ofBits, Ideal.ieee]
  rw [← EReal.coe_mul]
  norm_num

theorem log2e_real : log2e = ((1 / Real.log 2 : ℝ) : EReal) := by
  have h : 0 < Real.log 2 := Real.log_pos (by norm_num)
  rw [log2e, two_bits, Ideal.log_coe, if_neg (by norm_num), Ideal.div_coe h.ne', one_mul]

/-- A head's 128 lanes of a query. -/
def qlane (f : ℕ → ℝ) (n : ℕ) : ℝ := if n < 64 then f n * (1 / 8 * (1 / Real.log 2)) else if n < 67 then 1 else 0

/-- A head's 128 lanes of a key with gate sum `g`. -/
def klane (f : ℕ → ℝ) (g : ℝ) (n : ℕ) : ℝ := if n < 64 then f n else if n = 64 then -(1 / Real.log 2) * g else 0

variable (X0 : QS.Idx → EReal) (X1 X2 : KS.Idx → EReal) (X3 : FS.Idx → EReal)

/-- The tables of the point at batch `b`, head pair `p`, query block `i`. -/
def tx (b p i l q : ℕ) : ℝ := qlane (qr X0 b (2 * p + l / 128) (1024 * i + q)) (l % 128)
def tk (b p r l : ℕ) : ℝ :=
  if r < 496 then 0 else klane (kr X1 b (2 * p + l / 128) (r - 496)) (fr X3 b (2 * p + l / 128) (r - 496)) (l % 128)
def tv (b p h d r : ℕ) : ℝ := if r < 496 then 0 else if d < 64 then kr X2 b (2 * p + h) (r - 496) d else 1

/-- The score the kernel forms is the problem's, in units of log 2. -/
theorem score_eq (b p i h key q : ℕ) (hh : h < 2) (hk : 496 ≤ key) :
    sc (tx X0 b p i) (tk X1 X3 b p) h key q
      = logit X0 X1 X3 b (2 * p + h) (1024 * i + q) (key - 496) / Real.log 2 := by
  have e (f : ℕ → ℝ) : ∑ l : Fin 128, f l.val = (∑ d : Fin 64, f d.val) + ∑ d ∈ Finset.range 64, f (64 + d) := by
    rw [Finset.sum_range f |>.symm, show 128 = 64 + 64 by rfl, Finset.sum_range_add, Finset.sum_range]
  unfold sc score
  rw [e fun l => tk X1 X3 b p key (128 * h + l) * tx X0 b p i (128 * h + l) q,
    Finset.sum_eq_single_of_mem 0 (Finset.mem_range.2 (by decide)) (fun d hd h0 => ?_)]
  · unfold tk tx logit
    rw [if_neg (by omega), show (128 * h + (64 + 0)) / 128 = h by omega,
      show (128 * h + (64 + 0)) % 128 = 64 by omega]
    rw [sub_div, Finset.sum_div, sub_eq_add_neg]
    refine congrArg₂ (· + ·) (Finset.sum_congr rfl fun d _ => ?_) ?_
    · have hd := d.isLt
      rw [if_neg (by omega), show (128 * h + d.val) / 128 = h by omega, show (128 * h + d.val) % 128 = d.val by omega]
      unfold klane qlane
      rw [if_pos hd, if_pos hd]
      ring
    · unfold klane qlane
      norm_num
      ring
  · unfold tk
    have := Finset.mem_range.1 hd
    rw [if_neg (by omega), show (128 * h + (64 + d)) % 128 = 64 + d by omega]
    unfold klane
    rw [if_neg (by omega), if_neg (by omega), zero_mul]

/-- The kernel's mean is the attention. -/
theorem mean_eq (b p i h q d : ℕ) (hh : h < 2) (hd : d < 64) :
    mean (fun key => sc (tx X0 b p i) (tk X1 X3 b p) h key q) (tv X2 b p h d) (1024 * i + 512 + q + 1)
      = attn X0 X1 X2 X3 b (2 * p + h) (1024 * i + q) d := by
  have hl : Real.log 2 ≠ 0 := (Real.log_pos (by norm_num)).ne'
  have h2 (y : ℝ) : (2 : ℝ) ^ (y / Real.log 2) = Real.exp y := by
    rw [Real.rpow_def_of_pos (by norm_num), mul_div_cancel₀ _ hl]
  have e : 1024 * i + 512 + q + 1 - 496 = 1024 * i + q + 17 := by omega
  unfold mean attn
  rw [Finset.sum_Ico_eq_sum_range, Finset.sum_Ico_eq_sum_range, e]
  refine congrArg₂ (· / ·) (Finset.sum_congr rfl fun j _ => ?_) (Finset.sum_congr rfl fun j _ => ?_)
  · dsimp only
    rw [score_eq X0 X1 X3 b p i h _ q hh (by omega), h2, Nat.add_sub_cancel_left]
    unfold tv
    rw [if_neg (by omega), if_pos hd, Nat.add_sub_cancel_left]
  · dsimp only
    rw [score_eq X0 X1 X3 b p i h _ q hh (by omega), h2, Nat.add_sub_cancel_left]

variable (m : (ℓ : Loc nD τ sig) → Buf (Elt Ideal) ℓ) (c : Dev nD)

/-- The arguments are arrays of real numbers. -/
structure Args : Prop where
  r0 : Real' (s := QS) (A0 m c)
  r1 : Real' (s := KS) (A1 m c)
  r2 : Real' (s := KS) (A2 m c)
  r3 : Real' (s := FS) (A3 m c)

variable {m c} (R : Args m c)

include R

theorem win_q (t : Fin cfg0.N) (l : Fin 256) (q : Fin 1024) :
    (iblk m c 0 t (ix3 0 l q) : EReal)
      = ((tx (A0 m c) (bOf t).val (pOf t).val (qOf t).val l.val q.val : ℝ) : EReal) := by
  have hl := l.isLt
  have hp := (pOf t).isLt
  have hi := (qOf t).isLt
  rw [blk0]
  obtain ⟨h, n, hn, e⟩ : ∃ h n : ℕ, n < 128 ∧ l.val = 128 * h + n := ⟨l.val / 128, l.val % 128, by omega, by omega⟩
  have hh : h < 2 := by omega
  unfold tx
  rw [show l.val / 128 = h by omega, show l.val % 128 = n by omega]
  unfold qlane
  have key (n' : ℕ) (b1 b2 b3) (he : 256 * (pOf t).val + l.val = 128 * (2 * (pOf t).val + h) + n') :
      V m c main_v10 (ix3 (bOf t) (⟨256 * (pOf t).val + l.val, b1⟩ : Fin 2048) (⟨1024 * (qOf t).val + q.val, b2⟩ : Fin 8192))
        = V m c main_v10 (ix3 (bOf t) (⟨128 * (2 * (pOf t).val + h) + n', b3⟩ : Fin 2048) (⟨1024 * (qOf t).val + q.val, b2⟩ : Fin 8192)) :=
    congrArg (fun z => V m c main_v10 (ix3 (bOf t) z _)) (Fin.ext he)
  split_ifs with h1 h2
  · rw [key n _ _ (by omega) (by omega)]
    refine (q_lane m c (bOf t) ⟨2 * (pOf t).val + h, by omega⟩ ⟨1024 * (qOf t).val + q.val, by omega⟩ ⟨n, h1⟩).trans ?_
    rw [qr_at R.r0, eighth_bits, log2e_real, ← EReal.coe_mul, ← EReal.coe_mul]
  · rw [key (64 + (n - 64)) _ _ (by omega) (by omega)]
    refine (q_one m c (bOf t) ⟨2 * (pOf t).val + h, by omega⟩ ⟨1024 * (qOf t).val + q.val, by omega⟩ ⟨n - 64, by omega⟩).trans ?_
    rw [Ideal.ofBits_one_bf16, EReal.coe_one]
  · rw [key (67 + (n - 67)) _ _ (by omega) (by omega)]
    refine (q_zero m c (bOf t) ⟨2 * (pOf t).val + h, by omega⟩ ⟨1024 * (qOf t).val + q.val, by omega⟩ ⟨n - 67, by omega⟩).trans ?_
    rw [Ideal.ofBits_zero_bf16, EReal.coe_zero]

theorem win_k (t : Fin cfg0.N) (r : Fin 8704) (l : Fin 256) :
    (iblk m c 1 t (ix3 0 r l) : EReal)
      = ((tk (A1 m c) (A3 m c) (bOf t).val (pOf t).val r.val l.val : ℝ) : EReal) := by
  have hl := l.isLt
  have hp := (pOf t).isLt
  have hr := r.isLt
  rw [blk1]
  unfold tk
  by_cases hr0 : r.val < 496
  · rw [if_pos hr0]
    exact k_pad m c (bOf t) _ r hr0
  rw [if_neg hr0]
  obtain ⟨h, n, hn, e⟩ : ∃ h n : ℕ, n < 128 ∧ l.val = 128 * h + n := ⟨l.val / 128, l.val % 128, by omega, by omega⟩
  have hh : h < 2 := by omega
  rw [show l.val / 128 = h by omega, show l.val % 128 = n by omega]
  have key (n' : ℕ) (b1 b2 b3) (he : 256 * (pOf t).val + l.val = 128 * (2 * (pOf t).val + h) + n') :
      V m c main_v31 (ix3 (bOf t) r (⟨256 * (pOf t).val + l.val, b1⟩ : Fin 2048))
        = V m c main_v31 (ix3 (bOf t) (⟨496 + (r.val - 496), b2⟩ : Fin 8704) (⟨128 * (2 * (pOf t).val + h) + n', b3⟩ : Fin 2048)) :=
    congrArg₂ (fun y z => V m c main_v31 (ix3 (bOf t) y z)) (show r = (⟨496 + (r.val - 496), b2⟩ : Fin 8704) from Fin.ext (show r.val = 496 + (r.val - 496) by omega)) (Fin.ext he)
  have g : -log2e * A3 m c (ix3 (bOf t) (⟨2 * (pOf t).val + h, by omega⟩ : Fin 16) (⟨r.val - 496, by omega⟩ : Fin 8208))
      = ((-(1 / Real.log 2) * fr (A3 m c) (bOf t).val (2 * (pOf t).val + h) (r.val - 496) : ℝ) : EReal) := by
    rw [log2e_real, fr_at R.r3, ← EReal.coe_neg, ← EReal.coe_mul]
  unfold klane
  split_ifs with h1 h2
  · rw [key n _ (by omega) (by omega) (by omega)]
    refine (k_lane m c (bOf t) ⟨2 * (pOf t).val + h, by omega⟩ ⟨r.val - 496, by omega⟩ ⟨n, h1⟩).trans ?_
    rw [kr_at R.r1]
  · rw [key 64 _ (by omega) (by omega) (by omega)]
    exact (k_gate m c (bOf t) ⟨2 * (pOf t).val + h, by omega⟩ ⟨r.val - 496, by omega⟩).trans g
  · by_cases h65 : n = 65
    · rw [key 65 _ (by omega) (by omega) (by omega)]
      refine (k_gate1 m c (bOf t) ⟨2 * (pOf t).val + h, by omega⟩ ⟨r.val - 496, by omega⟩).trans ?_
      rw [g, ← EReal.coe_sub, sub_self]
    by_cases h66 : n = 66
    · rw [key 66 _ (by omega) (by omega) (by omega)]
      refine (k_gate2 m c (bOf t) ⟨2 * (pOf t).val + h, by omega⟩ ⟨r.val - 496, by omega⟩).trans ?_
      rw [g, ← EReal.coe_sub, ← EReal.coe_sub, sub_self]
    · rw [key (67 + (n - 67)) _ (by omega) (by omega) (by omega)]
      refine (k_zero m c (bOf t) ⟨2 * (pOf t).val + h, by omega⟩ ⟨r.val - 496, by omega⟩ ⟨n - 67, by omega⟩).trans ?_
      rw [Ideal.ofBits_zero_bf16, EReal.coe_zero]

theorem win_v (t : Fin cfg0.N) (h : Fin 2) (d : Fin 80) (r : Fin 8704) :
    (iblk m c 2 t (ix4 0 h d r) : EReal)
      = ((tv (A2 m c) (bOf t).val (pOf t).val h.val d.val r.val : ℝ) : EReal) := by
  have hp := (pOf t).isLt
  have hr := r.isLt
  have hd := d.isLt
  rw [blk2]
  unfold tv
  by_cases hr0 : r.val < 496
  · rw [if_pos hr0]
    exact v_pad m c (bOf t) _ d r hr0
  rw [if_neg hr0]
  have key (d' : ℕ) (b1 b2 b3) (he : d.val = d') :
      V m c main_v36 (ix4 (bOf t) (⟨2 * (pOf t).val + h.val, b1⟩ : Fin 16) d r)
        = V m c main_v36 (ix4 (bOf t) (⟨2 * (pOf t).val + h.val, b1⟩ : Fin 16) (⟨d', b2⟩ : Fin 80) (⟨496 + (r.val - 496), b3⟩ : Fin 8704)) :=
    congrArg₂ (fun y z => V m c main_v36 (ix4 (bOf t) _ y z)) (Fin.ext he) (show r = (⟨496 + (r.val - 496), b3⟩ : Fin 8704) from Fin.ext (show r.val = 496 + (r.val - 496) by omega))
  split_ifs with h1
  · rw [key d.val _ (by omega) (by omega) rfl]
    refine (v_row m c (bOf t) ⟨2 * (pOf t).val + h.val, by omega⟩ ⟨r.val - 496, by omega⟩ ⟨d.val, h1⟩).trans ?_
    rw [kr_at R.r2]
  · rw [key (64 + (d.val - 64)) _ (by omega) (by omega) (by omega)]
    refine (v_one m c (bOf t) ⟨2 * (pOf t).val + h.val, by omega⟩ ⟨r.val - 496, by omega⟩ ⟨d.val - 64, by omega⟩).trans ?_
    rw [Ideal.ofBits_one_bf16, EReal.coe_one]

/-- The three blocks of a point are the tables. -/
theorem inputs (t : Fin cfg0.N) :
    Inp (tx (A0 m c) (bOf t).val (pOf t).val (qOf t).val) (tk (A1 m c) (A3 m c) (bOf t).val (pOf t).val)
      (tv (A2 m c) (bOf t).val (pOf t).val) (iblk m c 0 t) (iblk m c 1 t) (iblk m c 2 t) :=
  ⟨win_q R t, win_k R t, win_v R t⟩

end Cert.Proof.Value
-- ==== Proof.Value.Finite.lean ====
/-
The precondition: every entry of the four arguments is a real number.
-/
module

public import proofs.«01_k».proof.Defs
public import proofs.«01_k».proof.Proof.Gen.Pre_finite
public import proofs.«01_k».proof.Proof.Value.Inputs
public import Idealize.ShloMosaic.Lib.ReduceAll

@[expose] public section

noncomputable section

namespace Cert.Proof.Value

open Idealize.ShloMosaic Idealize.ShloMosaic.TcCoe

theorem top_bits : Ideal.ofBits .f32 0x7F800000#32 = ⊤ := by
  simp [Ideal.ofBits, Ideal.ieee]

/-- A number whose absolute value is below infinity is real. -/
theorem real_of_lt (x : EReal) (h : Ideal.cmp .olt (max x (-x)) (Ideal.ofBits .f32 0x7F800000#32) = 1#1) : x ≠ ⊤ ∧ x ≠ ⊥ := by
  rw [top_bits, show Ideal.cmp .olt (max x (-x)) ⊤ = BitVec.ofBool (decide (max x (-x) < ⊤)) from rfl] at h
  have h' : max x (-x) < ⊤ := by
    by_contra hn
    rw [decide_eq_false hn] at h
    exact absurd h (by decide)
  constructor
  · rintro rfl
    simp at h'
  · rintro rfl
    simp at h'

/-- An argument that passes the test is real. -/
theorem real_of_test {s : Shape} {axes : List (Fin s.rank)} {b} (X : FVec Ideal s .f32) (init : IVec Cert.Pre_finite.S_ 1)
    (h : s.ReducesTo axes Cert.Pre_finite.S_) (hu : 0 < Cert.Pre_finite.S_.numel) (hb : Cert.Pre_finite.S_.BroadcastsInDim s b)
    (j : Cert.Pre_finite.S_.Idx)
    (e : Host.reduce IntOp.andi (cmpf .olt (Host.absf X) (broadcastInDim s b hb (constant Cert.Pre_finite.S_ .f32 0x7F800000#32))) init h hu j
      = 1#1) : Real' (s := s) X := by
  haveI : Subsingleton Cert.Pre_finite.S_.Idx := ⟨fun a b => funext fun i => i.elim0⟩
  intro i
  exact real_of_lt _ (Host.reduce_andi_all _ init h hu j e i)

theorem and_one {a b : BitVec 1} (h : a &&& b = 1#1) : a = 1#1 ∧ b = 1#1 := by
  revert a b
  decide

theorem args_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Args m c := by
  have e := congrFun (h c) (Shape.Idx.first (by decide))
  unfold Cert.Pre_finite.fn Cert.Pre_finite.fn_part1 at e
  obtain ⟨e, e3⟩ := and_one e
  obtain ⟨e, e2⟩ := and_one e
  obtain ⟨e0, e1⟩ := and_one e
  exact ⟨real_of_test _ _ _ _ _ _ e0, real_of_test _ _ _ _ _ _ e1, real_of_test _ _ _ _ _ _ e2, real_of_test _ _ _ _ _ _ e3⟩

end Cert.Proof.Value
-- ==== Proof.Value.Reference.lean ====
/-
The reference's result array over the reals: the same attention.
-/
module

public import proofs.«01_k».proof.Proof.Gen.ReferenceIdeal.Read
public import proofs.«01_k».proof.Proof.Value.Spec
public import proofs.«01_k».proof.Proof.Value.Online
public import Idealize.ShloMosaic.Lib.WordCmp

@[expose] public section

set_option maxRecDepth 16384

noncomputable section

namespace Cert.Proof.Value.Ref

open Cert.ReferenceIdeal Cert.ReferenceIdeal.Gen Cert.ReferenceIdeal.Read
open Idealize.ShloMosaic Idealize.ShloMosaic.TcCoe

/-- The maximum over the last axis. -/
theorem max_last {n0 n1 n2 n3 : ℕ} (Y : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel)
    (b : Fin n0) (H : Fin n1) (s : Fin n2) :
    Host.reduce FloatOps.maximumf Y init h hu (ix3 b H s)
      = (Finset.univ.fold max (init (Shape.Idx.first hu)) (fun j : Fin n3 => Y (ix4 b H s j)) : EReal) := by
  simp only [pointwise]

theorem bot_bits : Ideal.ofBits .f32 0xFF800000#32 = ⊥ := by
  simp [Ideal.ofBits, Ideal.ieee]

theorem scale_bits : Ideal.ofBits .f32 0x3E000000#32 = ((1 / 8 : ℝ) : EReal) := by
  simp [Ideal.ofBits, Ideal.ieee]
  rw [← EReal.coe_mul]
  norm_num

/-- A sum over the keys of which a query sees those up to `16 + s`. -/
theorem sum_seen (s : ℕ) (hs : s < 8192) (f : ℕ → ℝ) :
    ∑ j : Fin 8208, (if j.val ≤ 16 + s then ((f j.val : ℝ) : EReal) else 0)
      = ((∑ j ∈ Finset.range (s + 17), f j : ℝ) : EReal) := by
  have h1 : ∀ j : Fin 8208, (if j.val ≤ 16 + s then ((f j.val : ℝ) : EReal) else 0)
      = ((if j.val ≤ 16 + s then f j.val else 0 : ℝ) : EReal) := by
    intro j
    split_ifs <;> simp
  rw [Finset.sum_congr rfl fun j _ => h1 j, ← coe_sum]
  congr 1
  rw [← Finset.sum_range fun j => if j ≤ 16 + s then f j else 0]
  rw [← Finset.sum_subset (Finset.range_subset_range.2 (by omega : s + 17 ≤ 8208)) fun j _ hj => if_neg (by
    have := Finset.mem_range.not.1 hj
    omega)]
  exact Finset.sum_congr rfl fun j hj => if_pos (by
    have := Finset.mem_range.1 hj
    omega)

variable (X0 : FVec Ideal S2x16x8192x64 .f32) (X1 X2 : FVec Ideal S2x16x8208x64 .f32) (X3 : FVec Ideal S2x16x8208 .f32)

theorem raw_at (b : Fin 2) (H : Fin 16) (s : Fin 8192) (j : Fin 8208) :
    (val_main_v13 (F := Ideal) X0 X1 X3 (ix4 b H s j) : EReal)
      = ∑ d : Fin 64, X0 (ix4 b H s d) * Ideal.ofBits .f32 0x3E000000#32 * X1 (ix4 b H j d)
        + X3 (ix3 b H ⟨16 + s.val, by omega⟩) - X3 (ix3 b H j) := by
  pointwise [val_main_v13, val_main_v10, val_main_v6, val_main_v1, val_main_v0, val_main_cst, val_main_v9, val_main_v8, val_main_v7, val_main_v12, val_main_v11]

theorem kept_at (b : Fin 2) (H : Fin 16) (s : Fin 8192) (j : Fin 8208) :
    (val_main_v19 (F := Ideal) X0 X1 X3 (ix4 b H s j) : EReal)
      = if j.val ≤ 16 + s.val then val_main_v13 (F := Ideal) X0 X1 X3 (ix4 b H s j) else ⊥ := by
  pointwise [val_main_v19, val_main_call0_v1, val_main_v18, val_main_v17, val_main_v16, val_main_v15, val_main_v14, val_main_v5, val_main_v4, val_main_v3, val_main_v2, val_main_c, val_main_call0_v2, val_main_call0_v0, val_main_cst_0]
  rw [show IntOp.addi (16#32) (BitVec.ofNat 32 s.val) = BitVec.ofNat 32 (16 + s.val) from (BitVec.ofNat_add 16 s.val).symm,
    WordCmp.cmpi_sle_ofNat (by omega) (by omega), WordCmp.select_ofBool]
  show (if _ then _ else Ideal.ofBits .f32 0xFF800000#32) = _
  rw [bot_bits]
  simp only [decide_eq_true_eq]

theorem top_at (b : Fin 2) (H : Fin 16) (s : Fin 8192) :
    (val_main_v22 (F := Ideal) X0 X1 X3 (ix3 b H s) : EReal)
      = Finset.univ.fold max ⊥ (fun j : Fin 8208 => (val_main_v19 (F := Ideal) X0 X1 X3 (ix4 b H s j) : EReal)) := by
  rw [val_main_v22_apply, val_main_v21_apply, val_main_cst_2_apply]
  unfold val_main_v20
  rw [max_last, val_main_cst_1_apply]
  show max (Ideal.ofBits .f32 0xFF800000#32) (Finset.univ.fold max (Ideal.ofBits .f32 0xFF800000#32) _) = _
  rw [bot_bits, max_eq_right bot_le]

theorem weight_at (b : Fin 2) (H : Fin 16) (s : Fin 8192) (j : Fin 8208) :
    (val_main_v26 (F := Ideal) X0 X1 X3 (ix4 b H s j) : EReal)
      = Ideal.exp (val_main_v19 (F := Ideal) X0 X1 X3 (ix4 b H s j) - val_main_v22 (F := Ideal) X0 X1 X3 (ix3 b H s)) := by
  pointwise [val_main_v26, val_main_v25, val_main_v24, val_main_v23]

theorem out_at (b : Fin 2) (H : Fin 16) (s : Fin 8192) (d : Fin 64) :
    (val_main_v31 (F := Ideal) X0 X1 X2 X3 (ix4 b H s d) : EReal)
      = ∑ j : Fin 8208, Ideal.div (val_main_v26 (F := Ideal) X0 X1 X3 (ix4 b H s j))
          (∑ i : Fin 8208, (val_main_v26 (F := Ideal) X0 X1 X3 (ix4 b H s i) : EReal)) * X2 (ix4 b H j d) := by
  pointwise [val_main_v31, val_main_v30, val_main_v29, val_main_v28, val_main_v27, val_main_cst_3]

theorem end_at (y : S2x8192x1024.Idx) :
    (val_main_v34 (F := Ideal) X0 X1 X2 X3 y : EReal)
      = val_main_v31 (F := Ideal) X0 X1 X2 X3
          (ix4 (y 0) (⟨(y 2).val / 64, by have := (y 2).isLt; change (y 2).val < 1024 at this; omega⟩ : Fin 16) (y 1)
            (⟨(y 2).val % 64, by omega⟩ : Fin 64)) := by
  pointwise [val_main_v34, val_main_v33, val_main_v32]

variable {X0 X1 X2 X3} (h0 : Real' (s := QS) X0) (h1 : Real' (s := KS) X1) (h2 : Real' (s := KS) X2) (h3 : Real' (s := FS) X3)

include h0 h1 h3

/-- The masked scores: the problem's score plus the query's own gate sum on the keys the query sees, −∞ elsewhere. -/
theorem kept_real (b : Fin 2) (H : Fin 16) (s : Fin 8192) (j : Fin 8208) :
    (val_main_v19 (F := Ideal) X0 X1 X3 (ix4 b H s j) : EReal)
      = if j.val ≤ 16 + s.val then
          ((logit X0 X1 X3 b.val H.val s.val j.val + fr X3 b.val H.val (16 + s.val) : ℝ) : EReal) else ⊥ := by
  rw [kept_at]
  split_ifs with h
  · rw [raw_at, fr_at h3, fr_at h3, Finset.sum_congr rfl fun d _ => by
      rw [qr_at h0, kr_at h1, scale_bits, ← EReal.coe_mul, ← EReal.coe_mul]]
    rw [← coe_sum, ← EReal.coe_add, ← EReal.coe_sub]
    unfold logit
    congr 1
    ring
  · rfl

/-- The weights, up to a positive factor that depends on the query alone. -/
theorem weight_real (b : Fin 2) (H : Fin 16) (s : Fin 8192) : ∃ u : ℝ, ∀ j : Fin 8208,
    (val_main_v26 (F := Ideal) X0 X1 X3 (ix4 b H s j) : EReal)
      = if j.val ≤ 16 + s.val then ((Real.exp u * Real.exp (logit X0 X1 X3 b.val H.val s.val j.val) : ℝ) : EReal) else 0 := by
  obtain ⟨M, hM⟩ := fold_max_real (fun j : Fin 8208 => (val_main_v19 (F := Ideal) X0 X1 X3 (ix4 b H s j) : EReal))
    (fun j => by
      rw [kept_real h0 h1 h3]
      split_ifs
      · exact EReal.coe_ne_top _
      · exact bot_ne_top)
    ⟨0, by
      rw [kept_real h0 h1 h3, if_pos (by simp)]
      exact EReal.coe_ne_bot _⟩
  refine ⟨fr X3 b.val H.val (16 + s.val) - M, fun j => ?_⟩
  rw [weight_at, top_at, hM, kept_real h0 h1 h3]
  split_ifs
  · rw [← EReal.coe_sub, Ideal.exp_coe, ← Real.exp_add]
    congr 2
    ring
  · rw [EReal.bot_sub, Ideal.exp_bot]

include h2

theorem out_real (b : Fin 2) (H : Fin 16) (s : Fin 8192) (d : Fin 64) :
    (val_main_v31 (F := Ideal) X0 X1 X2 X3 (ix4 b H s d) : EReal)
      = ((attn X0 X1 X2 X3 b.val H.val s.val d.val : ℝ) : EReal) := by
  obtain ⟨u, hu⟩ := weight_real h0 h1 h3 b H s
  have hs := s.isLt
  have hz : (∑ i : Fin 8208, (val_main_v26 (F := Ideal) X0 X1 X3 (ix4 b H s i) : EReal))
      = ((∑ j ∈ Finset.range (s.val + 17), Real.exp u * Real.exp (logit X0 X1 X3 b.val H.val s.val j) : ℝ) : EReal) :=
    (Finset.sum_congr rfl fun i _ => hu i).trans
      (sum_seen s.val hs fun j => Real.exp u * Real.exp (logit X0 X1 X3 b.val H.val s.val j))
  have hpos : 0 < ∑ j ∈ Finset.range (s.val + 17), Real.exp u * Real.exp (logit X0 X1 X3 b.val H.val s.val j) :=
    Finset.sum_pos (fun j _ => mul_pos (Real.exp_pos _) (Real.exp_pos _)) ⟨0, Finset.mem_range.2 (by omega)⟩
  rw [out_at, hz]
  refine (Finset.sum_congr rfl fun j _ => ?_).trans ((sum_seen s.val hs fun j =>
    Real.exp u * Real.exp (logit X0 X1 X3 b.val H.val s.val j)
      * (1 / ∑ j ∈ Finset.range (s.val + 17), Real.exp u * Real.exp (logit X0 X1 X3 b.val H.val s.val j))
      * kr X2 b.val H.val j d.val).trans ?_)
  · rw [Ideal.div_coe hpos.ne', hu j, kr_at h2]
    split_ifs
    · rw [← EReal.coe_mul, ← EReal.coe_mul]
    · rw [zero_mul, zero_mul]
  · unfold attn
    congr 1
    rw [← Finset.mul_sum, Finset.sum_div]
    refine Finset.sum_congr rfl fun j _ => ?_
    have he := (Real.exp_pos u).ne'
    rw [← Finset.mul_sum] at hpos
    have hq := ((mul_pos_iff_of_pos_left (Real.exp_pos u)).1 hpos).ne'
    field_simp

/-- The reference's result array. -/
theorem reference_array (y : S2x8192x1024.Idx) :
    (val_main_v34 (F := Ideal) X0 X1 X2 X3 y : EReal)
      = ((attn X0 X1 X2 X3 (y 0).val ((y 2).val / 64) (y 1).val ((y 2).val % 64) : ℝ) : EReal) := by
  rw [end_at]
  exact out_real h0 h1 h2 h3 _ _ _ _

end Cert.Proof.Value.Ref
-- ==== Proof.Value.Result.lean ====
/-
The kernel's result array over the reals: the attention, at every entry.
-/
module

public import proofs.«01_k».proof.Proof.Value.Inputs

@[expose] public section

set_option maxRecDepth 16384

noncomputable section

namespace Cert.Proof.Value

open Cert.KernelIdeal Cert.KernelIdeal.Gen Cert.Proof.KI
open Idealize.ShloMosaic Idealize.ShloMosaic.TcCoe

/-- The attention laid out as the programs return it: batch, query, and head and entry side by side. -/
def result (X0 : QS.Idx → EReal) (X1 X2 : KS.Idx → EReal) (X3 : FS.Idx → EReal) : S2x8192x1024.Idx → EReal :=
  fun y => ((attn X0 X1 X2 X3 (y 0).val ((y 2).val / 64) (y 1).val ((y 2).val % 64) : ℝ) : EReal)

/-- What one store of a whole block leaves in it. -/
theorem whole_store {sig' : RefSig} {κ : Kind} {sp : Space} {s : Shape} {e : EltTy} {Val : EltTy → Type}
    (v : View sig' κ sp s e) (f : v.ty.Contents Val) (off : Fin s.rank → ℕ) (h0 : ∀ a, off a = 0) (inb)
    (w : s.Idx → Val e) (y : s.Idx) :
    v.read Val (v.writes Val f [⟨Rect.unit off s.size inb, w⟩]) y = w y :=
  View.read_writes_cons_hit_of_coords v f (Rect.unit off s.size inb) w [] y y fun a => by
    show (y a).val = off a + 1 * (y a).val
    rw [h0 a]
    omega

variable {m : (ℓ : Loc nD τ sig) → Buf (Elt Ideal) ℓ} {c : Dev nD} (R : Args m c)

include R

theorem out_at (t : Fin cfg0.N) (q : Fin 1024) (l : Fin 128) :
    (outBlock c t (iblk m c 0 t) (iblk m c 1 t) (iblk m c 2 t) (ix3 0 q l) : EReal)
      = ((attn (A0 m c) (A1 m c) (A2 m c) (A3 m c) (bOf t).val (2 * (pOf t).val + l.val / 64)
          (1024 * (qOf t).val + q.val) (l.val % 64) : ℝ) : EReal) := by
  have hone : ∀ h key, 496 ≤ key → key < 8704 → tv (A2 m c) (bOf t).val (pOf t).val h 64 key = 1 := by
    intro h key h1 _
    unfold tv
    rw [if_neg (by omega), if_neg (by omega)]
  have hl := l.isLt
  unfold outBlock
  rw [pieces, run_store, whole_store _ _ _ (by decide)]
  by_cases h : l.val < 64
  · have e := store_lo c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) (inputs R t) hone q ⟨l.val, h⟩
    rw [mean_eq _ _ _ _ _ _ _ _ _ _ (by decide) h] at e
    rw [Nat.div_eq_of_lt h, Nat.mod_eq_of_lt h]
    exact e
  · have e := store_hi c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) (inputs R t) hone q ⟨l.val - 64, by omega⟩
    rw [mean_eq _ _ _ _ _ _ _ _ _ _ (by decide) (by show l.val - 64 < 64; omega)] at e
    rw [show l.val / 64 = 1 by omega, show l.val % 64 = l.val - 64 by omega, ← e]
    exact congrArg _ (congrArg (ix3 0 q) (Fin.ext (show l.val = 64 + (l.val - 64) by omega)))

/-- The kernel's result array. -/
theorem kernel_array : (dats m 0 c).arrAt 3 cfg0.N = result (A0 m c) (A1 m c) (A2 m c) (A3 m c) := by
  refine array m c _ fun t q l => (out_at R t q l).trans ?_
  have hl := l.isLt
  show _ = ((attn (A0 m c) (A1 m c) (A2 m c) (A3 m c) (bOf t).val ((128 * (pOf t).val + l.val) / 64)
    (1024 * (qOf t).val + q.val) ((128 * (pOf t).val + l.val) % 64) : ℝ) : EReal)
  rw [show (128 * (pOf t).val + l.val) / 64 = 2 * (pOf t).val + l.val / 64 by omega,
    show (128 * (pOf t).val + l.val) % 64 = l.val % 64 by omega]

end Cert.Proof.Value
-- ==== Proof.E.Launch.lean ====
/-
The launch of the experts' kernel: what its host operations leave in each array, the two tables of words read ahead of
the grid, the blocks of the windows at a grid point, and the four conditions of the body as facts about the point.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Proof.E

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents when the grid starts: after every host operation. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations and then the grid. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- No host operation writes argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.mem_singleton]
    repeat' apply And.intro
    all_goals exact StableHlo.devRef_ne_of_ne (by decide)))

/-- The two tables' words. -/
def tbl : pre0.Contents (Elt F) := fun j => V m (0 : Dev nD) (pre0.ref j)

theorem V_tables (c : Dev nD) (j : Fin 2) : V m c (pre0.ref j) = tbl m j := by
  obtain rfl : c = 0 := Subsingleton.elim _ _; rfl

/-- Every block the weights' index maps name lies inside its array. -/
abbrev Ok : Prop := ok0 (F := F) (tbl m)

/-- The tables as contents the launch admits, and the grid at them. -/
abbrev adm (hO : Ok m) : (pcfg0 (F := F)).Adm := ⟨tbl m, hO⟩
abbrev cfgM (hO : Ok m) : Pipeline.Cfg sig Λ₀ := cfg0 (adm m hO)

/-- The table of groups and the table of chunk numbers as the body is handed them. -/
abbrev grpM : Memref sig .tc .smem S240 .i32 := Memref.whole main_v42
abbrev hgrpM : grpM.IsWhole := Memref.isWhole_whole _
abbrev cntM : Memref sig .tc .smem S16 .i32 := Memref.whole main_arg5
abbrev hcntM : cntM.IsWhole := Memref.isWhole_whole _

/-- A table's contents, and the table held for reading at them. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The shares of the tables a point holds, one by one. -/
theorem tables_eq (c : Dev nD) :
    (Pipeline.ΦT pre0 (tbl m) c : sProp 𝕄) = iprop(tbPt c grpM (tbl m 0) ∗ tbPt c cntM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read from its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point. -/
theorem before_0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input window 1 holds its block at every point. -/
theorem before_1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input window 2 holds its block at every point. -/
theorem before_2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- Input window 3 holds its block at every point. -/
theorem before_3 (hO : Ok m) {c : Dev nD} (dat : Dat τ (Elt F) Unit ℕ (UR sig nD τ) ℕ (cfgM m hO) c)
    (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-- Input window 4 holds its block at every point. -/
theorem before_4 (hO : Ok m) {c : Dev nD} (dat : Dat τ (Elt F) Unit ℕ (UR sig nD τ) ℕ (cfgM m hO) c)
    (hA : dat.A 4 = V m c (Pipeline.arrRef spec0 4)) (hafter : ∀ t, dat.after 4 t = iblk m hO c 4 t)
    (t : Fin (cfgM m hO).N) (d) : dat.before 4 t d = iblk m hO c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

/-- Input window 5 holds its block at every point. -/
theorem before_5 (hO : Ok m) {c : Dev nD} (dat : Dat τ (Elt F) Unit ℕ (UR sig nD τ) ℕ (cfgM m hO) c)
    (hA : dat.A 5 = V m c (Pipeline.arrRef spec0 5)) (hafter : ∀ t, dat.after 5 t = iblk m hO c 5 t)
    (t : Fin (cfgM m hO).N) (d) : dat.before 5 t d = iblk m hO c 5 t :=
  (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

/-- Input window 6 holds its block at every point. -/
theorem before_6 (hO : Ok m) {c : Dev nD} (dat : Dat τ (Elt F) Unit ℕ (UR sig nD τ) ℕ (cfgM m hO) c)
    (hA : dat.A 6 = V m c (Pipeline.arrRef spec0 6)) (hafter : ∀ t, dat.after 6 t = iblk m hO c 6 t)
    (t : Fin (cfgM m hO).N) (d) : dat.before 6 t d = iblk m hO c 6 t :=
  (dat.before_in_eq_fetched 6 rfl (fun _ => rfl) (fun _ _ _ => rfl)
      (fun t => by rw [hafter]; unfold Dat.blockOf iblk; rw [hA]; try rfl) t d).trans
    (by unfold Dat.fetched Dat.blockOf iblk; rw [hA]; try rfl)

/-- The body's four conditions: the first step, a step with a chunk, a step without one, the last step. -/
abbrev isFirst (i : grid0.Coords) : Prop :=
  (Scalar.cmpi .ne (Scalar.extui (Scalar.cmpi .eq (BitVec.ofNat 32 (i 1).val) 0#32)) 0#32) = 1#1
abbrev isChunk (i : grid0.Coords) (n : BitVec 32) : Prop :=
  (Scalar.cmpi .ne (Scalar.extui (Scalar.cmpi .slt (BitVec.ofNat 32 (i 1).val) n)) 0#32) = 1#1
abbrev isBlank (i : grid0.Coords) (n : BitVec 32) : Prop :=
  (Scalar.cmpi .ne (Scalar.extui (Scalar.andi (Scalar.cmpi .sge (BitVec.ofNat 32 (i 1).val) n)
    (Scalar.cmpi .slt (BitVec.ofNat 32 (i 1).val) 7#32))) 0#32) = 1#1
abbrev isLast (i : grid0.Coords) : Prop := k0_cond4 i = 1#1

theorem coords_step (t : Fin grid0.N) : (grid0.coords t 1).val = t.val % 8 := by
  have h : (grid0.coords t 1).val = t.val / 1 % 8 := Pipeline.Grid.coords_val t 1 (by decide) rfl
  simpa using h

theorem coords_tile (t : Fin grid0.N) : (grid0.coords t 0).val = t.val / 8 := by
  have h : (grid0.coords t 0).val = t.val / 8 % 16 := Pipeline.Grid.coords_val t 0 (by decide) rfl
  have ht : t.val < 128 := Nat.lt_of_lt_of_eq t.isLt N_0
  omega

/-- The eight steps of a tile, one by one. -/
theorem eight {k : ℕ} (h : k < 8) : k = 0 ∨ k = 1 ∨ k = 2 ∨ k = 3 ∨ k = 4 ∨ k = 5 ∨ k = 6 ∨ k = 7 := by omega

theorem isFirst_iff (i : grid0.Coords) : isFirst i ↔ (i 1).val = 0 := by
  have hi : (i 1).val < 8 := (i 1).isLt
  unfold isFirst
  generalize (i 1).val = k at hi ⊢
  rcases eight hi with h | h | h | h | h | h | h | h <;> subst h <;> decide

theorem isLast_iff (i : grid0.Coords) : isLast i ↔ (i 1).val = 7 := by
  have hi : (i 1).val < 8 := (i 1).isLt
  unfold isLast k0_cond4
  generalize (i 1).val = k at hi ⊢
  rcases eight hi with h | h | h | h | h | h | h | h <;> subst h <;> decide

/-- A step has a chunk when the tile has more chunks than the step's number. -/
theorem isChunk_iff (i : grid0.Coords) (n : BitVec 32) : isChunk i n ↔ ((i 1).val : ℤ) < n.toInt := by
  have hi : (i 1).val < 8 := (i 1).isLt
  unfold isChunk
  rw [show ((i 1).val : ℤ) = (BitVec.ofNat 32 (i 1).val).toInt from
    (WordCmp.toInt_ofNat_of_lt (by omega)).symm, WordCmp.scalar_cmpi_eq, WordCmp.scalar_cmpi_eq, WordCmp.cmpi_slt_eq]
  by_cases h : (BitVec.ofNat 32 (i 1).val).toInt < n.toInt <;> simp only [h, decide_true, decide_false] <;> decide

/-- Before the last step a step is blank exactly when it has no chunk. -/
theorem isBlank_iff (i : grid0.Coords) (n : BitVec 32) : isBlank i n ↔ ¬ isChunk i n ∧ (i 1).val ≠ 7 := by
  have hi : (i 1).val < 8 := (i 1).isLt
  rw [isChunk_iff, not_lt]
  unfold isBlank
  rw [show ((i 1).val : ℤ) = (BitVec.ofNat 32 (i 1).val).toInt from
    (WordCmp.toInt_ofNat_of_lt (by omega)).symm, WordCmp.scalar_cmpi_eq, WordCmp.scalar_cmpi_eq, WordCmp.scalar_cmpi_eq,
    WordCmp.cmpi_sge_eq]
  generalize (i 1).val = k at hi ⊢
  by_cases h : n.toInt ≤ (BitVec.ofNat 32 k).toInt <;> simp only [h, decide_true, decide_false, true_and, false_and] <;>
    rcases eight hi with h | h | h | h | h | h | h | h <;> subst h <;> decide

/-- Window 0 is never idle. -/
theorem live_0 (hO : Ok m) : ∀ t : Fin (cfgM m hO).N, (cfgM m hO).idle 0 (grid0.coords t) = false :=
  (fun _ => rfl : ∀ t : Fin grid0.N, idle0 0 (grid0.coords t) = false)

/-- Window 1 is never idle. -/
theorem live_1 (hO : Ok m) : ∀ t : Fin (cfgM m hO).N, (cfgM m hO).idle 1 (grid0.coords t) = false :=
  (fun _ => rfl : ∀ t : Fin grid0.N, idle0 1 (grid0.coords t) = false)

/-- Window 2 is never idle. -/
theorem live_2 (hO : Ok m) : ∀ t : Fin (cfgM m hO).N, (cfgM m hO).idle 2 (grid0.coords t) = false :=
  (fun _ => rfl : ∀ t : Fin grid0.N, idle0 2 (grid0.coords t) = false)

/-- Window 3 is never idle. -/
theorem live_3 (hO : Ok m) : ∀ t : Fin (cfgM m hO).N, (cfgM m hO).idle 3 (grid0.coords t) = false :=
  (fun _ => rfl : ∀ t : Fin grid0.N, idle0 3 (grid0.coords t) = false)

/-- Window 4 is never idle. -/
theorem live_4 (hO : Ok m) : ∀ t : Fin (cfgM m hO).N, (cfgM m hO).idle 4 (grid0.coords t) = false :=
  (fun _ => rfl : ∀ t : Fin grid0.N, idle0 4 (grid0.coords t) = false)

/-- Window 5 is never idle. -/
theorem live_5 (hO : Ok m) : ∀ t : Fin (cfgM m hO).N, (cfgM m hO).idle 5 (grid0.coords t) = false :=
  (fun _ => rfl : ∀ t : Fin grid0.N, idle0 5 (grid0.coords t) = false)

/-- Window 6 is never idle. -/
theorem live_6 (hO : Ok m) : ∀ t : Fin (cfgM m hO).N, (cfgM m hO).idle 6 (grid0.coords t) = false :=
  (fun _ => rfl : ∀ t : Fin grid0.N, idle0 6 (grid0.coords t) = false)

/-- Window 0's buffer at a point. -/
abbrev ms_0 (hO : Ok m) (t : Fin (cfgM m hO).N) : Memref sig .tc .vmem S1024x1280 .bf16 := spec0_0.stage ((cfgM m hO).slots t 0)
abbrev hs_0 (hO : Ok m) (t : Fin (cfgM m hO).N) : (ms_0 m hO t).IsWhole := hstage0_0 (((cfgM m hO).slots t 0).cast nbuf0_0)

/-- Window 1's buffer at a point. -/
abbrev ms_1 (hO : Ok m) (t : Fin (cfgM m hO).N) : Memref sig .tc .vmem S1x1x1024 .f32 := spec0_1.stage ((cfgM m hO).slots t 1)
abbrev hs_1 (hO : Ok m) (t : Fin (cfgM m hO).N) : (ms_1 m hO t).IsWhole := hstage0_1 (((cfgM m hO).slots t 1).cast nbuf0_1)

/-- Window 2's buffer at a point. -/
abbrev ms_2 (hO : Ok m) (t : Fin (cfgM m hO).N) : Memref sig .tc .vmem S1024x1 .f32 := spec0_2.stage ((cfgM m hO).slots t 2)
abbrev hs_2 (hO : Ok m) (t : Fin (cfgM m hO).N) : (ms_2 m hO t).IsWhole := hstage0_2 (((cfgM m hO).slots t 2).cast nbuf0_2)

/-- Window 3's buffer at a point. -/
abbrev ms_3 (hO : Ok m) (t : Fin (cfgM m hO).N) : Memref sig .tc .vmem S1024x1024 .f32 := spec0_3.stage ((cfgM m hO).slots t 3)
abbrev hs_3 (hO : Ok m) (t : Fin (cfgM m hO).N) : (ms_3 m hO t).IsWhole := hstage0_3 (((cfgM m hO).slots t 3).cast nbuf0_3)

/-- Window 4's buffer at a point. -/
abbrev ms_4 (hO : Ok m) (t : Fin (cfgM m hO).N) : Memref sig .tc .vmem S4x1024x256 .bf16 := spec0_4.stage ((cfgM m hO).slots t 4)
abbrev hs_4 (hO : Ok m) (t : Fin (cfgM m hO).N) : (ms_4 m hO t).IsWhole := hstage0_4 (((cfgM m hO).slots t 4).cast nbuf0_4)

/-- Window 5's buffer at a point. -/
abbrev ms_5 (hO : Ok m) (t : Fin (cfgM m hO).N) : Memref sig .tc .vmem S4x1024x256 .bf16 := spec0_5.stage ((cfgM m hO).slots t 5)
abbrev hs_5 (hO : Ok m) (t : Fin (cfgM m hO).N) : (ms_5 m hO t).IsWhole := hstage0_5 (((cfgM m hO).slots t 5).cast nbuf0_5)

/-- Window 6's buffer at a point. -/
abbrev ms_6 (hO : Ok m) (t : Fin (cfgM m hO).N) : Memref sig .tc .vmem S4x256x1024 .bf16 := spec0_6.stage ((cfgM m hO).slots t 6)
abbrev hs_6 (hO : Ok m) (t : Fin (cfgM m hO).N) : (ms_6 m hO t).IsWhole := hstage0_6 (((cfgM m hO).slots t 6).cast nbuf0_6)

/-- Window 7's buffer at a point. -/
abbrev ms_7 (hO : Ok m) (t : Fin (cfgM m hO).N) : Memref sig .tc .vmem S1024x1024 .f32 := spec0_7.stage ((cfgM m hO).slots t 7)
abbrev hs_7 (hO : Ok m) (t : Fin (cfgM m hO).N) : (ms_7 m hO t).IsWhole := hstage0_7 (((cfgM m hO).slots t 7).cast nbuf0_7)

/-- The sorted results' buffer. -/
abbrev scM : Memref sig .tc .vmem S2048x1024 .bf16 := Memref.whole cc0_scratch0

/-- What a point holds beside the windows and the tables: the sorted results' buffer and the generator's register. -/
theorem rest_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The result is written back at the last step of each tile. -/
theorem flush_out (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide)
    (Pipeline.Window.sep_of_coord cc0_transform_7 0 0 (fun _ => rfl) (by decide)) (P := 8) (m := 7) (by decide) rfl t :
    ∀ t : Fin grid0.N, Pipeline.Window.flushOf grid0 true cc0_transform_7 t = true ↔ t.val % 8 = 7)

/-- The kernel's body at a point, on what the grid calls it with. -/
abbrev bodyAt (a : (pcfg0 (F := F)).Adm) (t : Fin (cfg0 a).N) : Prog (TpuEff nD τ sig (Elt F) Λ₀ .tc) PUnit :=
  cc0_moe_experts (grid0.coords t) (Memref.whole main_v42) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.Proof.E

end
-- ==== Proof.E.Rows.lean ====
/-
The sorted results' buffer, 2048 rows of 1024: seven chunks of 288 rows, then 32 rows kept zero. Here is what the buffer
holds after each kind of store, as a function of the row.
-/
module

public import proofs.«01_k».proof.Proof.E.Launch
public import Idealize.ShloMosaic.Lib.WritesUnit
public import Idealize.ShloMosaic.Lib.WholeRead
public import Idealize.ShloMosaic.Lib.Pointwise

@[expose] public section

set_option maxRecDepth 16384

noncomputable section

namespace Cert.Proof.E

open Cert.ExpertsIdeal Cert.ExpertsIdeal.Gen
open Idealize.ShloMosaic

variable {F : FTy → Type} [FloatOps F]

/-- The contents of the sorted results' buffer. -/
abbrev Sorted (F : FTy → Type) [FloatOps F] : Type := Vec F S2048x1024 .bf16

/-- The chunk a step writes: the step's own, and the seventh for the eighth step. -/
def slot (k : ℕ) : ℕ := min k 6

/-- A chunk's rows as the left and right halves of their columns, stored into chunk `k`. -/
def putChunk (k : ℕ) (w v : Vec F S288x512 .bf16) (d : Sorted F) : Sorted F := fun y =>
  if h : 288 * k ≤ (y 0).val ∧ (y 0).val < 288 * k + 288 then
    if hc : (y 1).val < 512 then w (ix2 ⟨(y 0).val - 288 * k, by omega⟩ ⟨(y 1).val, hc⟩)
    else v (ix2 ⟨(y 0).val - 288 * k, by omega⟩ ⟨(y 1).val - 512, by have : (y 1).val < 1024 := (y 1).isLt; omega⟩)
  else d y

/-- Zeros stored into chunk `k`. -/
def putBlank (k : ℕ) (w : Vec F S288x1024 .bf16) (d : Sorted F) : Sorted F := fun y =>
  if h : 288 * k ≤ (y 0).val ∧ (y 0).val < 288 * k + 288 then w (ix2 ⟨(y 0).val - 288 * k, by omega⟩ (y 1)) else d y

/-- The last 32 rows stored. -/
def putTail (w : Vec F S32x1024 .bf16) (d : Sorted F) : Sorted F := fun y =>
  if h : 2016 ≤ (y 0).val then
    w (ix2 ⟨(y 0).val - 2016, by have : (y 0).val < 2048 := (y 0).isLt; omega⟩ (y 1)) else d y

variable {sp : Space} (M : Memref sig .tc sp S2048x1024 .bf16) {c : Dev nD} (f : M.view.ty.Contents (Elt F)) (i : grid0.Coords)
  (L : List (View.Piece (Elt F) S2048x1024 .bf16))

omit [FloatOps F] in
theorem off_left : k0_off4 i = ![288 * slot (i 1).val, 0] := by
  revert i; unfold slot; decide +kernel

omit [FloatOps F] in
theorem off_right : k0_off5 i = ![288 * slot (i 1).val, 512] := by
  revert i; unfold slot; decide +kernel

omit [FloatOps F] in
theorem off_blank : k0_off7 i = ![288 * slot (i 1).val, 0] := by
  revert i; unfold slot; decide +kernel

/-- A chunk's two stores. -/
theorem read_chunk (w v : Vec F S288x512 .bf16) :
    M.view.read (Elt F) (M.view.writes (Elt F) f
      (⟨Rect.unit (s := S2048x1024) (k0_off5 i) S288x512.size (k0_off5_inb i), v⟩
        :: ⟨Rect.unit (s := S2048x1024) (k0_off4 i) S288x512.size (k0_off4_inb i), w⟩ :: L))
      = putChunk (slot (i 1).val) w v (M.view.read (Elt F) (M.view.writes (Elt F) f L)) := by
  funext y
  have hy1 : (y 1).val < 1024 := (y 1).isLt
  unfold putChunk
  by_cases h : 288 * slot (i 1).val ≤ (y 0).val ∧ (y 0).val < 288 * slot (i 1).val + 288
  · rw [dif_pos h]
    by_cases hc : (y 1).val < 512
    · rw [dif_pos hc, View.read_writes_cons_unit_of_not_mem M.view f (k0_off5_inb i) v _ y (off_right i) 1 (.inl hc)]
      refine View.read_writes_cons_unit_of_mem M.view f (k0_off4_inb i) w _ y _ (off_left i) fun a => ?_
      fin_cases a
      · exact (by omega : (y 0).val = 288 * slot (i 1).val + ((y 0).val - 288 * slot (i 1).val))
      · exact (by omega : (y 1).val = 0 + (y 1).val)
    · rw [dif_neg hc]
      refine View.read_writes_cons_unit_of_mem M.view f (k0_off5_inb i) v _ y _ (off_right i) fun a => ?_
      fin_cases a
      · exact (by omega : (y 0).val = 288 * slot (i 1).val + ((y 0).val - 288 * slot (i 1).val))
      · exact (by omega : (y 1).val = 512 + ((y 1).val - 512))
  · rw [dif_neg h, View.read_writes_cons_unit_of_not_mem M.view f (k0_off5_inb i) v _ y (off_right i) 0
        (by have : (y 0).val < 288 * slot (i 1).val ∨ 288 * slot (i 1).val + 288 ≤ (y 0).val := by omega
            exact this),
      View.read_writes_cons_unit_of_not_mem M.view f (k0_off4_inb i) w _ y (off_left i) 0
        (by have : (y 0).val < 288 * slot (i 1).val ∨ 288 * slot (i 1).val + 288 ≤ (y 0).val := by omega
            exact this)]

/-- A blank chunk's store. -/
theorem read_blank (w : Vec F S288x1024 .bf16) :
    M.view.read (Elt F) (M.view.writes (Elt F) f
      (⟨Rect.unit (s := S2048x1024) (k0_off7 i) S288x1024.size (k0_off7_inb i), w⟩ :: L))
      = putBlank (slot (i 1).val) w (M.view.read (Elt F) (M.view.writes (Elt F) f L)) := by
  funext y
  unfold putBlank
  by_cases h : 288 * slot (i 1).val ≤ (y 0).val ∧ (y 0).val < 288 * slot (i 1).val + 288
  · rw [dif_pos h]
    refine View.read_writes_cons_unit_of_mem M.view f (k0_off7_inb i) w _ y _ (off_blank i) fun a => ?_
    fin_cases a
    · exact (by omega : (y 0).val = 288 * slot (i 1).val + ((y 0).val - 288 * slot (i 1).val))
    · exact (by omega : (y 1).val = 0 + (y 1).val)
  · rw [dif_neg h, View.read_writes_cons_unit_of_not_mem M.view f (k0_off7_inb i) w _ y (off_blank i) 0
        (by have : (y 0).val < 288 * slot (i 1).val ∨ 288 * slot (i 1).val + 288 ≤ (y 0).val := by omega
            exact this)]

/-- The store of the last rows. -/
theorem read_tail (w : Vec F S32x1024 .bf16) :
    M.view.read (Elt F) (M.view.writes (Elt F) f
      (⟨Rect.unit (s := S2048x1024) ![2016, 0] S32x1024.size inb_S2048x1024_S32x1024_2016_0, w⟩ :: L))
      = putTail w (M.view.read (Elt F) (M.view.writes (Elt F) f L)) := by
  funext y
  have hy0 : (y 0).val < 2048 := (y 0).isLt
  unfold putTail
  by_cases h : 2016 ≤ (y 0).val
  · rw [dif_pos h]
    refine View.read_writes_cons_unit_of_mem M.view f inb_S2048x1024_S32x1024_2016_0 w _ y _ rfl fun a => ?_
    fin_cases a
    · exact (by omega : (y 0).val = 2016 + ((y 0).val - 2016))
    · exact (by omega : (y 1).val = 0 + (y 1).val)
  · rw [dif_neg h, View.read_writes_cons_unit_of_not_mem M.view f inb_S2048x1024_S32x1024_2016_0 w _ y rfl 0
      (.inl (by have : (y 0).val < 2016 := by omega
                exact this))]

/-- A load of a block held whole. -/
def ld {s : Shape} {e : EltTy} (x : s.Idx → Elt F e) (B : LoadRect s) : B.shape.Idx → Elt F e := fun y => x (B.idx y)

omit [FloatOps F] in
theorem load_eq {sp : Space} {s : Shape} {e : EltTy} (N : Memref sig .tc sp s e) (h : N.IsWhole) (x : s.Idx → Elt F e)
    (B : LoadRect s) : N.view.readAt (Elt F) B (h.unread x) = ld x B :=
  funext fun y => h.readAt_unread x B y

end Cert.Proof.E

end
-- ==== Proof.E.Run.lean ====
/-
One run of the experts' kernel at a grid point: what it leaves in the sorted results' buffer, as a function of what the
buffer held, and what it stores into the output block at the last step of a tile.
-/
module

public import proofs.«01_k».proof.Proof.E.Rows

@[expose] public section

set_option maxRecDepth 65536

noncomputable section

namespace Cert.Proof.E

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Slab `n` of a weight block. -/
abbrev slab0 : LoadRect S4x1024x256 := (Rect.unit (s := S4x1024x256) ![0, 0, 0] S1x1024x256.size inb_S4x1024x256_S1x1024x256_0_0_0).toLoadRect
abbrev slab1 : LoadRect S4x1024x256 := (Rect.unit (s := S4x1024x256) ![1, 0, 0] S1x1024x256.size inb_S4x1024x256_S1x1024x256_1_0_0).toLoadRect
abbrev slab2 : LoadRect S4x1024x256 := (Rect.unit (s := S4x1024x256) ![2, 0, 0] S1x1024x256.size inb_S4x1024x256_S1x1024x256_2_0_0).toLoadRect
abbrev slab3 : LoadRect S4x1024x256 := (Rect.unit (s := S4x1024x256) ![3, 0, 0] S1x1024x256.size inb_S4x1024x256_S1x1024x256_3_0_0).toLoadRect

/-- The places of a tile's rows, and its packed rows, as the body loads them. -/
abbrev places (x1 : Vec F S1x1x1024 .f32) : Vec F S1x1x1024 .f32 :=
  ld x1 (Rect.unit (s := S1x1x1024) ![0, 0, 0] S1x1x1024.size inb_S1x1x1024_S1x1x1024_0_0_0).toLoadRect
abbrev packed (x0 : Vec F S1024x1280 .bf16) : Vec F S1024x1280 .bf16 :=
  ld x0 (Rect.unit (s := S1024x1280) ![0, 0] S1024x1280.size inb_S1024x1280_S1024x1280_0_0).toLoadRect

/-- The four experts' gated activations of a chunk's rows, side by side: from the group's number, the packed rows, the
places, the two weight blocks. -/
def acts (k : BitVec 32) (g : Elt F .i32) (x0 : Vec F S1024x1280 .bf16) (x1 : Vec F S1x1x1024 .f32)
    (x4 x5 : Vec F S4x1024x256 .bf16) : FVec F S288x1024 .bf16 :=
  k0_pay14 g (k0_pay7 k (places x1) (packed x0)) (k0_pay8 k (places x1) (packed x0)) (iota .tc S288x128 32 [1] iota_S288x128_d1_w32)
    (k0_pay11 (k0_pay7 k (places x1) (packed x0)) (k0_pay9 k g (places x1) (packed x0)) (k0_pay10 k (places x1) (packed x0) (ld x4 slab0)) (ld x5 slab0))
    (k0_pay12 g (k0_pay7 k (places x1) (packed x0)) (k0_pay8 k (places x1) (packed x0)) (iota .tc S288x128 32 [1] iota_S288x128_d1_w32) (ld x4 slab1) (ld x5 slab1))
    (k0_pay13 g (k0_pay8 k (places x1) (packed x0)) (iota .tc S288x128 32 [1] iota_S288x128_d1_w32))
    (ld x4 slab2) (ld x5 slab2) (ld x4 slab3) (ld x5 slab3)

/-- The activations from loads that agree with the blocks. -/
theorem acts_of {k : BitVec 32} {g : Elt F .i32} {x0 : Vec F S1024x1280 .bf16} {x1 : Vec F S1x1x1024 .f32}
    {x4 x5 : Vec F S4x1024x256 .bf16} {p : Vec F S1x1x1024 .f32} {q : Vec F S1024x1280 .bf16}
    {a0 a1 a2 a3 b0 b1 b2 b3 : Vec F S1x1024x256 .bf16} (hp : p = places x1) (hq : q = packed x0)
    (ha0 : a0 = ld x4 slab0) (ha1 : a1 = ld x4 slab1) (ha2 : a2 = ld x4 slab2) (ha3 : a3 = ld x4 slab3)
    (hb0 : b0 = ld x5 slab0) (hb1 : b1 = ld x5 slab1) (hb2 : b2 = ld x5 slab2) (hb3 : b3 = ld x5 slab3) :
    k0_pay14 g (k0_pay7 k p q) (k0_pay8 k p q) (iota .tc S288x128 32 [1] iota_S288x128_d1_w32)
      (k0_pay11 (k0_pay7 k p q) (k0_pay9 k g p q) (k0_pay10 k p q a0) b0)
      (k0_pay12 g (k0_pay7 k p q) (k0_pay8 k p q) (iota .tc S288x128 32 [1] iota_S288x128_d1_w32) a1 b1)
      (k0_pay13 g (k0_pay8 k p q) (iota .tc S288x128 32 [1] iota_S288x128_d1_w32)) a2 b2 a3 b3
      = acts k g x0 x1 x4 x5 := by
  subst hp hq ha0 ha1 ha2 ha3 hb0 hb1 hb2 hb3
  rfl

/-- The down projection's block as the body loads it. -/
abbrev down (x6 : Vec F S4x256x1024 .bf16) : Vec F S1024x1024 .bf16 :=
  k0_pay15 (ld x6 (Rect.unit (s := S4x256x1024) ![0, 0, 0] S4x256x1024.size inb_S4x256x1024_S4x256x1024_0_0_0).toLoadRect)

/-- The number of chunks of a tile, and the group of a step, as the body reads them. -/
abbrev cntWord (i : grid0.Coords) (c : Dev nD) (xt1 : TbBuf (F := F) c cntM) : Elt F .i32 :=
  cntM.view.readAt (Elt F) (Rect.unit (s := S16) (k0_off2 i) S1.size (k0_off2_inb i)).toLoadRect xt1 (Shape.Idx.first (numel1_S1.symm ▸ Nat.one_pos))
abbrev grpWord (i : grid0.Coords) (c : Dev nD) (xt0 : TbBuf (F := F) c grpM) : Elt F .i32 :=
  grpM.view.readAt (Elt F) (Rect.unit (s := S240) (k0_off3 i) S1.size (k0_off3_inb i)).toLoadRect xt0 (Shape.Idx.first (numel1_S1.symm ▸ Nat.one_pos))

/-- A step's chunk written over what the buffer held. -/
def withChunk (i : grid0.Coords) (g : Elt F .i32) (x0 : Vec F S1024x1280 .bf16) (x1 : Vec F S1x1x1024 .f32)
    (x4 x5 : Vec F S4x1024x256 .bf16) (x6 : Vec F S4x256x1024 .bf16) (d : Sorted F) : Sorted F :=
  putChunk (slot (i 1).val) (k0_pay2 (acts (BitVec.ofNat 32 (i 1).val) g x0 x1 x4 x5) (down x6))
    (k0_pay3 (acts (BitVec.ofNat 32 (i 1).val) g x0 x1 x4 x5) (down x6)) d

/-- A load of the whole of a block is the block. -/
theorem ld_whole {s : Shape} {e : EltTy} (x : s.Idx → Elt F e) (off : Fin s.rank → ℕ) (inb) (h0 : off = fun _ => 0) :
    ld x (Rect.unit (s := s) off s.size inb).toLoadRect = x := by
  subst h0
  funext y
  refine congrArg x (funext fun a => Fin.ext ?_)
  exact (by omega : 0 + 1 * (y a).val = (y a).val)

theorem read_whole {sp : Space} (M : Memref sig .tc sp S2048x1024 .bf16) (f : M.view.ty.Contents (Elt F)) :
    M.view.readAt (Elt F) (Rect.unit (s := S2048x1024) ![0, 0] S2048x1024.size inb_S2048x1024_S2048x1024_0_0).toLoadRect f
      = M.view.read (Elt F) f :=
  ld_whole (M.view.read (Elt F) f) ![0, 0] inb_S2048x1024_S2048x1024_0_0 (by funext a; fin_cases a <;> rfl)

/-- The one store into the output block. -/
theorem read_out {sp : Space} (M : Memref sig .tc sp S1024x1024 .f32) (f : M.view.ty.Contents (Elt F)) (w : Vec F S1024x1024 .f32) :
    M.view.read (Elt F) (M.view.writes (Elt F) f
      [⟨Rect.unit (s := S1024x1024) ![0, 0] S1024x1024.size inb_S1024x1024_S1024x1024_0_0, w⟩]) = w := by
  funext y
  exact View.read_writes_cons_unit_of_mem M.view f inb_S1024x1024_S1024x1024_0_0 w _ y y rfl fun a => by
    fin_cases a <;> exact (Nat.zero_add _).symm

/-- A row's place, the rows of `h` and the sorted results, as the last step loads them. -/
abbrev outOf (x2 : Vec F S1024x1 .f32) (x3 : Vec F S1024x1024 .f32) (d : Sorted F) : Vec F S1024x1024 .f32 := k0_pay5 x2 x3 d

variable (c : Dev nD) (i : grid0.Coords)
  (arg4 : Memref sig .tc .vmem S1024x1280 .bf16) (harg4 : arg4.IsWhole)
  (arg5 : Memref sig .tc .vmem S1x1x1024 .f32) (harg5 : arg5.IsWhole)
  (arg6 : Memref sig .tc .vmem S1024x1 .f32) (harg6 : arg6.IsWhole)
  (arg7 : Memref sig .tc .vmem S1024x1024 .f32) (harg7 : arg7.IsWhole)
  (arg8 : Memref sig .tc .vmem S4x1024x256 .bf16) (harg8 : arg8.IsWhole)
  (arg9 : Memref sig .tc .vmem S4x1024x256 .bf16) (harg9 : arg9.IsWhole)
  (arg10 : Memref sig .tc .vmem S4x256x1024 .bf16) (harg10 : arg10.IsWhole)
  (arg11 : Memref sig .tc .vmem S1024x1024 .f32) (harg11 : arg11.IsWhole)
  (arg12 : Memref sig .tc .vmem S2048x1024 .bf16) (harg12 : arg12.IsWhole)
  (x0 : Vec F S1024x1280 .bf16)
  (x1 : Vec F S1x1x1024 .f32)
  (x2 : Vec F S1024x1 .f32)
  (x3 : Vec F S1024x1024 .f32)
  (x4 : Vec F S4x1024x256 .bf16)
  (x5 : Vec F S4x1024x256 .bf16)
  (x6 : Vec F S4x256x1024 .bf16)
  (o : Vec F S1024x1024 .f32) (d : Sorted F) (xt0 : TbBuf (F := F) c grpM) (xt1 : TbBuf (F := F) c cntM)

/-- What a run takes and what it hands back: `d'` in the sorted results' buffer, and in the output block contents of
which `Q` holds. -/
abbrev RunTo (d' : Sorted F) (Q : Vec F S1024x1024 .f32 → Prop) : Prop :=
  ∀ (E : Set ℕ) (K : PUnit → sProp 𝕄),
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6
        ∗ owns (c : Thread nD τ) arg11 fullShare o ∗ owns (c : Thread nD τ) arg12 fullShare d ∗ tbPt c grpM xt0 ∗ tbPt c cntM xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6
          ∗ (∃ o', ⌜Q o'⌝ ∗ owns (c : Thread nD τ) arg11 fullShare o') ∗ owns (c : Thread nD τ) arg12 fullShare d' ∗ tbPt c grpM xt0 ∗ tbPt c cntM xt1) -∗ K ⟨⟩))
      ⊢ wp frame (wpE (defs₀ (F := F)) Variants.none c none) E (cc0_moe_experts i grpM hgrpM cntM hcntM arg4 harg4 arg5 harg5 arg6 harg6 arg7 harg7 arg8 harg8 arg9 harg9 arg10 harg10 arg11 harg11 arg12 harg12) K

set_option maxHeartbeats 4000000 in
/-- The first step of a tile that has a chunk. -/
theorem runA (hc0 : isFirst i) (hc1 : isChunk i (cntWord i c xt1)) (hc2 : ¬isBlank i (cntWord i c xt1)) (hc3 : ¬isLast i) :
    RunTo c i arg4 harg4 arg5 harg5 arg6 harg6 arg7 harg7 arg8 harg8 arg9 harg9 arg10 harg10 arg11 harg11 arg12 harg12 x0 x1 x2 x3 x4 x5 x6 o d xt0 xt1
      (withChunk i (grpWord i c xt0) x0 x1 x4 x5 x6 (putTail k0_pay1 d)) (fun o' => o' = o) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists o; isplitr; · ipureintro; rfl
    iexists _; isplitr; swap; · iexact H7
    ipureintro; exact hf7
  isplitl [HS]
  · iexists _; isplitr; swap; · iexact HS
    ipureintro
    subst hfs
    refine (read_chunk arg12 fs i _ _ _).trans ?_
    unfold withChunk
    have ha := acts_of (k := BitVec.ofNat 32 (i 1).val) (g := grpWord i c xt0) (load_eq arg5 harg5 x1 (Rect.unit (s := S1x1x1024) ![0, 0, 0] S1x1x1024.size inb_S1x1x1024_S1x1x1024_0_0_0).toLoadRect)
      (load_eq arg4 harg4 x0 (Rect.unit (s := S1024x1280) ![0, 0] S1024x1280.size inb_S1024x1280_S1024x1280_0_0).toLoadRect)
      (load_eq arg8 harg8 x4 slab0) (load_eq arg8 harg8 x4 slab1) (load_eq arg8 harg8 x4 slab2) (load_eq arg8 harg8 x4 slab3)
      (load_eq arg9 harg9 x5 slab0) (load_eq arg9 harg9 x5 slab1) (load_eq arg9 harg9 x5 slab2) (load_eq arg9 harg9 x5 slab3)
    have hd := congrArg k0_pay15 (load_eq arg10 harg10 x6 (Rect.unit (s := S4x256x1024) ![0, 0, 0] S4x256x1024.size inb_S4x256x1024_S4x256x1024_0_0_0).toLoadRect)
    refine congr (congr (congrArg (putChunk (slot (i 1).val)) (congr (congrArg k0_pay2 ha) hd)) (congr (congrArg k0_pay3 ha) hd)) ?_
    exact read_tail arg12 fs [] _
  isplitl [HT0]; · iexact HT0
  iexact HT1

set_option maxHeartbeats 4000000 in
/-- The first step of a tile without chunks. -/
theorem runB (hc0 : isFirst i) (hc1 : ¬isChunk i (cntWord i c xt1)) (hc2 : isBlank i (cntWord i c xt1)) (hc3 : ¬isLast i) :
    RunTo c i arg4 harg4 arg5 harg5 arg6 harg6 arg7 harg7 arg8 harg8 arg9 harg9 arg10 harg10 arg11 harg11 arg12 harg12 x0 x1 x2 x3 x4 x5 x6 o d xt0 xt1
      (putBlank (slot (i 1).val) k0_pay4 (putTail k0_pay1 d)) (fun o' => o' = o) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists o; isplitr; · ipureintro; rfl
    iexists _; isplitr; swap; · iexact H7
    ipureintro; exact hf7
  isplitl [HS]
  · iexists _; isplitr; swap; · iexact HS
    ipureintro
    subst hfs
    refine (read_blank arg12 fs i _ _).trans ?_
    exact congrArg (putBlank _ _) (read_tail arg12 fs [] _)
  isplitl [HT0]; · iexact HT0
  iexact HT1

set_option maxHeartbeats 4000000 in
/-- A middle step with a chunk. -/
theorem runC (hc0 : ¬isFirst i) (hc1 : isChunk i (cntWord i c xt1)) (hc2 : ¬isBlank i (cntWord i c xt1)) (hc3 : ¬isLast i) :
    RunTo c i arg4 harg4 arg5 harg5 arg6 harg6 arg7 harg7 arg8 harg8 arg9 harg9 arg10 harg10 arg11 harg11 arg12 harg12 x0 x1 x2 x3 x4 x5 x6 o d xt0 xt1
      (withChunk i (grpWord i c xt0) x0 x1 x4 x5 x6 d) (fun o' => o' = o) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists o; isplitr; · ipureintro; rfl
    iexists _; isplitr; swap; · iexact H7
    ipureintro; exact hf7
  isplitl [HS]
  · iexists _; isplitr; swap; · iexact HS
    ipureintro
    subst hfs
    refine (read_chunk arg12 fs i _ _ _).trans ?_
    unfold withChunk
    have ha := acts_of (k := BitVec.ofNat 32 (i 1).val) (g := grpWord i c xt0) (load_eq arg5 harg5 x1 (Rect.unit (s := S1x1x1024) ![0, 0, 0] S1x1x1024.size inb_S1x1x1024_S1x1x1024_0_0_0).toLoadRect)
      (load_eq arg4 harg4 x0 (Rect.unit (s := S1024x1280) ![0, 0] S1024x1280.size inb_S1024x1280_S1024x1280_0_0).toLoadRect)
      (load_eq arg8 harg8 x4 slab0) (load_eq arg8 harg8 x4 slab1) (load_eq arg8 harg8 x4 slab2) (load_eq arg8 harg8 x4 slab3)
      (load_eq arg9 harg9 x5 slab0) (load_eq arg9 harg9 x5 slab1) (load_eq arg9 harg9 x5 slab2) (load_eq arg9 harg9 x5 slab3)
    have hd := congrArg k0_pay15 (load_eq arg10 harg10 x6 (Rect.unit (s := S4x256x1024) ![0, 0, 0] S4x256x1024.size inb_S4x256x1024_S4x256x1024_0_0_0).toLoadRect)
    refine congr (congr (congrArg (putChunk (slot (i 1).val)) (congr (congrArg k0_pay2 ha) hd)) (congr (congrArg k0_pay3 ha) hd)) ?_
    rfl
  isplitl [HT0]; · iexact HT0
  iexact HT1

set_option maxHeartbeats 4000000 in
/-- A middle step without a chunk. -/
theorem runD (hc0 : ¬isFirst i) (hc1 : ¬isChunk i (cntWord i c xt1)) (hc2 : isBlank i (cntWord i c xt1)) (hc3 : ¬isLast i) :
    RunTo c i arg4 harg4 arg5 harg5 arg6 harg6 arg7 harg7 arg8 harg8 arg9 harg9 arg10 harg10 arg11 harg11 arg12 harg12 x0 x1 x2 x3 x4 x5 x6 o d xt0 xt1
      (putBlank (slot (i 1).val) k0_pay4 d) (fun o' => o' = o) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists o; isplitr; · ipureintro; rfl
    iexists _; isplitr; swap; · iexact H7
    ipureintro; exact hf7
  isplitl [HS]
  · iexists _; isplitr; swap; · iexact HS
    ipureintro
    subst hfs
    refine (read_blank arg12 fs i _ _).trans ?_
    rfl
  isplitl [HT0]; · iexact HT0
  iexact HT1

set_option maxHeartbeats 4000000 in
/-- The last step with a chunk. -/
theorem runE (hc0 : ¬isFirst i) (hc1 : isChunk i (cntWord i c xt1)) (hc2 : ¬isBlank i (cntWord i c xt1)) (hc3 : isLast i) :
    RunTo c i arg4 harg4 arg5 harg5 arg6 harg6 arg7 harg7 arg8 harg8 arg9 harg9 arg10 harg10 arg11 harg11 arg12 harg12 x0 x1 x2 x3 x4 x5 x6 o d xt0 xt1
      (withChunk i (grpWord i c xt0) x0 x1 x4 x5 x6 d) (fun o' => o' = outOf x2 x3 (withChunk i (grpWord i c xt0) x0 x1 x4 x5 x6 d)) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap
    · iexists _; isplitr; swap; · iexact H7
      ipureintro; rfl
    ipureintro
    refine (read_out arg11 _ _).trans ?_
    refine congr (congr (congrArg k0_pay5 ?_) ?_) ?_
    · exact (load_eq arg6 harg6 x2 _).trans (ld_whole x2 ![0, 0] _ (by funext a; fin_cases a <;> rfl))
    · exact (load_eq arg7 harg7 x3 _).trans (ld_whole x3 ![0, 0] _ (by funext a; fin_cases a <;> rfl))
    · refine (read_whole arg12 _).trans ?_
      subst hfs
      refine (read_chunk arg12 fs i _ _ _).trans ?_
      unfold withChunk
      have ha := acts_of (k := BitVec.ofNat 32 (i 1).val) (g := grpWord i c xt0) (load_eq arg5 harg5 x1 (Rect.unit (s := S1x1x1024) ![0, 0, 0] S1x1x1024.size inb_S1x1x1024_S1x1x1024_0_0_0).toLoadRect)
        (load_eq arg4 harg4 x0 (Rect.unit (s := S1024x1280) ![0, 0] S1024x1280.size inb_S1024x1280_S1024x1280_0_0).toLoadRect)
        (load_eq arg8 harg8 x4 slab0) (load_eq arg8 harg8 x4 slab1) (load_eq arg8 harg8 x4 slab2) (load_eq arg8 harg8 x4 slab3)
        (load_eq arg9 harg9 x5 slab0) (load_eq arg9 harg9 x5 slab1) (load_eq arg9 harg9 x5 slab2) (load_eq arg9 harg9 x5 slab3)
      have hd := congrArg k0_pay15 (load_eq arg10 harg10 x6 (Rect.unit (s := S4x256x1024) ![0, 0, 0] S4x256x1024.size inb_S4x256x1024_S4x256x1024_0_0_0).toLoadRect)
      refine congr (congr (congrArg (putChunk (slot (i 1).val)) (congr (congrArg k0_pay2 ha) hd)) (congr (congrArg k0_pay3 ha) hd)) ?_
      rfl
  isplitl [HS]
  · iexists _; isplitr; swap; · iexact HS
    ipureintro
    subst hfs
    refine (read_chunk arg12 fs i _ _ _).trans ?_
    unfold withChunk
    have ha := acts_of (k := BitVec.ofNat 32 (i 1).val) (g := grpWord i c xt0) (load_eq arg5 harg5 x1 (Rect.unit (s := S1x1x1024) ![0, 0, 0] S1x1x1024.size inb_S1x1x1024_S1x1x1024_0_0_0).toLoadRect)
      (load_eq arg4 harg4 x0 (Rect.unit (s := S1024x1280) ![0, 0] S1024x1280.size inb_S1024x1280_S1024x1280_0_0).toLoadRect)
      (load_eq arg8 harg8 x4 slab0) (load_eq arg8 harg8 x4 slab1) (load_eq arg8 harg8 x4 slab2) (load_eq arg8 harg8 x4 slab3)
      (load_eq arg9 harg9 x5 slab0) (load_eq arg9 harg9 x5 slab1) (load_eq arg9 harg9 x5 slab2) (load_eq arg9 harg9 x5 slab3)
    have hd := congrArg k0_pay15 (load_eq arg10 harg10 x6 (Rect.unit (s := S4x256x1024) ![0, 0, 0] S4x256x1024.size inb_S4x256x1024_S4x256x1024_0_0_0).toLoadRect)
    refine congr (congr (congrArg (putChunk (slot (i 1).val)) (congr (congrArg k0_pay2 ha) hd)) (congr (congrArg k0_pay3 ha) hd)) ?_
    rfl
  isplitl [HT0]; · iexact HT0
  iexact HT1

set_option maxHeartbeats 4000000 in
/-- The last step without a chunk. -/
theorem runF (hc0 : ¬isFirst i) (hc1 : ¬isChunk i (cntWord i c xt1)) (hc2 : ¬isBlank i (cntWord i c xt1)) (hc3 : isLast i) :
    RunTo c i arg4 harg4 arg5 harg5 arg6 harg6 arg7 harg7 arg8 harg8 arg9 harg9 arg10 harg10 arg11 harg11 arg12 harg12 x0 x1 x2 x3 x4 x5 x6 o d xt0 xt1
      (d) (fun o' => o' = outOf x2 x3 (d)) := by
  intro E K
  simp only [cc0_moe_experts_eq_skeleton]; unfold cc0_moe_experts_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; swap
    · iexists _; isplitr; swap; · iexact H7
      ipureintro; rfl
    ipureintro
    refine (read_out arg11 _ _).trans ?_
    refine congr (congr (congrArg k0_pay5 ?_) ?_) ?_
    · exact (load_eq arg6 harg6 x2 _).trans (ld_whole x2 ![0, 0] _ (by funext a; fin_cases a <;> rfl))
    · exact (load_eq arg7 harg7 x3 _).trans (ld_whole x3 ![0, 0] _ (by funext a; fin_cases a <;> rfl))
    · exact (read_whole arg12 _).trans hfs
  isplitl [HS]
  · iexists _; isplitr; swap; · iexact HS
    ipureintro
    exact hfs
  isplitl [HT0]; · iexact HT0
  iexact HT1

end Cert.Proof.E

end
-- ==== Proof.E.Frame.lean ====
/-
The experts' kernel over the whole grid: what the sorted results' buffer holds between grid points, what each tile's
last step writes, and the launch from any memory whose table of groups names groups there are.
-/
module

public import proofs.«01_k».proof.Proof.E.Run

@[expose] public section

set_option maxRecDepth 16384

noncomputable section

namespace Cert.Proof.E

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (c : Dev nD)

/-- The number of chunks of a point's tile and the group of its step. -/
abbrev cntAt (t : Fin (cfgM m hO).N) : Elt F .i32 := cntWord (grid0.coords t) c (tbl m 1)
abbrev grpAt (t : Fin (cfgM m hO).N) : Elt F .i32 := grpWord (grid0.coords t) c (tbl m 0)

/-- A point's chunk over what the buffer held, and a point's chunk or zeros. -/
def chunkAt (t : Fin (cfgM m hO).N) (d : Sorted F) : Sorted F :=
  withChunk (grid0.coords t) (grpAt m hO c t) (iblk m hO c 0 t) (iblk m hO c 1 t) (iblk m hO c 4 t) (iblk m hO c 5 t) (iblk m hO c 6 t) d

open Classical in
def stepAt (t : Fin (cfgM m hO).N) (d : Sorted F) : Sorted F :=
  if isChunk (grid0.coords t) (cntAt m hO c t) then chunkAt m hO c t d
  else putBlank (slot (grid0.coords t 1).val) k0_pay4 d

/-- Step `k` of tile `b`. -/
def pt (b k : ℕ) : Fin (cfgM m hO).N := ⟨(8 * b + k) % 128, Nat.lt_of_lt_of_eq (Nat.mod_lt _ (by norm_num)) (show 128 = (cfgM m hO).N from N_0.symm)⟩

/-- Some contents. -/
def some0 : Sorted F := fun _ => Scalar.ofBits .bf16 0x0000#16

/-- The buffer once the first seven steps of tile `b` have run: each chunk as its step left it, the last rows zero. -/
def settled (b : ℕ) : Sorted F := fun y =>
  if 2016 ≤ (y 0).val then putTail k0_pay1 some0 y else stepAt m hO c (pt m hO b ((y 0).val / 288)) some0 y

open Classical in
/-- The buffer the last step of a tile reads: an eighth chunk, if there is one, goes over the seventh. -/
def endOf (t : Fin (cfgM m hO).N) : Sorted F :=
  if isChunk (grid0.coords t) (cntAt m hO c t) then chunkAt m hO c t (settled m hO c (t.val / 8)) else settled m hO c (t.val / 8)

theorem chunkAt_in (t : Fin (cfgM m hO).N) (d d' : Sorted F) (y : S2048x1024.Idx)
    (h : 288 * slot (grid0.coords t 1).val ≤ (y 0).val ∧ (y 0).val < 288 * slot (grid0.coords t 1).val + 288) :
    chunkAt m hO c t d y = chunkAt m hO c t d' y := by
  unfold chunkAt withChunk putChunk
  simp only [dif_pos h]

theorem stepAt_in (t : Fin (cfgM m hO).N) (d d' : Sorted F) (y : S2048x1024.Idx)
    (h : 288 * slot (grid0.coords t 1).val ≤ (y 0).val ∧ (y 0).val < 288 * slot (grid0.coords t 1).val + 288) :
    stepAt m hO c t d y = stepAt m hO c t d' y := by
  unfold stepAt
  split
  · exact chunkAt_in m hO c t d d' y h
  · unfold putBlank; simp only [dif_pos h]

theorem stepAt_out (t : Fin (cfgM m hO).N) (d : Sorted F) (y : S2048x1024.Idx)
    (h : ¬ (288 * slot (grid0.coords t 1).val ≤ (y 0).val ∧ (y 0).val < 288 * slot (grid0.coords t 1).val + 288)) :
    stepAt m hO c t d y = d y := by
  unfold stepAt
  split
  · unfold chunkAt withChunk putChunk; rw [dif_neg h]
  · unfold putBlank; rw [dif_neg h]

/-- What is known of the buffer before point `n`: inside a tile, the chunks written so far and the last rows. -/
def Known (n : ℕ) (d : Sorted F) : Prop :=
  n % 8 ≠ 0 → ∀ y : S2048x1024.Idx, 2016 ≤ (y 0).val ∨ (y 0).val < 288 * (n % 8) → d y = settled m hO c (n / 8) y

theorem pt_eq (t : Fin (cfgM m hO).N) (k : ℕ) (hk : k = t.val % 8) : pt m hO (t.val / 8) k = t := by
  have ht : t.val < 128 := Nat.lt_of_lt_of_eq t.isLt (show (cfgM m hO).N = 128 from N_0)
  refine Fin.ext ?_
  show (8 * (t.val / 8) + k) % 128 = t.val
  omega

/-- A step before the last keeps what is known, and adds its own chunk. -/
theorem known_step (t : Fin (cfgM m hO).N) (h7 : t.val % 8 ≠ 7) (d : Sorted F)
    (hd : ∀ y : S2048x1024.Idx, 2016 ≤ (y 0).val ∨ (y 0).val < 288 * (t.val % 8) → d y = settled m hO c (t.val / 8) y) :
    Known m hO c (t.val + 1) (stepAt m hO c t d) := by
  intro _ y hy
  have e1 : (t.val + 1) / 8 = t.val / 8 := by omega
  have e2 : (t.val + 1) % 8 = t.val % 8 + 1 := by omega
  rw [e2] at hy
  rw [e1]
  have es : slot (grid0.coords t 1).val = t.val % 8 := by
    rw [show (grid0.coords t 1).val = t.val % 8 from coords_step t]; unfold slot; omega
  by_cases h : 288 * (t.val % 8) ≤ (y 0).val ∧ (y 0).val < 288 * (t.val % 8) + 288
  · unfold settled
    rw [if_neg (by omega), pt_eq m hO t _ (by omega)]
    exact stepAt_in m hO c t _ _ y (by rw [es]; exact h)
  · rw [stepAt_out m hO c t d y (by rw [es]; exact h)]
    exact hd y (by omega)

/-- The first step starts from the last rows alone. -/
theorem known_first (t : Fin (cfgM m hO).N) (h0 : t.val % 8 = 0) (d : Sorted F) :
    Known m hO c (t.val + 1) (stepAt m hO c t (putTail k0_pay1 d)) := by
  refine known_step m hO c t (by omega) _ fun y hy => ?_
  have h : 2016 ≤ (y 0).val := by omega
  unfold settled
  rw [if_pos h]
  unfold putTail
  simp only [dif_pos h]

/-- Before a tile's last step everything is known. -/
theorem known_all (n : ℕ) (h7 : n % 8 = 7) (d : Sorted F) (hd : Known m hO c n d) : d = settled m hO c (n / 8) := by
  funext y
  have : (y 0).val < 2048 := (y 0).isLt
  exact hd (by omega) y (by omega)

/-- The proof data: every input window left as it was, the output window at the tile's result. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outOf (iblk m hO c 2 t) (iblk m hO c 3 t) (endOf m hO c t)
  Φ n := iprop(∃ d, ⌜Known m hO c n.val d⌝ ∗ owns (c : Thread nD τ) scM fullShare d ∗ (∃ r, prngReg c r) ∗ tbPt c grpM (tbl m 0) ∗ tbPt c cntM (tbl m 1))
  q _ := fullShare
  owed _ := 0

theorem A_eq (w : Fin (cfgM m hO).W) : (dats m hO 0 c).A w = V m c (Pipeline.arrRef spec0 w) := by dsimp only [dats]
theorem after_0 (t : Fin (cfgM m hO).N) : (dats m hO 0 c).after 0 t = iblk m hO c 0 t := by dsimp only [dats]; try rfl
theorem after_1 (t : Fin (cfgM m hO).N) : (dats m hO 0 c).after 1 t = iblk m hO c 1 t := by dsimp only [dats]; try rfl
theorem after_2 (t : Fin (cfgM m hO).N) : (dats m hO 0 c).after 2 t = iblk m hO c 2 t := by dsimp only [dats]; try rfl
theorem after_3 (t : Fin (cfgM m hO).N) : (dats m hO 0 c).after 3 t = iblk m hO c 3 t := by dsimp only [dats]; try rfl
theorem after_4 (t : Fin (cfgM m hO).N) : (dats m hO 0 c).after 4 t = iblk m hO c 4 t := by dsimp only [dats]; try rfl
theorem after_5 (t : Fin (cfgM m hO).N) : (dats m hO 0 c).after 5 t = iblk m hO c 5 t := by dsimp only [dats]; try rfl
theorem after_6 (t : Fin (cfgM m hO).N) : (dats m hO 0 c).after 6 t = iblk m hO c 6 t := by dsimp only [dats]; try rfl
theorem after_7 (t : Fin (cfgM m hO).N) :
    (dats m hO 0 c).after 7 t = outOf (iblk m hO c 2 t) (iblk m hO c 3 t) (endOf m hO c t) := by dsimp only [dats]; try rfl
theorem held_0 (t : Fin (cfgM m hO).N) (d) : (dats m hO 0 c).before 0 t d = iblk m hO c 0 t :=
  before_0 m hO (dats m hO 0 c) (A_eq m hO c 0) (after_0 m hO c) t d
theorem held_1 (t : Fin (cfgM m hO).N) (d) : (dats m hO 0 c).before 1 t d = iblk m hO c 1 t :=
  before_1 m hO (dats m hO 0 c) (A_eq m hO c 1) (after_1 m hO c) t d
theorem held_2 (t : Fin (cfgM m hO).N) (d) : (dats m hO 0 c).before 2 t d = iblk m hO c 2 t :=
  before_2 m hO (dats m hO 0 c) (A_eq m hO c 2) (after_2 m hO c) t d
theorem held_3 (t : Fin (cfgM m hO).N) (d) : (dats m hO 0 c).before 3 t d = iblk m hO c 3 t :=
  before_3 m hO (dats m hO 0 c) (A_eq m hO c 3) (after_3 m hO c) t d
theorem held_4 (t : Fin (cfgM m hO).N) (d) : (dats m hO 0 c).before 4 t d = iblk m hO c 4 t :=
  before_4 m hO (dats m hO 0 c) (A_eq m hO c 4) (after_4 m hO c) t d
theorem held_5 (t : Fin (cfgM m hO).N) (d) : (dats m hO 0 c).before 5 t d = iblk m hO c 5 t :=
  before_5 m hO (dats m hO 0 c) (A_eq m hO c 5) (after_5 m hO c) t d
theorem held_6 (t : Fin (cfgM m hO).N) (d) : (dats m hO 0 c).before 6 t d = iblk m hO c 6 t :=
  before_6 m hO (dats m hO 0 c) (A_eq m hO c 6) (after_6 m hO c) t d

/-- What is held between points. -/
abbrev between (n : ℕ) : sProp 𝕄 :=
  iprop(∃ d, ⌜Known m hO c n d⌝ ∗ owns (c : Thread nD τ) scM fullShare d ∗ (∃ r, prngReg c r) ∗ tbPt c grpM (tbl m 0) ∗ tbPt c cntM (tbl m 1))

theorem phi_before (t : Fin (cfgM m hO).N) : (dats m hO 0 c).Φ t.castSucc = between m hO c t.val := by
  dsimp only [dats]; exact Pipeline.Dat.Φ_castSucc (fun n _ => between m hO c n) t
theorem phi_after (t : Fin (cfgM m hO).N) : (dats m hO 0 c).Φ t.succ = between m hO c (t.val + 1) := by
  dsimp only [dats]; rfl

/-- What the body is called with at point `t`, -/
def bodyPre (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

/-- and what it returns. -/
def bodyPost (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

theorem leaves_0 (t : Fin (cfgM m hO).N) :
    (dats m hO 0 c).leavesExact 0 t = owns (c : Thread nD τ) (ms_0 m hO t) fullShare (iblk m hO c 0 t) := by
  rw [show (dats m hO 0 c).leavesExact 0 t = owns (c : Thread nD τ) (ms_0 m hO t) fullShare ((dats m hO 0 c).after 0 t) from by
    unfold Dat.leavesExact; rw [live_0 m hO t]; try rfl, after_0]
theorem leaves_1 (t : Fin (cfgM m hO).N) :
    (dats m hO 0 c).leavesExact 1 t = owns (c : Thread nD τ) (ms_1 m hO t) fullShare (iblk m hO c 1 t) := by
  rw [show (dats m hO 0 c).leavesExact 1 t = owns (c : Thread nD τ) (ms_1 m hO t) fullShare ((dats m hO 0 c).after 1 t) from by
    unfold Dat.leavesExact; rw [live_1 m hO t]; try rfl, after_1]
theorem leaves_2 (t : Fin (cfgM m hO).N) :
    (dats m hO 0 c).leavesExact 2 t = owns (c : Thread nD τ) (ms_2 m hO t) fullShare (iblk m hO c 2 t) := by
  rw [show (dats m hO 0 c).leavesExact 2 t = owns (c : Thread nD τ) (ms_2 m hO t) fullShare ((dats m hO 0 c).after 2 t) from by
    unfold Dat.leavesExact; rw [live_2 m hO t]; try rfl, after_2]
theorem leaves_3 (t : Fin (cfgM m hO).N) :
    (dats m hO 0 c).leavesExact 3 t = owns (c : Thread nD τ) (ms_3 m hO t) fullShare (iblk m hO c 3 t) := by
  rw [show (dats m hO 0 c).leavesExact 3 t = owns (c : Thread nD τ) (ms_3 m hO t) fullShare ((dats m hO 0 c).after 3 t) from by
    unfold Dat.leavesExact; rw [live_3 m hO t]; try rfl, after_3]
theorem leaves_4 (t : Fin (cfgM m hO).N) :
    (dats m hO 0 c).leavesExact 4 t = owns (c : Thread nD τ) (ms_4 m hO t) fullShare (iblk m hO c 4 t) := by
  rw [show (dats m hO 0 c).leavesExact 4 t = owns (c : Thread nD τ) (ms_4 m hO t) fullShare ((dats m hO 0 c).after 4 t) from by
    unfold Dat.leavesExact; rw [live_4 m hO t]; try rfl, after_4]
theorem leaves_5 (t : Fin (cfgM m hO).N) :
    (dats m hO 0 c).leavesExact 5 t = owns (c : Thread nD τ) (ms_5 m hO t) fullShare (iblk m hO c 5 t) := by
  rw [show (dats m hO 0 c).leavesExact 5 t = owns (c : Thread nD τ) (ms_5 m hO t) fullShare ((dats m hO 0 c).after 5 t) from by
    unfold Dat.leavesExact; rw [live_5 m hO t]; try rfl, after_5]
theorem leaves_6 (t : Fin (cfgM m hO).N) :
    (dats m hO 0 c).leavesExact 6 t = owns (c : Thread nD τ) (ms_6 m hO t) fullShare (iblk m hO c 6 t) := by
  rw [show (dats m hO 0 c).leavesExact 6 t = owns (c : Thread nD τ) (ms_6 m hO t) fullShare ((dats m hO 0 c).after 6 t) from by
    unfold Dat.leavesExact; rw [live_6 m hO t]; try rfl, after_6]

/-- Before a tile's last step the output block is left alone. -/
theorem leaves_idle (t : Fin (cfgM m hO).N) (h : t.val % 8 ≠ 7) :
    (dats m hO 0 c).leavesExact 7 t = iprop(∃ d, owns (c : Thread nD τ) (ms_7 m hO t) fullShare ((dats m hO 0 c).before 7 t d)) := by
  refine Dat.leavesExact_idle (dats m hO 0 c) 7 t ?_ ?_
  · show (!(k0_cond4 (grid0.coords t) == 1#1)) = true
    have h1 : ¬ isLast (grid0.coords t) := fun hl => h (by rw [← coords_step t]; exact (isLast_iff _).1 hl)
    have h2 : (k0_cond4 (grid0.coords t) == 1#1) = false := beq_eq_false_iff_ne.2 h1
    rw [h2]; rfl
  · rw [← Bool.not_eq_true]
    exact fun hf => h ((flush_out (adm m hO) t).1 hf)

/-- At a tile's last step it is left at the tile's result. -/
theorem leaves_last (t : Fin (cfgM m hO).N) (h : t.val % 8 = 7) :
    (dats m hO 0 c).leavesExact 7 t
      = owns (c : Thread nD τ) (ms_7 m hO t) fullShare (outOf (iblk m hO c 2 t) (iblk m hO c 3 t) (endOf m hO c t)) := by
  have hi : (cfgM m hO).idle 7 (grid0.coords t) = false := by
    show (!(k0_cond4 (grid0.coords t) == 1#1)) = false
    have h1 : k0_cond4 (grid0.coords t) = 1#1 := (isLast_iff _).2 (by rw [← h]; exact coords_step t)
    rw [h1]; rfl
  rw [show (dats m hO 0 c).leavesExact 7 t = owns (c : Thread nD τ) (ms_7 m hO t) fullShare ((dats m hO 0 c).after 7 t) from by
    unfold Dat.leavesExact; rw [hi]; try rfl, after_7]

/-- The run at a point, from what the buffer held. -/
abbrev PointRun (t : Fin (cfgM m hO).N) (o : Vec F S1024x1024 .f32) (d d' : Sorted F) (Q : Vec F S1024x1024 .f32 → Prop) : Prop :=
  RunTo c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) d' Q

set_option maxHeartbeats 4000000 in
/-- The body's triple at a point, from a run that keeps what is known and leaves the output block as the window asks. -/
theorem body_of (t : Fin (cfgM m hO).N)
    (h : ∀ o d, Known m hO c t.val d → ∃ d' Q, PointRun m hO c t o d d' Q ∧ Known m hO c (t.val + 1) d'
      ∧ (t.val % 8 ≠ 7 → ∀ o', Q o' → o' = o)
      ∧ (t.val % 8 = 7 → ∀ o', Q o' → o' = outOf (iblk m hO c 2 t) (iblk m hO c 3 t) (endOf m hO c t))) :
    bodyPre m hO c t ⊢ wp frame (wpE (defs₀ (F := F)) Variants.none c none) Set.univ (bodyAt (adm m hO) t) (fun _ => bodyPost m hO c t) := by
  unfold bodyPre bodyPost bodyAt
  simp only [held_0, held_1, held_2, held_3, held_4, held_5, held_6, phi_before, phi_after]
  rw [leaves_0 m hO c t, leaves_1 m hO c t, leaves_2 m hO c t, leaves_3 m hO c t, leaves_4 m hO c t, leaves_5 m hO c t, leaves_6 m hO c t]
  rw [show (dats m hO 0 c).owesAt () t.succ = (dats m hO 0 c).owesAt () t.castSucc from rfl]
  unfold between
  iintro ⟨⟨%d, %hd, HS, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨d', Q, hrun, hk, hn, hl⟩ := h ((dats m hO 0 c).before 7 t d7) d hd
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HT0]; · iexact HT0
  isplitl [HT1]; · iexact HT1
  iintro ⟨H0, H1, H2, H3, H4, H5, H6, ⟨%o7, %ho, H7⟩, HS, HT0, HT1⟩
  isplitl [HS Hg HT0 HT1]
  · iexists d'
    isplitr; · ipureintro; exact hk
    isplitl [HS]; · iexact HS
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h7 : t.val % 8 = 7
  · rw [leaves_last m hO c t h7, ← hl h7 o7 ho]
    iexact H7
  · rw [leaves_idle m hO c t h7]
    iexists d7
    rw [← hn h7 o7 ho]
    iexact H7

/-- The body's triple at every point. -/
theorem body_sound (t : Fin (cfgM m hO).N) :
    bodyPre m hO c t ⊢ wp frame (wpE (defs₀ (F := F)) Variants.none c none) Set.univ (bodyAt (adm m hO) t) (fun _ => bodyPost m hO c t) := by
  refine body_of m hO c t fun o d hd => ?_
  have hs : (grid0.coords t 1).val = t.val % 8 := coords_step t
  have hF : isFirst (grid0.coords t) ↔ t.val % 8 = 0 := by rw [isFirst_iff, hs]
  have hL : isLast (grid0.coords t) ↔ t.val % 8 = 7 := by rw [isLast_iff, hs]
  have hB : isBlank (grid0.coords t) (cntAt m hO c t) ↔ ¬ isChunk (grid0.coords t) (cntAt m hO c t) ∧ t.val % 8 ≠ 7 := by
    rw [isBlank_iff, hs]
  by_cases hc : isChunk (grid0.coords t) (cntAt m hO c t)
  · have hb : ¬ isBlank (grid0.coords t) (cntAt m hO c t) := fun h => (hB.1 h).1 hc
    have e (x : Sorted F) : stepAt m hO c t x = chunkAt m hO c t x := by unfold stepAt; exact if_pos hc
    by_cases h0 : t.val % 8 = 0
    · refine ⟨_, _, runA c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (hF.2 h0) hc hb (fun h => by have := hL.1 h; omega), ?_, fun _ o' h => h, fun h => absurd h (by omega)⟩
      have := known_first m hO c t h0 d
      rw [e] at this; exact this
    · by_cases h7 : t.val % 8 = 7
      · refine ⟨_, _, runE c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (fun h => h0 (hF.1 h)) hc hb (hL.2 h7), fun h => absurd h (by omega), fun h => absurd h7 h, fun _ o' h => ?_⟩
        rw [h, known_all m hO c t.val h7 d hd]
        unfold endOf
        rw [if_pos hc]; rfl
      · refine ⟨_, _, runC c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (fun h => h0 (hF.1 h)) hc hb (fun h => h7 (hL.1 h)), ?_, fun _ o' h => h, fun h => absurd h h7⟩
        have := known_step m hO c t h7 d (hd h0)
        rw [e] at this; exact this
  · have e (x : Sorted F) : stepAt m hO c t x = putBlank (slot (grid0.coords t 1).val) k0_pay4 x := by unfold stepAt; exact if_neg hc
    by_cases h0 : t.val % 8 = 0
    · refine ⟨_, _, runB c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (hF.2 h0) hc (hB.2 ⟨hc, by omega⟩) (fun h => by have := hL.1 h; omega), ?_, fun _ o' h => h, fun h => absurd h (by omega)⟩
      have := known_first m hO c t h0 d
      rw [e] at this; exact this
    · by_cases h7 : t.val % 8 = 7
      · refine ⟨_, _, runF c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (fun h => h0 (hF.1 h)) hc (fun h => (hB.1 h).2 h7) (hL.2 h7), fun h => absurd h (by omega), fun h => absurd h7 h, fun _ o' h => ?_⟩
        rw [h, known_all m hO c t.val h7 d hd]
        unfold endOf
        rw [if_neg hc]
      · refine ⟨_, _, runD c (grid0.coords t) (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t) scM (Memref.isWhole_whole _) (iblk m hO c 0 t) (iblk m hO c 1 t) (iblk m hO c 2 t) (iblk m hO c 3 t) (iblk m hO c 4 t) (iblk m hO c 5 t) (iblk m hO c 6 t) o d (tbl m 0) (tbl m 1) (fun h => h0 (hF.1 h)) hc (hB.2 ⟨hc, h7⟩) (fun h => h7 (hL.1 h)), ?_, fun _ o' h => h, fun h => absurd h h7⟩
        have := known_step m hO c t h7 d (hd h0)
        rw [e] at this; exact this

theorem defs₀_row (t : Fin (cfgM m hO).N) :
    defs₀ (F := F) .tc (cfgM m hO).body ((cfgM m hO).bodyArgs t ((cfgM m hO).slots t)) = bodyAt (adm m hO) t := by
  unfold defs₀; rw [Defs.onTc_tc]

/-- The body obligation at every point. -/
theorem body_obligation : BodyObligation (dats (F := F) m hO 0 c) (defs₀ (F := F)) Variants.none () Set.univ := fun t => by
  rw [bigSep_W0, bigSep_W0, defs₀_row m hO]
  exact triple_restated (body_sound m hO c t) rfl .rfl fun _ => .rfl

/-- The launch hands over what the first point needs, and takes back what the last one leaves. -/
theorem enter : iprop(Pipeline.ΦA spec0 c ∗ Pipeline.ΦT pre0 (tbl m) c) ⊢ (dats m hO 0 c).Φ 0 := by
  rw [rest_eq, tables_eq, show (dats m hO 0 c).Φ 0 = between m hO c 0 from rfl]
  unfold between
  iintro ⟨⟨⟨%d, HS⟩, Hg⟩, HT0, HT1⟩
  iexists d
  isplitr; · ipureintro; exact fun h => absurd rfl h
  isplitl [HS]; · iexact HS
  isplitl [Hg]; · iexact Hg
  isplitl [HT0]; · iexact HT0
  iexact HT1

theorem leave : (dats m hO 0 c).Φ (Fin.last (cfgM m hO).N) ⊢ Pipeline.ΦA spec0 c := by
  rw [rest_eq, show (dats m hO 0 c).Φ (Fin.last (cfgM m hO).N) = between m hO c (cfgM m hO).N from rfl]
  unfold between
  iintro ⟨%d, -, HS, Hg, -, -⟩
  isplitl [HS]
  · iexists d; iexact HS
  iexact Hg

set_option backward.isDefEq.respectTransparency.types false in
/-- The launch: every execution ends, with the arrays as the proof data say and every counter at zero. -/
theorem run_main : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := fun c w => A_eq m hO c w) (hpf := V_tables m)
    (hin := fun c => enter m hO c) (hout := fun c => leave m hO c)

include hO in
/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 3).trans (((dats m hO 0 c).arrAt_in 3 rfl _).trans ((A_eq m hO c 3).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c),
      ((h.1 c).2 main_arg6 (by decide : main_arg6 ∈ Pipeline.restRefs sig spec0)).trans (V_arg6 m c),
      ((h.1 c).2 main_arg7 (by decide : main_arg7 ∈ Pipeline.restRefs sig spec0)).trans (V_arg7 m c),
      ((h.1 c).2 main_arg8 (by decide : main_arg8 ∈ Pipeline.restRefs sig spec0)).trans (V_arg8 m c)⟩, h.2⟩) (run_main m ρ hO)

end Cert.Proof.E

end
-- ==== Proof.E.Tables.lean ====
/-
The words of the table of groups.
-/
module

public import proofs.«01_k».proof.Proof.E.Launch
public import Idealize.ShloMosaic.Lib.Pointwise
public import Idealize.ShloMosaic.Lib.StableHlo.ReadAt

@[expose] public section

set_option maxRecDepth 16384

noncomputable section

namespace Cert.Proof.E

open Cert.ExpertsIdeal Cert.ExpertsIdeal.Gen
open Idealize.ShloMosaic Idealize.ShloMosaic.TcCoe

variable {F : FTy → Type} [FloatOps F]
variable (m : (ℓ : Loc nD τ sig) → Buf (Elt F) ℓ) (c : Dev nD)

/-- The groups of the chunks and the numbers of chunks. -/
abbrev grp : S16x7.Idx → BitVec 32 := m ((c.tc : Thread nD τ).loc main_arg4)
abbrev cnt : S16.Idx → BitVec 32 := m ((c.tc : Thread nD τ).loc main_arg5)

/-- The first 112 words are the groups as they come. -/
theorem word_plain (b : Fin 16) (k : Fin 7) :
    (V m c main_v42 (ix1 ⟨7 * b.val + k.val, by omega⟩) : BitVec 32) = grp m c (ix2 b k) := by
  unfold V
  after_reads_at
  rw [dif_pos (by omega)]
  simp only [show (7 * b.val + k.val) % 7 = k.val by omega, show (7 * b.val + k.val) / 7 = b.val by omega, Fin.eta]

/-- The group of a tile's last chunk, as the host finds it: column by column. -/
def lastOf (g : IVec S16x7 32) (n : IVec S16 32) : IVec S16 32 :=
  select (cmpi CmpIPredicate.sgt n (broadcastInDim S16 ![] bcast_S_S16 (constantI S_ 32 6#32)))
    (fun i => shapeCast main_v30.ty.shape (extractStridedSlice S16x1 ![0, 6] g slices_S16x7_S16x1_0_6) shapeCasts_S16x1_S16 i)
    (select (cmpi CmpIPredicate.sgt n (broadcastInDim S16 ![] bcast_S_S16 (constantI S_ 32 5#32)))
    (fun i => shapeCast main_v25.ty.shape (extractStridedSlice S16x1 ![0, 5] g slices_S16x7_S16x1_0_5) shapeCasts_S16x1_S16 i)
    (select (cmpi CmpIPredicate.sgt n (broadcastInDim S16 ![] bcast_S_S16 (constantI S_ 32 4#32)))
    (fun i => shapeCast main_v20.ty.shape (extractStridedSlice S16x1 ![0, 4] g slices_S16x7_S16x1_0_4) shapeCasts_S16x1_S16 i)
    (select (cmpi CmpIPredicate.sgt n (broadcastInDim S16 ![] bcast_S_S16 (constantI S_ 32 3#32)))
    (fun i => shapeCast main_v15.ty.shape (extractStridedSlice S16x1 ![0, 3] g slices_S16x7_S16x1_0_3) shapeCasts_S16x1_S16 i)
    (select (cmpi CmpIPredicate.sgt n (broadcastInDim S16 ![] bcast_S_S16 (constantI S_ 32 2#32)))
    (fun i => shapeCast main_v10.ty.shape (extractStridedSlice S16x1 ![0, 2] g slices_S16x7_S16x1_0_2) shapeCasts_S16x1_S16 i)
    (select (cmpi CmpIPredicate.sgt n (broadcastInDim S16 ![] bcast_S_S16 (constantI S_ 32 1#32)))
    (fun i => shapeCast main_v5.ty.shape (extractStridedSlice S16x1 ![0, 1] g slices_S16x7_S16x1_0_1) shapeCasts_S16x1_S16 i)
    (fun i => shapeCast main_v1.ty.shape (extractStridedSlice S16x1 ![0, 0] g slices_S16x7_S16x1_0_0) shapeCasts_S16x1_S16 i))))))

theorem lastOf_word (g : IVec S16x7 32) (n : IVec S16 32) (b : Fin 16) : ∃ j : Fin 7, lastOf g n (ix1 b) = g (ix2 b j) := by
  have hcol : ∀ (j : Fin 7) (h : S16x7.Slices ![0, j.val] S16x1),
      shapeCast S16 (extractStridedSlice S16x1 ![0, j.val] g h) shapeCasts_S16x1_S16 (ix1 b) = g (ix2 b j) := by
    intro j h
    pointwise
  have step : ∀ (p : IVec S16 1) (x y : IVec S16 32), (∃ j : Fin 7, x (ix1 b) = g (ix2 b j)) → (∃ j : Fin 7, y (ix1 b) = g (ix2 b j)) →
      ∃ j : Fin 7, select p x y (ix1 b) = g (ix2 b j) := by
    intro p x y hx hy
    by_cases hp : p (ix1 b) = 1#1
    · obtain ⟨j, hj⟩ := hx
      exact ⟨j, (if_pos hp).trans hj⟩
    · obtain ⟨j, hj⟩ := hy
      exact ⟨j, (if_neg hp).trans hj⟩
  unfold lastOf
  refine step _ _ _ ⟨6, hcol 6 _⟩ ?_
  refine step _ _ _ ⟨5, hcol 5 _⟩ ?_
  refine step _ _ _ ⟨4, hcol 4 _⟩ ?_
  refine step _ _ _ ⟨3, hcol 3 _⟩ ?_
  refine step _ _ _ ⟨2, hcol 2 _⟩ ?_
  refine step _ _ _ ⟨1, hcol 1 _⟩ ⟨0, hcol 0 _⟩

set_option maxHeartbeats 1000000 in
/-- The table, with the last chunks' groups folded up. -/
theorem table_eq (x : S240.Idx) : (V m c main_v42 x : BitVec 32) =
    concatenate S240 0 [⟨S112, shapeCast S112 (grp m c) shapeCasts_S16x7_S112⟩,
      ⟨S128, shapeCast S128 (select
        (cmpi CmpIPredicate.slt (iotaInDim S16x8 32 1)
          (broadcastInDim S16x8 ![0, 1] bcast_S16x1_S16x8_0_1 (broadcastInDim S16x1 ![0] bcast_S16_S16x1_0 (cnt m c))))
        (concatenate S16x8 1 [⟨S16x7, grp m c⟩, ⟨S16x1, extractStridedSlice S16x1 ![0, 0] (broadcastInDim S16x8 ![0] bcast_S16_S16x8_0 (lastOf (grp m c) (cnt m c))) slices_S16x8_S16x1_0_0⟩]
          concatenates_S16x7_S16x1_S16x8_d1)
        (broadcastInDim S16x8 ![0] bcast_S16_S16x8_0 (lastOf (grp m c) (cnt m c)))) shapeCasts_S16x8_S128⟩]
      concatenates_S112_S128_S240_d0 x := by
  have key : ∀ (p : S16x7.Idx → BitVec 32) (q : S16x1.Idx → BitVec 32), p = grp m c →
      q = extractStridedSlice S16x1 ![0, 0] (broadcastInDim S16x8 ![0] bcast_S16_S16x8_0 (lastOf (grp m c) (cnt m c))) slices_S16x8_S16x1_0_0 →
      concatenate S240 0 [⟨S112, shapeCast S112 (grp m c) shapeCasts_S16x7_S112⟩,
      ⟨S128, shapeCast S128 (select
        (cmpi CmpIPredicate.slt (iotaInDim S16x8 32 1)
          (broadcastInDim S16x8 ![0, 1] bcast_S16x1_S16x8_0_1 (broadcastInDim S16x1 ![0] bcast_S16_S16x1_0 (cnt m c))))
        (concatenate S16x8 1 [⟨S16x7, p⟩, ⟨S16x1, q⟩] concatenates_S16x7_S16x1_S16x8_d1)
        (broadcastInDim S16x8 ![0] bcast_S16_S16x8_0 (lastOf (grp m c) (cnt m c)))) shapeCasts_S16x8_S128⟩]
      concatenates_S112_S128_S240_d0 x = concatenate S240 0 [⟨S112, shapeCast S112 (grp m c) shapeCasts_S16x7_S112⟩,
      ⟨S128, shapeCast S128 (select
        (cmpi CmpIPredicate.slt (iotaInDim S16x8 32 1)
          (broadcastInDim S16x8 ![0, 1] bcast_S16x1_S16x8_0_1 (broadcastInDim S16x1 ![0] bcast_S16_S16x1_0 (cnt m c))))
        (concatenate S16x8 1 [⟨S16x7, grp m c⟩, ⟨S16x1, extractStridedSlice S16x1 ![0, 0] (broadcastInDim S16x8 ![0] bcast_S16_S16x8_0 (lastOf (grp m c) (cnt m c))) slices_S16x8_S16x1_0_0⟩] concatenates_S16x7_S16x1_S16x8_d1)
        (broadcastInDim S16x8 ![0] bcast_S16_S16x8_0 (lastOf (grp m c) (cnt m c)))) shapeCasts_S16x8_S128⟩]
      concatenates_S112_S128_S240_d0 x := by
    rintro _ _ rfl rfl
    rfl
  unfold V
  after_reads_simp
  refine key _ _ ?_ ?_
  · after_reads_simp
  · after_reads_simp
    rfl

/-- The next 128 words: the group of the chunk while there are chunks, the last chunk's after that. -/
theorem word_fetch (b : Fin 16) (k : Fin 8) :
    (V m c main_v42 (ix1 ⟨112 + (8 * b.val + k.val), by omega⟩) : BitVec 32)
      = Scalar.select (IntOp.cmpi CmpIPredicate.slt (BitVec.ofNat 32 k.val) (cnt m c (ix1 b)))
          (if h : k.val < 7 then grp m c (ix2 b ⟨k.val, h⟩) else lastOf (grp m c) (cnt m c) (ix1 b)) (lastOf (grp m c) (cnt m c) (ix1 b)) := by
  rw [table_eq]
  generalize lastOf (grp m c) (cnt m c) = L
  generalize grp m c = g
  generalize cnt m c = n
  pointwise

/-- Whatever the step, its word is one of the tile's groups. -/
theorem word_any (b : Fin 16) (k : Fin 8) :
    ∃ j : Fin 7, (V m c main_v42 (ix1 ⟨112 + (8 * b.val + k.val), by omega⟩) : BitVec 32) = grp m c (ix2 b j) := by
  rw [word_fetch]
  obtain ⟨j, hj⟩ := lastOf_word (grp m c) (cnt m c) b
  unfold Scalar.select
  split
  · split
    · exact ⟨_, rfl⟩
    · exact ⟨j, hj⟩
  · exact ⟨j, hj⟩

/-- While there are chunks, it is the chunk's group. -/
theorem word_live (b : Fin 16) (k : Fin 7) (h : (k.val : ℤ) < (cnt m c (ix1 b)).toInt) :
    (V m c main_v42 (ix1 ⟨112 + (8 * b.val + k.val), by omega⟩) : BitVec 32) = grp m c (ix2 b k) := by
  refine (word_fetch m c b ⟨k.val, by omega⟩).trans ?_
  have e : IntOp.cmpi CmpIPredicate.slt (BitVec.ofNat 32 k.val) (cnt m c (ix1 b)) = 1#1 := by
    rw [WordCmp.cmpi_slt_eq, WordCmp.toInt_ofNat_of_lt (by omega)]
    simp [h]
  rw [e]
  simp only [Scalar.select, if_true, dif_pos k.isLt]
  rfl

/-- The groups are below 4. -/
def Below : Prop := ∀ (b : Fin 16) (j : Fin 7), 0 ≤ (grp m 0 (ix2 b j)).toInt ∧ (grp m 0 (ix2 b j)).toInt < 4

/-- The block of weights a step fetches: the group its word names. -/
theorem weights_at (i : grid0.Coords) :
    cc0_transform_4 k0_off1_inb numel1_S1 (tbl m) i = ![(V m 0 main_v42 (ix1 ⟨112 + (8 * (i 0).val + (i 1).val), by have := (i 0).isLt; have := (i 1).isLt; simp [grid0] at *; omega⟩) : BitVec 32).toNat, 0, 0] := by
  unfold cc0_transform_4
  simp only [Pipeline.Prefetch.Contents.at]
  have hp : (Rect.unit (s := S240) (k0_off1 i) S1.size (k0_off1_inb i)).emb (Shape.Idx.first (numel1_S1.symm ▸ Nat.one_pos)) = ix1 ⟨112 + (8 * (i 0).val + (i 1).val), by have := (i 0).isLt; have := (i 1).isLt; simp [grid0] at *; omega⟩ := by
    funext a
    match a with
    | 0 =>
      refine Fin.ext ?_
      have : (k0_off1 i) 0 = 8 * (i 0).val + (i 1).val + 112 := congrFun (k0_off1_eq i) 0
      show (k0_off1 i) 0 + 1 * 0 = _
      rw [this]
      show _ = 112 + (8 * (i 0).val + (i 1).val)
      omega
  exact congrArg (fun x => ![(tbl m 0 x : BitVec 32).toNat, 0, 0]) hp

/-- Then the blocks of weights a step fetches are inside the weights. -/
theorem ok_of_below (h : Below m) : Ok m := by
  have key : ∀ i : grid0.Coords, (V m 0 main_v42 (ix1 ⟨112 + (8 * (i 0).val + (i 1).val), by have := (i 0).isLt; have := (i 1).isLt; simp [grid0] at *; omega⟩) : BitVec 32).toNat < 4 := by
    intro i
    obtain ⟨j, hj⟩ := word_any m 0 (i 0) (i 1)
    have := h (i 0) j
    refine lt_of_eq_of_lt (congrArg BitVec.toNat hj) ?_
    rw [BitVec.toInt_eq_toNat_cond] at this
    split at this <;> omega
  have place : ∀ i : grid0.Coords, cc0_transform_4 k0_off1_inb numel1_S1 (tbl m) i = ![(V m 0 main_v42 (ix1 ⟨112 + (8 * (i 0).val + (i 1).val), by have := (i 0).isLt; have := (i 1).isLt; simp [grid0] at *; omega⟩) : BitVec 32).toNat, 0, 0] :=
    fun i => weights_at m i
  refine ⟨fun i => ?_, fun i => ?_, fun i => ?_⟩
  · refine ⟨fun a => ?_, .inr (Affine.block_words_dvd (of_decide_eq_true rfl) (by decide))⟩
    rw [place]
    have k := key i
    match a with
    | 0 => exact Nat.mul_le_mul_right 4 k
    | 1 => exact (by decide : (0 + 1) * 1024 ≤ 1024)
    | 2 => exact (by decide : (0 + 1) * 256 ≤ 256)
  · refine ⟨fun a => ?_, .inr (Affine.block_words_dvd (of_decide_eq_true rfl) (by decide))⟩
    rw [show cc0_transform_5 k0_off1_inb numel1_S1 (tbl m) i = _ from place i]
    have k := key i
    match a with
    | 0 => exact Nat.mul_le_mul_right 4 k
    | 1 => exact (by decide : (0 + 1) * 1024 ≤ 1024)
    | 2 => exact (by decide : (0 + 1) * 256 ≤ 256)
  · refine ⟨fun a => ?_, .inr (Affine.block_words_dvd (of_decide_eq_true rfl) (by decide))⟩
    rw [show cc0_transform_6 k0_off1_inb numel1_S1 (tbl m) i = _ from place i]
    have k := key i
    match a with
    | 0 => exact Nat.mul_le_mul_right 4 k
    | 1 => exact (by decide : (0 + 1) * 256 ≤ 256)
    | 2 => exact (by decide : (0 + 1) * 1024 ≤ 1024)

end Cert.Proof.E
-- ==== Proof.EV.Blocks.lean ====
/-
The blocks the experts' kernel takes at a grid point and where its output block goes, at an entry.
-/
module

public import proofs.«01_k».proof.Proof.E.Frame
public import proofs.«01_k».proof.Proof.E.Tables
public import Idealize.ShloMosaic.Lib.Pipeline.Value
public import Idealize.ShloMosaic.Lib.Pipeline.Covers
public import Idealize.ShloMosaic.Lib.Pipeline.ValueKit
public import Idealize.ShloMosaic.Lib.Pointwise

@[expose] public section

set_option maxRecDepth 16384

noncomputable section

namespace Cert.Proof.E

open Cert.ExpertsIdeal Cert.ExpertsIdeal.Gen
open Idealize.ShloMosaic Idealize.ShloMosaic.TcCoe

variable (m : (ℓ : Loc nD τ sig) → Buf (Elt Ideal) ℓ) (hO : Ok m) (c : Dev nD) (t : Fin (cfgM m hO).N)

theorem point_lt : t.val < 128 := Nat.lt_of_lt_of_eq t.isLt (show (cfgM m hO).N = 128 from N_0)

/-- The tile of a point and its step. -/
abbrev tileOf : Fin 16 := grid0.coords t 0
abbrev stepOf : Fin 8 := grid0.coords t 1

theorem tile_word : (BitVec.ofNat 32 (tileOf m hO t).val).toNat = (tileOf m hO t).val := by
  rw [BitVec.toNat_ofNat]
  omega

theorem idx_0 : ((cfgM m hO).win 0).index t = ![(tileOf m hO t).val, 0] := by
  show cc0_transform_0 (grid0.coords t) = _
  unfold cc0_transform_0
  dsimp only
  rw [tile_word m hO t]
  rfl

theorem idx_1 : ((cfgM m hO).win 1).index t = ![(tileOf m hO t).val, 0, 0] := by
  show cc0_transform_1 (grid0.coords t) = _
  unfold cc0_transform_1
  dsimp only
  rw [tile_word m hO t]
  rfl

theorem idx_7 : ((cfgM m hO).win 7).index t = ![(tileOf m hO t).val, 0] := idx_0 m hO t

/-- The word that names a step's weights. -/
abbrev fetchWord : BitVec 32 :=
  V m 0 main_v42 (ix1 ⟨112 + (8 * (tileOf m hO t).val + (stepOf m hO t).val), by have := (tileOf m hO t).isLt; have := (stepOf m hO t).isLt; omega⟩)

theorem idx_4 : ((cfgM m hO).win 4).index t = ![(fetchWord m hO t).toNat, 0, 0] := weights_at m (grid0.coords t)

theorem blk_0 (r : Fin 1024) (l : Fin 1280) :
    iblk m hO c 0 t (ix2 r l) = V m c main_v52 (ix2 ⟨1024 * (tileOf m hO t).val + r.val, by have := (tileOf m hO t).isLt; omega⟩ l) := by
  refine congrArg (V m c main_v52) (funext fun a => Fin.ext ?_)
  refine (Pipeline.Window.rect_emb_val ((cfgM m hO).win 0) t (ix2 r l) a rfl).trans ?_
  rw [idx_0]
  fin_cases a
  · exact (by omega : (tileOf m hO t).val * 1024 + r.val = 1024 * (tileOf m hO t).val + r.val)
  · exact (by omega : 0 * 1280 + l.val = l.val)

theorem blk_1 (j : Fin 1024) : iblk m hO c 1 t (ix3 0 0 j) = V m c main_v53 (ix3 (tileOf m hO t) 0 j) := by
  refine congrArg (V m c main_v53) (funext fun a => Fin.ext ?_)
  refine (Pipeline.Window.rect_emb_val ((cfgM m hO).win 1) t (ix3 0 0 j) a rfl).trans ?_
  rw [idx_1]
  fin_cases a
  · exact (by omega : (tileOf m hO t).val * 1 + 0 = (tileOf m hO t).val)
  · exact (by omega : 0 * 1 + 0 = 0)
  · exact (by omega : 0 * 1024 + j.val = j.val)

theorem blk_2 (r : Fin 1024) :
    iblk m hO c 2 t (ix2 r 0) = V m c main_v54 (ix2 ⟨1024 * (tileOf m hO t).val + r.val, by have := (tileOf m hO t).isLt; omega⟩ 0) := by
  refine congrArg (V m c main_v54) (funext fun a => Fin.ext ?_)
  refine (Pipeline.Window.rect_emb_val ((cfgM m hO).win 2) t (ix2 r 0) a rfl).trans ?_
  rw [show ((cfgM m hO).win 2).index t = _ from idx_0 m hO t]
  fin_cases a
  · exact (by omega : (tileOf m hO t).val * 1024 + r.val = 1024 * (tileOf m hO t).val + r.val)
  · exact (by omega : 0 * 1 + 0 = 0)

theorem blk_3 (r d : Fin 1024) :
    iblk m hO c 3 t (ix2 r d) = V m c main_arg0 (ix2 ⟨1024 * (tileOf m hO t).val + r.val, by have := (tileOf m hO t).isLt; omega⟩ d) := by
  refine congrArg (V m c main_arg0) (funext fun a => Fin.ext ?_)
  refine (Pipeline.Window.rect_emb_val ((cfgM m hO).win 3) t (ix2 r d) a rfl).trans ?_
  rw [show ((cfgM m hO).win 3).index t = _ from idx_0 m hO t]
  fin_cases a
  · exact (by omega : (tileOf m hO t).val * 1024 + r.val = 1024 * (tileOf m hO t).val + r.val)
  · exact (by omega : 0 * 1024 + d.val = d.val)

variable (g : Fin 4) (hg : fetchWord m hO t = BitVec.ofNat 32 g.val)

include hg

theorem fetch_nat : (fetchWord m hO t).toNat = g.val := by
  rw [hg, BitVec.toNat_ofNat]
  omega

theorem blk_4 (e : Fin 4) (l : Fin 1024) (f : Fin 256) :
    iblk m hO c 4 t (ix3 e l f) = V m c main_v55 (ix3 ⟨4 * g.val + e.val, by omega⟩ l f) := by
  refine congrArg (V m c main_v55) (funext fun a => Fin.ext ?_)
  refine (Pipeline.Window.rect_emb_val ((cfgM m hO).win 4) t (ix3 e l f) a rfl).trans ?_
  rw [idx_4, fetch_nat m hO t g hg]
  fin_cases a
  · exact (by omega : g.val * 4 + e.val = 4 * g.val + e.val)
  · exact (by omega : 0 * 1024 + l.val = l.val)
  · exact (by omega : 0 * 256 + f.val = f.val)

theorem blk_5 (e : Fin 4) (l : Fin 1024) (f : Fin 256) :
    iblk m hO c 5 t (ix3 e l f) = V m c main_v56 (ix3 ⟨4 * g.val + e.val, by omega⟩ l f) := by
  refine congrArg (V m c main_v56) (funext fun a => Fin.ext ?_)
  refine (Pipeline.Window.rect_emb_val ((cfgM m hO).win 5) t (ix3 e l f) a rfl).trans ?_
  rw [show ((cfgM m hO).win 5).index t = _ from idx_4 m hO t, fetch_nat m hO t g hg]
  fin_cases a
  · exact (by omega : g.val * 4 + e.val = 4 * g.val + e.val)
  · exact (by omega : 0 * 1024 + l.val = l.val)
  · exact (by omega : 0 * 256 + f.val = f.val)

theorem blk_6 (e : Fin 4) (f : Fin 256) (d : Fin 1024) :
    iblk m hO c 6 t (ix3 e f d) = V m c main_v57 (ix3 ⟨4 * g.val + e.val, by omega⟩ f d) := by
  refine congrArg (V m c main_v57) (funext fun a => Fin.ext ?_)
  refine (Pipeline.Window.rect_emb_val ((cfgM m hO).win 6) t (ix3 e f d) a rfl).trans ?_
  rw [show ((cfgM m hO).win 6).index t = _ from idx_4 m hO t, fetch_nat m hO t g hg]
  fin_cases a
  · exact (by omega : g.val * 4 + e.val = 4 * g.val + e.val)
  · exact (by omega : 0 * 256 + f.val = f.val)
  · exact (by omega : 0 * 1024 + d.val = d.val)

omit hg

/-- The tile's number of chunks, and the step's group. -/
theorem cnt_at : cntAt m hO c t = cnt m 0 (ix1 (tileOf m hO t)) := by
  show V m 0 main_arg5 _ = _
  rw [V_arg5]
  refine congrArg (cnt m 0) (funext fun a => Fin.ext ?_)
  match a with
  | 0 =>
    show k0_off2 (grid0.coords t) 0 + 1 * 0 = (tileOf m hO t).val
    have : k0_off2 (grid0.coords t) 0 = (tileOf m hO t).val := tile_word m hO t
    omega

theorem off_grp : ∀ i : grid0.Coords, k0_off3 i 0 = 7 * (i 0).val + (i 1).val := by decide +kernel

theorem grp_at (h : (stepOf m hO t).val < 7) : grpAt m hO c t = grp m 0 (ix2 (tileOf m hO t) ⟨(stepOf m hO t).val, h⟩) := by
  rw [← word_plain m 0 (tileOf m hO t) ⟨(stepOf m hO t).val, h⟩]
  refine congrArg (V m 0 main_v42) (funext fun a => Fin.ext ?_)
  match a with
  | 0 =>
    show k0_off3 (grid0.coords t) 0 + 1 * 0 = 7 * (tileOf m hO t).val + (stepOf m hO t).val
    have := off_grp (grid0.coords t)
    omega

/-- Where an entry of the output block goes. -/
theorem blk_7 (r d : Fin 1024) :
    (((cfgM m hO).win 7).blk t).view.emb (ix2 r d) = ix2 (⟨1024 * (tileOf m hO t).val + r.val, by have := (tileOf m hO t).isLt; omega⟩ : Fin 16384) d := by
  refine funext fun a => Fin.ext ?_
  refine (Pipeline.Window.rect_emb_val ((cfgM m hO).win 7) t (ix2 r d) a rfl).trans ?_
  rw [idx_7]
  fin_cases a
  · exact (by omega : (tileOf m hO t).val * 1024 + r.val = 1024 * (tileOf m hO t).val + r.val)
  · exact (by omega : 0 * 1024 + d.val = d.val)

/-- The output window's blocks cover the output. -/
theorem covers_7 : ((cfgM m hO).win 7).Covers :=
  ((cfgM m hO).win 7).covers_of_indexMap_surj rfl (show ∀ a : Fin 2, 0 < S1024x1024.size a by decide) fun β => by
    have h0 : (β (0 : Fin 2)).val < 16 := lt_of_lt_of_eq (β (0 : Fin 2)).isLt (show (16384 + 1024 - 1) / 1024 = 16 by norm_num)
    have h1 : (β (1 : Fin 2)).val < 1 := lt_of_lt_of_eq (β (1 : Fin 2)).isLt (show (1024 + 1024 - 1) / 1024 = 1 by norm_num)
    let i : grid0.Coords := fun a => match a with | 0 => (⟨(β (0 : Fin 2)).val, h0⟩ : Fin 16) | 1 => (0 : Fin 8)
    refine ⟨i, show ∀ a : Fin 2, cc0_transform_7 i a = (β a).val from fun a => ?_⟩
    match a with
    | 0 =>
      show (BitVec.ofNat 32 (β (0 : Fin 2)).val).toNat = (β (0 : Fin 2)).val
      rw [BitVec.toNat_ofNat]
      omega
    | 1 =>
      show 0 = (β (1 : Fin 2)).val
      omega

end Cert.Proof.E
-- ==== Proof.EV.Host.lean ====
/-
What the host puts into the windows of the experts' kernel, entry by entry, over the reals.
-/
module

public import proofs.«01_k».proof.Proof.E.Launch
public import Idealize.ShloMosaic.Lib.Pointwise
public import Idealize.ShloMosaic.Lib.StableHlo.ReadAt

@[expose] public section

set_option maxRecDepth 16384

noncomputable section

namespace Cert.Proof.E

open Cert.ExpertsIdeal Cert.ExpertsIdeal.Gen
open Idealize.ShloMosaic Idealize.ShloMosaic.TcCoe

variable (m : (ℓ : Loc nD τ sig) → Buf (Elt Ideal) ℓ) (c : Dev nD)

/-- The residual, the rows, their gates and places, and the weights. -/
abbrev H0 : S16384x1024.Idx → EReal := m ((c.tc : Thread nD τ).loc main_arg0)
abbrev X1 : S16384x1024.Idx → EReal := m ((c.tc : Thread nD τ).loc main_arg1)
abbrev G2 : S16384x16.Idx → EReal := m ((c.tc : Thread nD τ).loc main_arg2)
abbrev P3 : S16384.Idx → BitVec 32 := m ((c.tc : Thread nD τ).loc main_arg3)
abbrev W6 : S16x1024x256.Idx → EReal := m ((c.tc : Thread nD τ).loc main_arg6)
abbrev W7 : S16x1024x256.Idx → EReal := m ((c.tc : Thread nD τ).loc main_arg7)
abbrev W8 : S16x256x1024.Idx → EReal := m ((c.tc : Thread nD τ).loc main_arg8)

/-- The packed rows: the row, its gates, and what rounding left of them. -/
theorem packed_row (r : Fin 16384) (l : Fin 1024) : (V m c main_v52 (ix2 r ⟨l.val, by omega⟩) : EReal) = X1 m c (ix2 r l) := by
  unfold V
  after_reads_at
  after_reads_at

theorem packed_gate (r : Fin 16384) (e : Fin 16) : (V m c main_v52 (ix2 r ⟨1024 + (4 + e.val), by omega⟩) : EReal) = G2 m c (ix2 r e) := by
  unfold V
  after_reads_at
  after_reads_at
  rw [dif_pos (by omega)]
  after_reads_at

theorem packed_rest (r : Fin 16384) (e : Fin 16) :
    (V m c main_v52 (ix2 r ⟨1152 + (4 + e.val), by omega⟩) : EReal) = G2 m c (ix2 r e) - G2 m c (ix2 r e) := by
  unfold V
  after_reads_at
  after_reads_at
  rw [dif_neg (by omega), dif_neg (by omega), dif_neg (by omega), dif_pos (by omega)]
  simp only [show 1152 + (4 + e.val) - 1024 - 128 - 4 = e.val by omega, Fin.eta]
  after_reads_at

/-- The places. -/
theorem place_row (b : Fin 16) (j : Fin 1024) :
    (V m c main_v53 (ix3 b 0 j) : EReal) = (((P3 m c (ix1 ⟨1024 * b.val + j.val, by omega⟩)).toInt : ℝ) : EReal) := by
  unfold V
  after_reads_at
  simp only [Nat.mul_comm b.val 1024]
  rfl

theorem place_col (r : Fin 16384) : (V m c main_v54 (ix2 r 0) : EReal) = (((P3 m c (ix1 r)).toInt : ℝ) : EReal) := by
  unfold V
  after_reads_at
  rfl

/-- The weights. -/
theorem weight_gate (e : Fin 16) (d : Fin 1024) (f : Fin 256) : (V m c main_v55 (ix3 e d f) : EReal) = W6 m c (ix3 e d f) := by
  unfold V
  after_reads_at

theorem weight_up (e : Fin 16) (d : Fin 1024) (f : Fin 256) : (V m c main_v56 (ix3 e d f) : EReal) = W7 m c (ix3 e d f) := by
  unfold V
  after_reads_at

theorem weight_down (e : Fin 16) (f : Fin 256) (d : Fin 1024) : (V m c main_v57 (ix3 e f d) : EReal) = W8 m c (ix3 e f d) := by
  unfold V
  after_reads_at

end Cert.Proof.E
-- ==== Proof.EV.Spec.lean ====
/-
The layer's experts, as a formula: what one expert adds to an entry of a row.
-/
module

public import Idealize.ShloMosaic.Lib.Pointwise

@[expose] public section

noncomputable section

namespace Cert.Proof.E

open Idealize.ShloMosaic Idealize.ShloMosaic.TcCoe

/-- An expert's gated activation: from a row, its two weights and its gate. -/
def gated (x : Fin 1024 → EReal) (w u : Fin 1024 → Fin 256 → EReal) (gate : EReal) (f : Fin 256) : EReal :=
  (∑ l, x l * w l f) * Ideal.logistic (∑ l, x l * w l f) * (∑ l, x l * u l f) * gate

/-- What an expert adds to entry `d` of row `r`. -/
def term (X : (⟨2, ![16384, 1024]⟩ : Shape).Idx → EReal) (G : (⟨2, ![16384, 16]⟩ : Shape).Idx → EReal)
    (W U : (⟨3, ![16, 1024, 256]⟩ : Shape).Idx → EReal) (D : (⟨3, ![16, 256, 1024]⟩ : Shape).Idx → EReal)
    (r : Fin 16384) (d : Fin 1024) (e : Fin 16) : EReal :=
  ∑ f : Fin 256, gated (fun l => X (ix2 r l)) (fun l f => W (ix3 e l f)) (fun l f => U (ix3 e l f)) (G (ix2 r e)) f * D (ix3 e f d)

/-- An expert whose gate is zero adds nothing. -/
theorem term_zero {X : (⟨2, ![16384, 1024]⟩ : Shape).Idx → EReal} {G : (⟨2, ![16384, 16]⟩ : Shape).Idx → EReal}
    {W U : (⟨3, ![16, 1024, 256]⟩ : Shape).Idx → EReal} {D : (⟨3, ![16, 256, 1024]⟩ : Shape).Idx → EReal}
    {r : Fin 16384} {e : Fin 16} (h : G (ix2 r e) = 0) (d : Fin 1024) : term X G W U D r d e = 0 := by
  unfold term gated
  refine Finset.sum_eq_zero fun f _ => ?_
  rw [h, mul_zero, zero_mul]

end Cert.Proof.E
-- ==== Proof.EV.Chunk.lean ====
/-
The body's arithmetic over the reals, entry by entry.
-/
module

public import proofs.«01_k».proof.Proof.E.Run
public import proofs.«01_k».proof.Proof.EV.Spec
public import Idealize.ShloMosaic.Lib.Pointwise
public import Idealize.ShloMosaic.Lib.StableHlo.ReadAt

@[expose] public section

set_option maxRecDepth 16384

noncomputable section

namespace Cert.Proof.E

open Cert.ExpertsIdeal Cert.ExpertsIdeal.Gen
open Idealize.ShloMosaic Idealize.ShloMosaic.TcCoe

/-- A sum with one term picked. -/
theorem sum_pick {n : ℕ} (q : Fin n → Prop) [DecidablePred q] (v : Fin n → EReal) (j : Fin n) (hj : q j) (h1 : ∀ x, q x → x = j) :
    (∑ x, (if q x then 1 else 0) * v x) = v j := by
  rw [Finset.sum_eq_single j]
  · rw [if_pos hj, one_mul]
  · intro x _ hx
    rw [if_neg (fun h => hx (h1 x h)), zero_mul]
  · intro h
    exact absurd (Finset.mem_univ j) h

theorem nat_word (n : ℕ) (h : n < 2 ^ 31) : (FloatOps.sitofp (F := Ideal) FTy.f32 (BitVec.ofNat 32 n) : EReal) = ((n : ℝ) : EReal) := by
  show (((BitVec.ofNat 32 n).toInt : ℝ) : EReal) = _
  rw [WordCmp.toInt_ofNat_of_lt h]
  simp

/-- The packed rows a chunk picks: row `r` of chunk `k` is the row whose place it is. -/
theorem pick_at (k : Fin 8) (x1 : Vec Ideal S1x1x1024 .f32) (x0 : Vec Ideal S1024x1280 .bf16) (p : Fin 1024 → ℤ)
    (h1 : ∀ j, x1 (ix3 0 0 j) = ((p j : ℝ) : EReal)) (r : Fin 288) (j : Fin 1024) (hj : p j = 288 * (k.val : ℤ) + r.val)
    (hu : ∀ x, p x = p j → x = j) (l : Fin 1280) :
    k0_pay6 (BitVec.ofNat 32 k.val) x1 x0 (ix2 r l) = x0 (ix2 j l) := by
  have e1 : (Scalar.muli (BitVec.ofNat 32 k.val) 288#32).toInt = 288 * (k.val : ℤ) := by
    clear hj
    revert k
    decide
  have step : k0_pay6 (BitVec.ofNat 32 k.val) x1 x0 (ix2 r l) = ∑ x : Fin 1024, (if p x = p j then 1 else 0) * x0 (ix2 x l) := by
    pointwise [k0_pay6]
    refine Finset.sum_congr rfl fun x _ => ?_
    congr 1
    rw [h1, nat_word _ (by omega), e1, ← EReal.coe_add]
    refine if_congr ?_ rfl rfl
    rw [EReal.coe_eq_coe_iff, hj]
    constructor
    · intro h
      have : ((p x : ℤ) : ℝ) = ((288 * (k.val : ℤ) + r.val : ℤ) : ℝ) := by rw [h]; push_cast; ring
      exact_mod_cast this
    · intro h
      rw [h]; push_cast; ring
  rw [step]
  exact sum_pick (fun x => p x = p j) (fun x => x0 (ix2 x l)) j rfl hu

/-- A chunk's rows and the lanes of their gates. -/
theorem rows_at (k : BitVec 32) (x1 : Vec Ideal S1x1x1024 .f32) (x0 : Vec Ideal S1024x1280 .bf16) (r : Fin 288) (l : Fin 1024) :
    k0_pay7 k x1 x0 (ix2 r l) = k0_pay6 k x1 x0 (ix2 r ⟨l.val, by omega⟩) := by
  pointwise [k0_pay7]

theorem lanes_at (k : BitVec 32) (x1 : Vec Ideal S1x1x1024 .f32) (x0 : Vec Ideal S1024x1280 .bf16) (r : Fin 288) (l : Fin 128) :
    k0_pay8 k x1 x0 (ix2 r l) = k0_pay6 k x1 x0 (ix2 r ⟨1024 + l.val, by omega⟩) + k0_pay6 k x1 x0 (ix2 r ⟨1152 + l.val, by omega⟩) := by
  pointwise [k0_pay8]

/-- The lane of an expert's gate. -/
theorem lane_pick (g e : Fin 4) (v : Fin 128 → EReal) (w : BitVec 32) (hw : w = BitVec.ofNat 32 (4 + (4 * g.val + e.val))) :
    (∑ x : Fin 128, Scalar.select (IntOp.cmpi CmpIPredicate.eq (BitVec.ofNat 32 x.val) w) (v x) 0) = v ⟨4 + (4 * g.val + e.val), by omega⟩ := by
  subst hw
  rw [Finset.sum_eq_single (⟨4 + (4 * g.val + e.val), by omega⟩ : Fin 128)]
  · simp [Scalar.select, IntOp.cmpi]
  · intro x _ hx
    have : BitVec.ofNat 32 x.val ≠ BitVec.ofNat 32 (4 + (4 * g.val + e.val)) := by
      intro h
      have := congrArg BitVec.toNat h
      simp only [BitVec.toNat_ofNat] at this
      exact hx (Fin.ext (by show x.val = 4 + (4 * g.val + e.val); omega))
    simp [Scalar.select, IntOp.cmpi, beq_eq_false_iff_ne.mpr this]
  · intro h
    exact absurd (Finset.mem_univ _) h

variable (k : BitVec 32) (x0 : Vec Ideal S1024x1280 .bf16) (x1 : Vec Ideal S1x1x1024 .f32) (x4 x5 : Vec Ideal S4x1024x256 .bf16) (r : Fin 288) (f : Fin 256)

theorem slab_at (W : Vec Ideal S4x1024x256 .bf16) (e : Fin 4) (off : Fin 3 → ℕ) (inb) (h : off = ![e.val, 0, 0]) (x : Fin 1024) (f : Fin 256) :
    ld W (Rect.unit (s := S4x1024x256) off S1x1024x256.size inb).toLoadRect (ix3 0 x f) = W (ix3 e x f) := by
  subst h
  refine congrArg W (funext fun a => Fin.ext ?_)
  fin_cases a
  · exact (by omega : e.val + 1 * 0 = e.val)
  · exact (by omega : 0 + 1 * x.val = x.val)
  · exact (by omega : 0 + 1 * f.val = f.val)

theorem places_eq (x1 : Vec Ideal S1x1x1024 .f32) : places x1 = x1 :=
  ld_whole x1 ![0, 0, 0] inb_S1x1x1024_S1x1x1024_0_0_0 (by funext a; fin_cases a <;> rfl)

theorem packed_eq (x0 : Vec Ideal S1024x1280 .bf16) : packed x0 = x0 :=
  ld_whole x0 ![0, 0] inb_S1024x1280_S1024x1280_0_0 (by funext a; fin_cases a <;> rfl)

theorem down_eq (x6 : Vec Ideal S4x256x1024 .bf16) : down x6 = k0_pay15 x6 :=
  congrArg k0_pay15 (ld_whole x6 ![0, 0, 0] inb_S4x256x1024_S4x256x1024_0_0_0 (by funext a; fin_cases a <;> rfl))

/-- The lanes' word of an expert. -/
theorem lane_word (g e : Fin 4) : Scalar.addi (Scalar.addi (4#32) (Scalar.muli (BitVec.ofNat 32 g.val) 4#32)) (BitVec.ofNat 32 e.val)
    = BitVec.ofNat 32 (4 + (4 * g.val + e.val)) := by
  revert g e
  decide

theorem acts_0 (g : Fin 4) : acts k (BitVec.ofNat 32 g.val) x0 x1 x4 x5 (ix2 r ⟨f.val, by omega⟩) =
    gated (fun l => k0_pay7 k x1 x0 (ix2 r l)) (fun l f => x4 (ix3 0 l f)) (fun l f => x5 (ix3 0 l f))
      (k0_pay8 k x1 x0 (ix2 r ⟨4 + (4 * g.val + 0), by omega⟩)) f := by
  pointwise [acts, k0_pay14, k0_pay11, k0_pay10, k0_pay9]
  rw [places_eq, packed_eq]
  simp only [slab_at x4 0 ![0, 0, 0] _ rfl, slab_at x5 0 ![0, 0, 0] _ rfl]
  rw [lane_pick g 0 (fun x => k0_pay8 k x1 x0 (ix2 r x))
    (Scalar.addi (Scalar.addi (4#32) (Scalar.muli (BitVec.ofNat 32 g.val) 4#32)) 0#32) (lane_word g 0)]
  rfl

theorem acts_1 (g : Fin 4) : acts k (BitVec.ofNat 32 g.val) x0 x1 x4 x5 (ix2 r ⟨256 + f.val, by omega⟩) =
    gated (fun l => k0_pay7 k x1 x0 (ix2 r l)) (fun l f => x4 (ix3 1 l f)) (fun l f => x5 (ix3 1 l f))
      (k0_pay8 k x1 x0 (ix2 r ⟨4 + (4 * g.val + 1), by omega⟩)) f := by
  pointwise [acts, k0_pay14, k0_pay12]
  rw [places_eq, packed_eq]
  simp only [slab_at x4 1 ![1, 0, 0] _ rfl, slab_at x5 1 ![1, 0, 0] _ rfl]
  rw [lane_pick g 1 (fun x => k0_pay8 k x1 x0 (ix2 r x))
    (Scalar.addi (Scalar.addi (4#32) (Scalar.muli (BitVec.ofNat 32 g.val) 4#32)) 1#32) (lane_word g 1)]
  rfl

theorem acts_2 (g : Fin 4) : acts k (BitVec.ofNat 32 g.val) x0 x1 x4 x5 (ix2 r ⟨512 + f.val, by omega⟩) =
    gated (fun l => k0_pay7 k x1 x0 (ix2 r l)) (fun l f => x4 (ix3 2 l f)) (fun l f => x5 (ix3 2 l f))
      (k0_pay8 k x1 x0 (ix2 r ⟨4 + (4 * g.val + 2), by omega⟩)) f := by
  pointwise [acts, k0_pay14, k0_pay13]
  rw [dif_neg (by omega), dif_neg (by omega), dif_pos (by omega)]
  simp only [show 512 + f.val - 256 - 256 = f.val by omega, Fin.eta]
  rw [places_eq, packed_eq]
  simp only [slab_at x4 2 ![2, 0, 0] _ rfl, slab_at x5 2 ![2, 0, 0] _ rfl]
  rw [lane_pick g 2 (fun x => k0_pay8 k x1 x0 (ix2 r x))
    (Scalar.addi (Scalar.addi (4#32) (Scalar.muli (BitVec.ofNat 32 g.val) 4#32)) 2#32) (lane_word g 2)]
  rfl

theorem acts_3 (g : Fin 4) : acts k (BitVec.ofNat 32 g.val) x0 x1 x4 x5 (ix2 r ⟨768 + f.val, by omega⟩) =
    gated (fun l => k0_pay7 k x1 x0 (ix2 r l)) (fun l f => x4 (ix3 3 l f)) (fun l f => x5 (ix3 3 l f))
      (k0_pay8 k x1 x0 (ix2 r ⟨4 + (4 * g.val + 3), by omega⟩)) f := by
  pointwise [acts, k0_pay14, k0_pay13]
  rw [dif_neg (by omega), dif_neg (by omega), dif_neg (by omega)]
  simp only [show 768 + f.val - 256 - 256 - 256 = f.val by omega, Fin.eta]
  rw [places_eq, packed_eq]
  simp only [slab_at x4 3 ![3, 0, 0] _ rfl, slab_at x5 3 ![3, 0, 0] _ rfl]
  rw [lane_pick g 3 (fun x => k0_pay8 k x1 x0 (ix2 r x))
    (Scalar.addi (Scalar.addi (4#32) (Scalar.muli (BitVec.ofNat 32 g.val) 4#32)) 3#32) (lane_word g 3)]
  rfl

theorem acts_at (g e : Fin 4) : acts k (BitVec.ofNat 32 g.val) x0 x1 x4 x5 (ix2 r ⟨256 * e.val + f.val, by omega⟩) =
    gated (fun l => k0_pay7 k x1 x0 (ix2 r l)) (fun l f => x4 (ix3 e l f)) (fun l f => x5 (ix3 e l f))
      (k0_pay8 k x1 x0 (ix2 r ⟨4 + (4 * g.val + e.val), by omega⟩)) f := by
  fin_cases e
  · exact (congrArg _ (congrArg (ix2 r) (Fin.ext (by show 256 * 0 + f.val = f.val; omega)))).trans (acts_0 k x0 x1 x4 x5 r f g)
  · exact acts_1 k x0 x1 x4 x5 r f g
  · exact acts_2 k x0 x1 x4 x5 r f g
  · exact acts_3 k x0 x1 x4 x5 r f g

/-- A tile's rows of the result: the residual, and the sorted row at the row's place. -/
theorem out_at (x2 : Vec Ideal S1024x1 .f32) (x3 : Vec Ideal S1024x1024 .f32) (d : Vec Ideal S2048x1024 .bf16) (r c : Fin 1024) (s : Fin 2048)
    (h : x2 (ix2 r 0) = ((s.val : ℝ) : EReal)) :
    k0_pay5 x2 x3 d (ix2 r c) = x3 (ix2 r c) + d (ix2 s c) := by
  have step : k0_pay5 x2 x3 d (ix2 r c) = x3 (ix2 r c) + ∑ x : Fin 2048, (if x = s then 1 else 0) * d (ix2 x c) := by
    pointwise [k0_pay5]
    congr 1
    refine Finset.sum_congr rfl fun x _ => ?_
    congr 1
    rw [h, nat_word _ (by omega)]
    refine if_congr ?_ rfl rfl
    rw [EReal.coe_eq_coe_iff, Nat.cast_inj]
    exact ⟨fun h => Fin.ext h.symm, fun h => congrArg Fin.val h.symm⟩
  rw [step, sum_pick (fun x => x = s) (fun x => d (ix2 x c)) s rfl (fun _ h => h)]

/-- A sum over 1024 lanes by experts. -/
theorem sum_lanes (v : Fin 1024 → EReal) : (∑ x, v x) = ∑ e : Fin 4, ∑ f : Fin 256, v ⟨256 * e.val + f.val, by omega⟩ := by
  rw [← Fintype.sum_prod_type']
  refine (Fintype.sum_equiv (finProdFinEquiv (m := 4) (n := 256)) _ _ fun z => ?_).symm
  refine congrArg v (Fin.ext ?_)
  show 256 * z.1.val + z.2.val = z.2.val + 256 * z.1.val
  omega

/-- The two halves of a chunk's product with the second weights. -/
theorem left_at (a : FVec Ideal S288x1024 .bf16) (x6 : Vec Ideal S4x256x1024 .bf16) (r : Fin 288) (d : Fin 512) :
    k0_pay2 a (k0_pay15 x6) (ix2 r d) = ∑ e : Fin 4, ∑ f : Fin 256, a (ix2 r ⟨256 * e.val + f.val, by omega⟩) * x6 (ix3 e f ⟨d.val, by omega⟩) := by
  pointwise [k0_pay2, k0_pay15]
  rw [sum_lanes]
  refine Finset.sum_congr rfl fun e _ => Finset.sum_congr rfl fun f _ => ?_
  simp only [show (256 * e.val + f.val) / 256 = e.val by omega, show (256 * e.val + f.val) % 256 = f.val by omega, Fin.eta]

theorem right_at (a : FVec Ideal S288x1024 .bf16) (x6 : Vec Ideal S4x256x1024 .bf16) (r : Fin 288) (d : Fin 512) :
    k0_pay3 a (k0_pay15 x6) (ix2 r d) = ∑ e : Fin 4, ∑ f : Fin 256, a (ix2 r ⟨256 * e.val + f.val, by omega⟩) * x6 (ix3 e f ⟨512 + d.val, by omega⟩) := by
  pointwise [k0_pay3, k0_pay15]
  rw [sum_lanes]
  refine Finset.sum_congr rfl fun e _ => Finset.sum_congr rfl fun f _ => ?_
  simp only [show (256 * e.val + f.val) / 256 = e.val by omega, show (256 * e.val + f.val) % 256 = f.val by omega, Fin.eta]

/-- A row of a step's chunk: the row at that place of the tile, through the group's four experts. -/
theorem chunk_at (i : grid0.Coords) (hi : (i 1).val < 7) (g : Fin 4) (x0 : Vec Ideal S1024x1280 .bf16) (x1 : Vec Ideal S1x1x1024 .f32)
    (x4 x5 : Vec Ideal S4x1024x256 .bf16) (x6 : Vec Ideal S4x256x1024 .bf16) (d : Sorted Ideal) (p : Fin 1024 → ℤ)
    (h1 : ∀ j, x1 (ix3 0 0 j) = ((p j : ℝ) : EReal)) (s : Fin 2048) (col : Fin 1024) (hs : s.val / 288 = (i 1).val)
    (j : Fin 1024) (hj : p j = s.val) (hu : ∀ x, p x = p j → x = j) :
    withChunk i (BitVec.ofNat 32 g.val) x0 x1 x4 x5 x6 d (ix2 s col)
      = ∑ e : Fin 4, ∑ f : Fin 256, gated (fun l => x0 (ix2 j ⟨l.val, by omega⟩)) (fun l f => x4 (ix3 e l f)) (fun l f => x5 (ix3 e l f))
          (x0 (ix2 j ⟨1024 + (4 + (4 * g.val + e.val)), by omega⟩) + x0 (ix2 j ⟨1152 + (4 + (4 * g.val + e.val)), by omega⟩)) f
          * x6 (ix3 e f col) := by
  have hslot : slot (i 1).val = (i 1).val := by unfold slot; omega
  have hr : 288 * (i 1).val ≤ s.val ∧ s.val < 288 * (i 1).val + 288 := by omega
  have row : ∀ l : Fin 1280, k0_pay6 (BitVec.ofNat 32 (i 1).val) x1 x0 (ix2 ⟨s.val - 288 * (i 1).val, by omega⟩ l) = x0 (ix2 j l) :=
    fun l => pick_at ⟨(i 1).val, by omega⟩ x1 x0 p h1 ⟨s.val - 288 * (i 1).val, by omega⟩ j (by rw [hj]; push_cast; omega) hu l
  have act : ∀ (e : Fin 4) (f : Fin 256), acts (BitVec.ofNat 32 (i 1).val) (BitVec.ofNat 32 g.val) x0 x1 x4 x5
      (ix2 ⟨s.val - 288 * (i 1).val, by omega⟩ ⟨256 * e.val + f.val, by omega⟩)
      = gated (fun l => x0 (ix2 j ⟨l.val, by omega⟩)) (fun l f => x4 (ix3 e l f)) (fun l f => x5 (ix3 e l f))
          (x0 (ix2 j ⟨1024 + (4 + (4 * g.val + e.val)), by omega⟩) + x0 (ix2 j ⟨1152 + (4 + (4 * g.val + e.val)), by omega⟩)) f := by
    intro e f
    rw [acts_at]
    simp only [rows_at, lanes_at, row]
  unfold withChunk putChunk
  rw [hslot, dif_pos (show 288 * (i 1).val ≤ (ix2 s col 0).val ∧ (ix2 s col 0).val < 288 * (i 1).val + 288 from hr), down_eq]
  by_cases hc : col.val < 512
  · rw [dif_pos (show (ix2 s col 1).val < 512 from hc)]
    refine (left_at _ x6 ⟨s.val - 288 * (i 1).val, by omega⟩ ⟨col.val, hc⟩).trans ?_
    refine Finset.sum_congr rfl fun e _ => Finset.sum_congr rfl fun f _ => ?_
    rw [act]
  · rw [dif_neg (show ¬(ix2 s col 1).val < 512 from hc)]
    refine (right_at _ x6 ⟨s.val - 288 * (i 1).val, by omega⟩ ⟨col.val - 512, by omega⟩).trans ?_
    refine Finset.sum_congr rfl fun e _ => Finset.sum_congr rfl fun f _ => ?_
    rw [act]
    simp only [show 512 + (col.val - 512) = col.val by omega]

end Cert.Proof.E
-- ==== Proof.EV.Pre.lean ====
/-
What the precondition says of the arguments: finite gates; groups, counts and places in range; the places of a tile's
rows distinct; a row's gates zero outside the group of its place's chunk.
-/
module

public import proofs.«01_k».proof.Defs
public import proofs.«01_k».proof.Proof.Gen.Pre_dispatched
public import proofs.«01_k».proof.Proof.Gen.Pre_grouped
public import proofs.«01_k».proof.Proof.Value.Finite
public import proofs.«01_k».proof.Proof.EV.Spec
public import Idealize.ShloMosaic.Lib.WordCmp
public import Idealize.ShloMosaic.Lib.ReduceAll
public import Idealize.ShloMosaic.Lib.Affine
public import Idealize.ShloMosaic.Lib.Tactic

@[expose] public section

set_option maxRecDepth 16384

noncomputable section

namespace Cert.Proof.E

open Cert.Pre_dispatched
open Idealize.ShloMosaic Idealize.ShloMosaic.TcCoe

theorem both {a b : BitVec 1} (h : a &&& b = 1#1) : a = 1#1 ∧ b = 1#1 := by
  revert a b
  decide

theorem either {a b : BitVec 1} (h : a ||| b = 1#1) : a = 1#1 ∨ b = 1#1 := by
  revert a b
  decide

/-- A word between zero and a bound is a small number. -/
theorem small {x : BitVec 32} {B : ℕ} (h0 : 0 ≤ x.toInt) (hB : x.toInt < B) : ∃ t : ℕ, t < B ∧ x = BitVec.ofNat 32 t :=
  ⟨x.toInt.toNat, by omega, by rw [← BitVec.ofInt_natCast, Int.toNat_of_nonneg h0, BitVec.ofInt_toInt]⟩

theorem times_288 : ∀ t : Fin 8, (IntOp.muli 288#32 (BitVec.ofNat 32 t.val)).toInt = 288 * (t.val : ℤ)
    ∧ (IntOp.addi (IntOp.muli 288#32 (BitVec.ofNat 32 t.val)) 288#32).toInt = 288 * (t.val : ℤ) + 288
    ∧ (BitVec.ofNat 32 t.val).toInt = t.val := by decide

theorem times_4 : ∀ t : Fin 4, (IntOp.muli 4#32 (BitVec.ofNat 32 t.val)).toInt = 4 * (t.val : ℤ)
    ∧ (IntOp.addi (IntOp.muli 4#32 (BitVec.ofNat 32 t.val)) 4#32).toInt = 4 * (t.val : ℤ) + 4
    ∧ (BitVec.ofNat 32 t.val).toInt = t.val := by decide

/-- What the call asks of its tables and gates. -/
structure Dispatched (G : S16384x16.Idx → EReal) (P : S16384.Idx → BitVec 32) (g : S16x7.Idx → BitVec 32) (n : S16.Idx → BitVec 32) : Prop where
  gates : ∀ r e, G (ix2 r e) ≠ ⊤ ∧ G (ix2 r e) ≠ ⊥
  groups : ∀ b k, 0 ≤ (g (ix2 b k)).toInt ∧ (g (ix2 b k)).toInt < 4
  counts : ∀ b, 1 ≤ (n (ix1 b)).toInt ∧ (n (ix1 b)).toInt ≤ 7
  places : ∀ (b : Fin 16) (j : Fin 1024), 0 ≤ (P (ix1 ⟨1024 * b.val + j.val, by omega⟩)).toInt
    ∧ (P (ix1 ⟨1024 * b.val + j.val, by omega⟩)).toInt < 288 * (n (ix1 b)).toInt
  distinct : ∀ (b : Fin 16) (i j : Fin 1024), P (ix1 ⟨1024 * b.val + i.val, by omega⟩) = P (ix1 ⟨1024 * b.val + j.val, by omega⟩) → i = j
  others : ∀ (b : Fin 16) (j : Fin 1024) (k : Fin 7) (e : Fin 16),
    288 * (k.val : ℤ) ≤ (P (ix1 ⟨1024 * b.val + j.val, by omega⟩)).toInt → (P (ix1 ⟨1024 * b.val + j.val, by omega⟩)).toInt < 288 * k.val + 288 →
    ¬ (4 * (g (ix2 b k)).toInt ≤ e.val ∧ (e.val : ℤ) < 4 * (g (ix2 b k)).toInt + 4) → G (ix2 ⟨1024 * b.val + j.val, by omega⟩ e) = 0

theorem dispatched (X0 X1 : S16384x1024.Idx → EReal) (G : S16384x16.Idx → EReal) (P : S16384.Idx → BitVec 32) (g : S16x7.Idx → BitVec 32) (n : S16.Idx → BitVec 32)
    (W6 W7 : S16x1024x256.Idx → EReal) (W8 : S16x256x1024.Idx → EReal)
    (h : Cert.Pre_dispatched.fn (F := Ideal) X0 X1 G P g n W6 W7 W8 (Shape.Idx.first (by decide)) = 1#1) : Dispatched G P g n := by
  unfold fn fn_part1 fn_part2 fn_part3 fn_part4 at h
  haveI : Subsingleton S_.Idx := ⟨fun a b => funext fun i => i.elim0⟩
  obtain ⟨h, hout⟩ := both h
  obtain ⟨h, hdis⟩ := both h
  obtain ⟨h, hpl⟩ := both h
  obtain ⟨h, hcn⟩ := both h
  obtain ⟨hga, hgr⟩ := both h
  have groups : ∀ b k, 0 ≤ (g (ix2 b k)).toInt ∧ (g (ix2 b k)).toInt < 4 := by
    intro b k
    have q := Host.reduce_andi_all _ _ _ _ _ hgr (ix2 b k)
    revert q
    pointwise []
    intro q
    obtain ⟨q0, q1⟩ := both q
    rw [WordCmp.cmpi_sge_eq, WordCmp.ofBool_decide_eq_one_iff] at q0
    rw [WordCmp.cmpi_slt_eq, WordCmp.ofBool_decide_eq_one_iff] at q1
    exact ⟨q0, q1⟩
  have counts : ∀ b, 1 ≤ (n (ix1 b)).toInt ∧ (n (ix1 b)).toInt ≤ 7 := by
    intro b
    have q := Host.reduce_andi_all _ _ _ _ _ hcn (ix1 b)
    revert q
    pointwise []
    intro q
    obtain ⟨q0, q1⟩ := both q
    rw [WordCmp.cmpi_sge_eq, WordCmp.ofBool_decide_eq_one_iff] at q0
    rw [WordCmp.cmpi_sle_eq, WordCmp.ofBool_decide_eq_one_iff] at q1
    exact ⟨q0, q1⟩
  refine ⟨?_, groups, counts, ?_, ?_, ?_⟩
  · intro r e
    exact Value.real_of_lt _ (Host.reduce_andi_all _ _ _ _ _ hga (ix2 r e))
  · intro b j
    have q := Host.reduce_andi_all _ _ _ _ _ hpl (ix2 b j)
    revert q
    pointwise []
    simp only [Nat.mul_comm b.val 1024]
    intro q
    obtain ⟨q0, q1⟩ := both q
    rw [WordCmp.cmpi_sge_eq, WordCmp.ofBool_decide_eq_one_iff] at q0
    rw [WordCmp.cmpi_slt_eq, WordCmp.ofBool_decide_eq_one_iff] at q1
    obtain ⟨t, ht, e⟩ := small (x := n (ix1 b)) (B := 8) (by have := (counts b).1; omega) (by have := (counts b).2; omega)
    rw [e] at q1 ⊢
    obtain ⟨e1, _, e3⟩ := times_288 ⟨t, ht⟩
    refine ⟨q0, ?_⟩
    rw [e3]
    rw [e1] at q1
    exact q1
  · intro b i j
    have q := Host.reduce_andi_all _ _ _ _ _ hdis (ix3 b i j)
    revert q
    pointwise []
    simp only [Nat.mul_comm b.val 1024]
    intro q e
    rcases either q with q | q
    · rw [WordCmp.cmpi_ne_eq, WordCmp.ofBool_decide_eq_one_iff] at q
      exact absurd e q
    · rw [WordCmp.cmpi_eq_ofNat (by omega) (by omega), WordCmp.ofBool_decide_eq_one_iff] at q
      exact Fin.ext q
  · intro b j k e
    have q := Host.reduce_andi_all _ _ _ _ _ hout (ix4 b j k e)
    revert q
    pointwise []
    simp only [Nat.mul_comm b.val 1024]
    intro q hlo hhi hne
    obtain ⟨t, ht, eg⟩ := small (x := g (ix2 b k)) (B := 4) (groups b k).1 (groups b k).2
    obtain ⟨k1, k2, _⟩ := times_288 ⟨k.val, by omega⟩
    obtain ⟨g1, g2, g3⟩ := times_4 ⟨t, ht⟩
    rcases either q with q | q
    · exfalso
      rcases either q with q | q
      · rcases either q with q | q
        · rw [WordCmp.cmpi_slt_eq, WordCmp.ofBool_decide_eq_one_iff, k1] at q
          exact absurd q (not_lt.mpr hlo)
        · rw [WordCmp.cmpi_sge_eq, WordCmp.ofBool_decide_eq_one_iff, k2] at q
          exact absurd hhi (not_lt.mpr q)
      · obtain ⟨q0, q1⟩ := both q
        rw [eg, WordCmp.cmpi_sge_eq, WordCmp.ofBool_decide_eq_one_iff, g1, WordCmp.toInt_ofNat_of_lt (by omega)] at q0
        rw [eg, WordCmp.cmpi_slt_eq, WordCmp.ofBool_decide_eq_one_iff, g2, WordCmp.toInt_ofNat_of_lt (by omega)] at q1
        rw [eg, g3] at hne
        exact hne ⟨q0, q1⟩
    · rw [WordCmp.ofBool_decide_eq_one_iff] at q
      exact q

/-- What the frame asks: every group is one of the four. -/
theorem grouped {F : FTy → Type} [FloatOps F] (X0 X1 : FVec F S16384x1024 .f32) (G : FVec F S16384x16 .f32) (P : IVec S16384 32) (g : IVec S16x7 32) (n : IVec S16 32)
    (W6 W7 : FVec F S16x1024x256 .f32) (W8 : FVec F S16x256x1024 .f32)
    (h : Cert.Pre_grouped.fn (F := F) X0 X1 G P g n W6 W7 W8 (Shape.Idx.first (by decide)) = 1#1) (b : Fin 16) (k : Fin 7) :
    0 ≤ (g (ix2 b k)).toInt ∧ (g (ix2 b k)).toInt < 4 := by
  unfold Cert.Pre_grouped.fn at h
  haveI : Subsingleton Cert.Pre_grouped.S_.Idx := ⟨fun a b => funext fun i => i.elim0⟩
  have q := Host.reduce_andi_all _ _ _ _ _ h (ix2 b k)
  revert q
  pointwise []
  intro q
  obtain ⟨q0, q1⟩ := both q
  rw [WordCmp.cmpi_sge_eq, WordCmp.ofBool_decide_eq_one_iff] at q0
  rw [WordCmp.cmpi_slt_eq, WordCmp.ofBool_decide_eq_one_iff] at q1
  exact ⟨q0, q1⟩

end Cert.Proof.E
-- ==== Proof.EV.Ref.lean ====
/-
The reference's result: the residual and the sum over all sixteen experts, each weighted by its gate.
-/
module

public import proofs.«01_k».proof.Proof.Gen.ExpertsRefIdeal.Read
public import proofs.«01_k».proof.Proof.EV.Spec
public import Idealize.ShloMosaic.Lib.IdealHost

@[expose] public section

set_option maxRecDepth 16384

noncomputable section

namespace Cert.Proof.E.Ref

open Cert.ExpertsRefIdeal Cert.ExpertsRefIdeal.Gen Cert.ExpertsRefIdeal.Read
open Idealize.ShloMosaic Idealize.ShloMosaic.TcCoe

variable (x0 x1 : S16384x1024.Idx → EReal) (x2 : S16384x16.Idx → EReal) (x6 x7 : S16x1024x256.Idx → EReal) (x8 : S16x256x1024.Idx → EReal)

theorem first (r : Fin 16384) (d : Fin 1024) :
    (val_main_v18 (F := Ideal) x1 x2 x6 x7 x8 (ix2 r d) : EReal) = ∑ e : Fin 4, term x1 x2 x6 x7 x8 r d ⟨e.val, by omega⟩ := by
  pointwise [val_main_v18, val_main_v16, val_main_v12, val_main_v11, val_main_v10, val_main_v9, val_main_v8, val_main_v7, val_main_v6, val_main_v5, val_main_v2, val_main_v4, val_main_v1, val_main_v3, val_main_v15, val_main_v14, val_main_v13, val_main_v17, val_main_cst_0, val_main_cst_1]
  unfold term gated
  refine Finset.sum_congr rfl fun e _ => Finset.sum_congr rfl fun f _ => ?_
  simp only [Ideal.ofBits_one_f32]
  rfl

theorem second (r : Fin 16384) (d : Fin 1024) :
    (val_main_v37 (F := Ideal) x1 x2 x6 x7 x8 (ix2 r d) : EReal) = ∑ e : Fin 4, term x1 x2 x6 x7 x8 r d ⟨4 + e.val, by omega⟩ := by
  pointwise [val_main_v37, val_main_v35, val_main_v31, val_main_v30, val_main_v29, val_main_v28, val_main_v27, val_main_v26, val_main_v25, val_main_v24, val_main_v21, val_main_v23, val_main_v20, val_main_v22, val_main_v34, val_main_v33, val_main_v32, val_main_v36, val_main_cst_2, val_main_cst_3]
  unfold term gated
  refine Finset.sum_congr rfl fun e _ => Finset.sum_congr rfl fun f _ => ?_
  simp only [Ideal.ofBits_one_f32]
  rfl

theorem third (r : Fin 16384) (d : Fin 1024) :
    (val_main_v56 (F := Ideal) x1 x2 x6 x7 x8 (ix2 r d) : EReal) = ∑ e : Fin 4, term x1 x2 x6 x7 x8 r d ⟨8 + e.val, by omega⟩ := by
  pointwise [val_main_v56, val_main_v54, val_main_v50, val_main_v49, val_main_v48, val_main_v47, val_main_v46, val_main_v45, val_main_v44, val_main_v43, val_main_v40, val_main_v42, val_main_v39, val_main_v41, val_main_v53, val_main_v52, val_main_v51, val_main_v55, val_main_cst_4, val_main_cst_5]
  unfold term gated
  refine Finset.sum_congr rfl fun e _ => Finset.sum_congr rfl fun f _ => ?_
  simp only [Ideal.ofBits_one_f32]
  rfl

theorem fourth (r : Fin 16384) (d : Fin 1024) :
    (val_main_v75 (F := Ideal) x1 x2 x6 x7 x8 (ix2 r d) : EReal) = ∑ e : Fin 4, term x1 x2 x6 x7 x8 r d ⟨12 + e.val, by omega⟩ := by
  pointwise [val_main_v75, val_main_v73, val_main_v69, val_main_v68, val_main_v67, val_main_v66, val_main_v65, val_main_v64, val_main_v63, val_main_v62, val_main_v59, val_main_v61, val_main_v58, val_main_v60, val_main_v72, val_main_v71, val_main_v70, val_main_v74, val_main_cst_6, val_main_cst_7]
  unfold term gated
  refine Finset.sum_congr rfl fun e _ => Finset.sum_congr rfl fun f _ => ?_
  simp only [Ideal.ofBits_one_f32]
  rfl

/-- The result where a row's gates outside one group of four experts are zero. -/
theorem result_at (g : Fin 4) (r : Fin 16384) (d : Fin 1024)
    (hz : ∀ e : Fin 16, e.val / 4 ≠ g.val → x2 (ix2 r e) = 0) :
    (val_main_v77 (F := Ideal) x0 x1 x2 x6 x7 x8 (ix2 r d) : EReal)
      = x0 (ix2 r d) + ∑ e : Fin 4, term x1 x2 x6 x7 x8 r d ⟨4 * g.val + e.val, by omega⟩ := by
  have z : (val_main_v0 (F := Ideal) (ix2 r d) : EReal) = 0 := by
    pointwise [val_main_v0, val_main_cst]
  show x0 (ix2 r d) + ((((val_main_v0 (F := Ideal) (ix2 r d) + val_main_v18 (F := Ideal) x1 x2 x6 x7 x8 (ix2 r d))
    + val_main_v37 (F := Ideal) x1 x2 x6 x7 x8 (ix2 r d)) + val_main_v56 (F := Ideal) x1 x2 x6 x7 x8 (ix2 r d))
    + val_main_v75 (F := Ideal) x1 x2 x6 x7 x8 (ix2 r d) : EReal) = _
  rw [z, first, second, third, fourth, zero_add]
  congr 1
  have out : ∀ (k : ℕ) (hk : k < 4), k ≠ g.val → ∑ e : Fin 4, term x1 x2 x6 x7 x8 r d ⟨4 * k + e.val, by omega⟩ = 0 :=
    fun k hk hne => Finset.sum_eq_zero fun e _ => term_zero (hz _ (by show (4 * k + e.val) / 4 ≠ g.val; omega)) d
  have o0 := out 0 (by omega)
  have o1 := out 1 (by omega)
  have o2 := out 2 (by omega)
  have o3 := out 3 (by omega)
  simp only [Nat.mul_zero, Nat.mul_one, Nat.zero_add, show 4 * 2 = 8 by norm_num, show 4 * 3 = 12 by norm_num] at o0 o1 o2 o3
  fin_cases g
  · rw [o1 (by decide), o2 (by decide), o3 (by decide), add_zero, add_zero, add_zero]
    exact Finset.sum_congr rfl fun e _ => congrArg _ (Fin.ext (by show e.val = 4 * 0 + e.val; omega))
  · rw [o0 (by decide), o2 (by decide), o3 (by decide), zero_add, add_zero, add_zero]
    rfl
  · rw [o0 (by decide), o1 (by decide), o3 (by decide), zero_add, zero_add, add_zero]
    rfl
  · rw [o0 (by decide), o1 (by decide), o2 (by decide), zero_add, zero_add, zero_add]
    rfl

end Cert.Proof.E.Ref
-- ==== Proof.EV.Result.lean ====
/-
What the experts' kernel leaves in its result: every row's residual plus its group's four experts, which is the reference's row.
-/
module

public import proofs.«01_k».proof.Proof.EV.Blocks
public import proofs.«01_k».proof.Proof.EV.Host
public import proofs.«01_k».proof.Proof.EV.Chunk
public import proofs.«01_k».proof.Proof.EV.Pre
public import proofs.«01_k».proof.Proof.EV.Ref

@[expose] public section

set_option maxRecDepth 16384

noncomputable section

namespace Cert.Proof.E

open Cert.ExpertsIdeal Cert.ExpertsIdeal.Gen
open Idealize.ShloMosaic Idealize.ShloMosaic.TcCoe

variable (m : (ℓ : Loc nD τ sig) → Buf (Elt Ideal) ℓ) (hO : Ok m) (c : Dev nD)

/-- What the precondition says of a device's arguments. -/
abbrev Known0 : Prop := Dispatched (G2 m c) (P3 m c) (grp m c) (cnt m c)

/-- Row `r` of a point's tile. -/
abbrev rowOf (t : Fin (cfgM m hO).N) (r : Fin 1024) : Fin 16384 :=
  ⟨1024 * (tileOf m hO t).val + r.val, by have := (tileOf m hO t).isLt; omega⟩

theorem product_congr {x x' : Fin 1024 → EReal} {w w' u u' : Fin 1024 → Fin 256 → EReal} {q q' y y' : EReal} (f : Fin 256)
    (hx : x = x') (hw : w = w') (hu : u = u') (hq : q = q') (hy : y = y') : gated x w u q f * y = gated x' w' u' q' f * y' := by
  subst hx hw hu hq hy
  rfl

/-- A finite number plus what its rounding left, which is nothing. -/
theorem add_rest {x : EReal} (h : x ≠ ⊤ ∧ x ≠ ⊥) : x + (x - x) = x := by
  rw [EReal.sub_self h.1 h.2, add_zero]

/-- A live step's chunk at the place of a row of its tile. -/
theorem chunk_entry (D : Known0 m c) (t : Fin (cfgM m hO).N) (hstep : (stepOf m hO t).val < 7) (g : Fin 4)
    (hg : grp m c (ix2 (tileOf m hO t) ⟨(stepOf m hO t).val, hstep⟩) = BitVec.ofNat 32 g.val)
    (hlive : ((stepOf m hO t).val : ℤ) < (cnt m c (ix1 (tileOf m hO t))).toInt)
    (r d : Fin 1024) (s : Fin 2048) (hs : (P3 m c (ix1 (rowOf m hO t r))).toInt = s.val) (hk : s.val / 288 = (stepOf m hO t).val) :
    (chunkAt m hO c t some0 (ix2 s d) : EReal)
      = ∑ e : Fin 4, term (X1 m c) (G2 m c) (W6 m c) (W7 m c) (W8 m c) (rowOf m hO t r) d ⟨4 * g.val + e.val, by omega⟩ := by
  obtain rfl : c = 0 := Subsingleton.elim _ _
  have hw : fetchWord m hO t = BitVec.ofNat 32 g.val :=
    (word_live m 0 (tileOf m hO t) ⟨(stepOf m hO t).val, hstep⟩ hlive).trans hg
  have hgrp : grpAt m hO 0 t = BitVec.ofNat 32 g.val := (grp_at m hO 0 t hstep).trans hg
  unfold chunkAt
  rw [hgrp]
  refine (chunk_at (grid0.coords t) hstep g (iblk m hO 0 0 t) (iblk m hO 0 1 t) (iblk m hO 0 4 t) (iblk m hO 0 5 t) (iblk m hO 0 6 t) some0
    (fun j => (P3 m 0 (ix1 (rowOf m hO t j))).toInt) (fun j => (blk_1 m hO 0 t j).trans (place_row m 0 (tileOf m hO t) j)) s d hk r hs
    (fun x hx => D.distinct (tileOf m hO t) x r (BitVec.eq_of_toInt_eq hx))).trans ?_
  refine Finset.sum_congr rfl fun e _ => ?_
  unfold term
  refine Finset.sum_congr rfl fun f _ => product_congr f ?_ ?_ ?_ ?_ ?_
  · exact funext fun l => (blk_0 m hO 0 t r _).trans (packed_row m 0 (rowOf m hO t r) l)
  · exact funext fun l => funext fun f => (blk_4 m hO 0 t g hw e l f).trans (weight_gate m 0 _ l f)
  · exact funext fun l => funext fun f => (blk_5 m hO 0 t g hw e l f).trans (weight_up m 0 _ l f)
  · refine (congrArg₂ (fun a b : EReal => a + b)
      ((blk_0 m hO 0 t r _).trans (packed_gate m 0 (rowOf m hO t r) ⟨4 * g.val + e.val, by omega⟩))
      ((blk_0 m hO 0 t r _).trans (packed_rest m 0 (rowOf m hO t r) ⟨4 * g.val + e.val, by omega⟩))).trans ?_
    exact add_rest (D.gates _ _)
  · exact (blk_6 m hO 0 t g hw e f d).trans (weight_down m 0 _ f d)

/-- The reference's result on the kernel's arguments. -/
def result : S16384x1024.Idx → EReal :=
  Cert.ExpertsRefIdeal.Read.val_main_v77 (F := Ideal) (H0 m c) (X1 m c) (G2 m c) (W6 m c) (W7 m c) (W8 m c)

/-- The block a tile's last step writes. -/
theorem block_entry (D : Known0 m c) (t : Fin (cfgM m hO).N) (h7 : t.val % 8 = 7) (r d : Fin 1024) :
    (outOf (iblk m hO c 2 t) (iblk m hO c 3 t) (endOf m hO c t) (ix2 r d) : EReal) = result m c (ix2 (rowOf m hO t r) d) := by
  have hstep : (stepOf m hO t).val = t.val % 8 := coords_step t
  have htile : (tileOf m hO t).val = t.val / 8 := coords_tile t
  have ht := point_lt m hO t
  obtain ⟨c1, c7⟩ := D.counts (tileOf m hO t)
  have p0 : 0 ≤ (P3 m c (ix1 (rowOf m hO t r))).toInt := (D.places (tileOf m hO t) r).1
  have p1 : (P3 m c (ix1 (rowOf m hO t r))).toInt < 288 * (cnt m c (ix1 (tileOf m hO t))).toInt := (D.places (tileOf m hO t) r).2
  obtain ⟨s, hs, es⟩ : ∃ s : ℕ, s < 2016 ∧ (P3 m c (ix1 (rowOf m hO t r))).toInt = s := ⟨_, by omega, (Int.toNat_of_nonneg p0).symm⟩
  have hend : endOf m hO c t = settled m hO c (t.val / 8) := by
    unfold endOf
    refine if_neg fun h => ?_
    have h' := (isChunk_iff _ _).1 h
    obtain rfl : c = 0 := Subsingleton.elim _ _
    rw [cnt_at m hO 0 t] at h'
    have : ((grid0.coords t 1).val : ℤ) = 7 := by rw [show (grid0.coords t 1).val = t.val % 8 from hstep, h7]; rfl
    omega
  obtain ⟨u, hu⟩ : ∃ u, u = pt m hO (t.val / 8) (s / 288) := ⟨_, rfl⟩
  have uval : u.val = 8 * (t.val / 8) + s / 288 := by
    rw [hu]
    show (8 * (t.val / 8) + s / 288) % 128 = _
    omega
  have ustep : (stepOf m hO u).val = s / 288 := (coords_step u).trans (by omega)
  have utile : tileOf m hO u = tileOf m hO t := Fin.ext ((coords_tile u).trans (by omega))
  have urow : rowOf m hO u r = rowOf m hO t r := Fin.ext (by show 1024 * (tileOf m hO u).val + r.val = _; rw [utile])
  have hlive : ((stepOf m hO u).val : ℤ) < (cnt m c (ix1 (tileOf m hO u))).toInt := by rw [ustep, utile]; omega
  have hu7 : (stepOf m hO u).val < 7 := by omega
  obtain ⟨g0, g4⟩ := D.groups (tileOf m hO u) ⟨(stepOf m hO u).val, hu7⟩
  obtain ⟨g, hg, eg⟩ := small (B := 4) g0 g4
  have egi : (grp m c (ix2 (tileOf m hO u) ⟨(stepOf m hO u).val, hu7⟩)).toInt = g := by
    rw [eg]
    interval_cases g <;> rfl
  have hset : (settled m hO c (t.val / 8) (ix2 ⟨s, by omega⟩ d) : EReal)
      = ∑ e : Fin 4, term (X1 m c) (G2 m c) (W6 m c) (W7 m c) (W8 m c) (rowOf m hO u r) d ⟨4 * g + e.val, by omega⟩ := by
    unfold settled
    refine (if_neg (show ¬ 2016 ≤ s by omega)).trans ?_
    show stepAt m hO c (pt m hO (t.val / 8) (s / 288)) some0 (ix2 ⟨s, by omega⟩ d) = _
    rw [← hu]
    unfold stepAt
    have hc : isChunk (grid0.coords u) (cntAt m hO c u) := by
      refine (isChunk_iff _ _).2 ?_
      have h' := hlive
      obtain rfl : c = 0 := Subsingleton.elim _ _
      rw [cnt_at m hO 0 u]
      exact h'
    rw [if_pos hc]
    exact chunk_entry m hO c D u hu7 ⟨g, hg⟩ eg hlive r d ⟨s, by omega⟩ (by rw [urow]; exact es) ustep.symm
  have hplace : (((P3 m c (ix1 (rowOf m hO t r))).toInt : ℝ) : EReal) = ((s : ℝ) : EReal) := by rw [es, Int.cast_natCast]
  refine (out_at (iblk m hO c 2 t) (iblk m hO c 3 t) (endOf m hO c t) r d ⟨s, by omega⟩
    (((blk_2 m hO c t r).trans (place_col m c (rowOf m hO t r))).trans hplace)).trans ?_
  rw [hend, hset, blk_3, V_arg0, urow]
  unfold result
  refine (Ref.result_at (H0 m c) (X1 m c) (G2 m c) (W6 m c) (W7 m c) (W8 m c) ⟨g, hg⟩ (rowOf m hO t r) d fun e he => ?_).symm
  have h' := D.others (tileOf m hO u) r ⟨(stepOf m hO u).val, hu7⟩ e
  rw [egi] at h'
  rw [← urow]
  refine h' ?_ ?_ ?_
  · show 288 * ((stepOf m hO u).val : ℤ) ≤ (P3 m c (ix1 (rowOf m hO u r))).toInt
    rw [urow, es, ustep]
    omega
  · show (P3 m c (ix1 (rowOf m hO u r))).toInt < 288 * ((stepOf m hO u).val : ℤ) + 288
    rw [urow, es, ustep]
    omega
  · have : e.val / 4 ≠ g := he
    omega

/-- The block of a tile, whole, as a part of the reference's result. -/
theorem block_whole (D : Known0 m c) (t : Fin (cfgM m hO).N) (h7 : t.val % 8 = 7) (y : S1024x1024.Idx) :
    (outOf (iblk m hO c 2 t) (iblk m hO c 3 t) (endOf m hO c t) y : EReal) = result m c ((((cfgM m hO).win 7).blk t).view.emb y) := by
  obtain ⟨r, d, rfl⟩ : ∃ r d : Fin 1024, y = ix2 r d :=
    ⟨y 0, y 1, funext fun a => match a with | 0 => rfl | 1 => rfl⟩
  exact (block_entry m hO c D t h7 r d).trans (congrArg (result m c) (blk_7 m hO t r d).symm)

/-- The result array. -/
theorem array (D : Known0 m c) : (dats m hO 0 c).arrAt 7 (cfgM m hO).N = result m c :=
  (dats m hO 0 c).arrAt_eq_of_covers 7 (result m c) (covers_7 m hO) fun t hf y =>
    (congrFun (after_7 m hO c t) y).trans (block_whole m hO c D t ((flush_out (adm m hO) t).1 hf) y)

end Cert.Proof.E
-- ==== Proof.lean ====
/-
The claims about the attention kernel and the experts' kernel, assembled from the modules under `Proof/`.
-/
module

public import proofs.«01_k».proof.Defs
public import proofs.«01_k».proof.Proof.Gen.ReferenceIdeal.Run
public import proofs.«01_k».proof.Proof.Gen.ReferenceIdeal.Read
public import proofs.«01_k».proof.Proof.K.Frame
public import proofs.«01_k».proof.Proof.KI.Frame
public import proofs.«01_k».proof.Proof.Value.Finite
public import proofs.«01_k».proof.Proof.Value.Reference
public import proofs.«01_k».proof.Proof.Value.Result
public import proofs.«01_k».proof.Proof.Gen.ExpertsRefIdeal.Run
public import proofs.«01_k».proof.Proof.Gen.ExpertsRefIdeal.Read
public import proofs.«01_k».proof.Proof.EK.Frame
public import proofs.«01_k».proof.Proof.EK.Tables
public import proofs.«01_k».proof.Proof.EV.Result

@[expose] public section

noncomputable section

namespace Cert.Proof

open Idealize.ShloMosaic Idealize.ShloMosaic.TcCoe

/-- The reference's frame: it has no semaphores, and its run leaves the arguments as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- The kernel's run over the reals ends with the attention of the arguments in the result. -/
theorem kernel_run (m : (ℓ : Loc Cert.KernelIdeal.nD Cert.KernelIdeal.τ Cert.KernelIdeal.sig) → Buf (Elt Ideal) ℓ)
    (ρ : Dev Cert.KernelIdeal.nD → PrngReg) (R : ∀ c, Value.Args m c) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v37)
          = Value.result (Value.A0 m c) (Value.A1 m c) (Value.A2 m c) (Value.A3 m c)) :=
  (θ_run _ _ _).mono (fun _ h c => (h.out_eq c 3).trans (Value.kernel_array (R c))) (KI.run_main m ρ)

/-- The reference's result over the reals, where its arguments are the kernel's. -/
theorem reference_result (m : (ℓ : Loc Cert.KernelIdeal.nD Cert.KernelIdeal.τ Cert.KernelIdeal.sig) → Buf (Elt Ideal) ℓ)
    (c : Dev Cert.KernelIdeal.nD) (R : Value.Args m c) :
    Cert.ReferenceIdeal.Read.val_main_v34 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Value.result (Value.A0 m c) (Value.A1 m c) (Value.A2 m c) (Value.A3 m c) :=
  funext fun y => Value.Ref.reference_array R.r0 R.r1 R.r2 R.r3 y

theorem algebraic : Cert.algebraic_KernelIdeal_ReferenceIdeal_pre_finite := by
  intro m ρ m' ρ' hpre hargs
  have R := Value.args_of_pre m hpre
  refine ⟨fun c => Value.result (Value.A0 m c) (Value.A1 m c) (Value.A2 m c) (Value.A3 m c), ?_, ?_⟩
  · exact (θ_run _ _ _).mono (fun _ h c => ⟨h.1 c, h.2.1 c⟩) (θ_run_and (kernel_run m ρ R) (KI.frame m ρ))
  · refine (θ_run _ _ _).mono (fun r h c => ⟨(h c).1.trans ?_, (h c).2⟩) (Cert.ReferenceIdeal.Value.run (F := Ideal) m' ρ')
    obtain ⟨e0, e1, e2, e3⟩ := hargs c
    rw [Cert.ReferenceIdeal.Read.val_main_v34_eq, e0, e1, e2, e3]
    exact reference_result m c (R c)

/-- The experts' reference: no semaphores, arguments as they were. -/
theorem experts_reference_frame (m : (ℓ : Loc Cert.ExpertsRefIdeal.nD Cert.ExpertsRefIdeal.τ Cert.ExpertsRefIdeal.sig) → Buf (Elt Ideal) ℓ) (ρ : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, ρ⟩
      (fun r => (∀ c : Dev Cert.ExpertsRefIdeal.nD,
        r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
        ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
        ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
        ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
        ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
        ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
        ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
        ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
        ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
        ∧ r.2.sem = fun _ => 0) :=
  (θ_run Cert.ExpertsRefIdeal.defs _ _).mono
    (fun r h => ⟨fun c => (h c).2, sem_eq_zero_of_no_sems (by decide) r.2⟩) (Cert.ExpertsRefIdeal.Value.run (F := Ideal) m ρ)

/-- What the preconditions say of the arguments: the groups are groups, and the dispatch is one. -/
theorem bits_below (m : (ℓ : Loc Cert.Experts.nD Cert.Experts.τ Cert.Experts.sig) → Buf (Elt Bits) ℓ) (h : Cert.Pre_Experts m) : EK.Below m :=
  fun b k => E.grouped (F := Bits) _ _ _ _ _ _ _ _ _ (congrFun (h 0) (Shape.Idx.first (by decide))) b k

theorem ideal_below (m : (ℓ : Loc Cert.ExpertsIdeal.nD Cert.ExpertsIdeal.τ Cert.ExpertsIdeal.sig) → Buf (Elt Ideal) ℓ) (h : Cert.Pre_ExpertsIdeal m) : E.Below m :=
  fun b k => E.grouped (F := Ideal) _ _ _ _ _ _ _ _ _ (congrFun (h 0) (Shape.Idx.first (by decide))) b k

theorem known (m : (ℓ : Loc Cert.ExpertsIdeal.nD Cert.ExpertsIdeal.τ Cert.ExpertsIdeal.sig) → Buf (Elt Ideal) ℓ) (h : Cert.Pre_ExpertsIdeal_dispatched m)
    (c : Dev Cert.ExpertsIdeal.nD) : E.Known0 m c :=
  E.dispatched _ _ _ _ _ _ _ _ _ (congrFun (h c) (Shape.Idx.first (by decide)))

theorem known_ok (m : (ℓ : Loc Cert.ExpertsIdeal.nD Cert.ExpertsIdeal.τ Cert.ExpertsIdeal.sig) → Buf (Elt Ideal) ℓ) (h : Cert.Pre_ExpertsIdeal_dispatched m) : E.Ok m :=
  E.ok_of_below m (known m h 0).groups

/-- The experts' run over the reals ends with the reference's result of the arguments. -/
theorem experts_run (m : (ℓ : Loc Cert.ExpertsIdeal.nD Cert.ExpertsIdeal.τ Cert.ExpertsIdeal.sig) → Buf (Elt Ideal) ℓ)
    (ρ : Dev Cert.ExpertsIdeal.nD → PrngReg) (h : Cert.Pre_ExpertsIdeal_dispatched m) :
    θ_run (Cert.ExpertsIdeal.defs (F := Ideal)) (onTc (τ := Cert.ExpertsIdeal.τ) (Cert.ExpertsIdeal.main (F := Ideal))) ⟨m, fun _ => 0, ρ⟩
      (fun r => ∀ c : Dev Cert.ExpertsIdeal.nD, r.2.mem ((c.tc : Thread Cert.ExpertsIdeal.nD Cert.ExpertsIdeal.τ).loc Cert.ExpertsIdeal.main_v58) = E.result m c) :=
  (θ_run _ _ _).mono (fun _ q c => ((q.1 c).1 7).trans (E.array m (known_ok m h) c (known m h c))) (E.run_main m ρ (known_ok m h))

theorem experts_algebraic : Cert.algebraic_ExpertsIdeal_ExpertsRefIdeal_pre_dispatched := by
  intro m ρ m' ρ' hpre hargs
  refine ⟨fun c => E.result m c, ?_, ?_⟩
  · exact (θ_run _ _ _).mono (fun _ h c => ⟨h.1 c, h.2.1 c⟩) (θ_run_and (experts_run m ρ hpre) (E.frame m ρ (known_ok m hpre)))
  · refine (θ_run _ _ _).mono (fun r h c => ⟨(h c).1.trans ?_, (h c).2⟩) (Cert.ExpertsRefIdeal.Value.run (F := Ideal) m' ρ')
    obtain ⟨e0, e1, e2, e3, e4, e5, e6, e7, e8⟩ := hargs c
    rw [Cert.ExpertsRefIdeal.Read.val_main_v77_eq, e0, e1, e2, e6, e7, e8]
    rfl

/-- The certificate. -/
theorem claim : Cert.Claim :=
  ⟨Cert.Experts.Gen.facts, Cert.ExpertsIdeal.Gen.facts, Cert.ExpertsRefIdeal.Gen.facts,
    Cert.Kernel.Gen.facts, Cert.KernelIdeal.Gen.facts, Cert.ReferenceIdeal.Gen.facts,
    Cert.Pre_grouped.Gen.facts, Cert.Pre_dispatched.Gen.facts, Cert.Pre_finite.Gen.facts,
    fun m ρ h => EK.frame m ρ (EK.ok_of_below m (bits_below m h)),
    fun m ρ h => E.frame m ρ (E.ok_of_below m (ideal_below m h)),
    fun m ρ h => E.frame m ρ (known_ok m h),
    fun m ρ _ => experts_reference_frame m ρ,
    fun m ρ _ => experts_reference_frame m ρ,
    fun m ρ _ => K.frame m ρ,
    fun m ρ _ => KI.frame m ρ,
    fun m ρ _ => KI.frame m ρ,
    fun m ρ _ => reference_frame m ρ,
    fun m ρ _ => reference_frame m ρ,
    trivial,
    experts_algebraic,
    IdealRules.named_const.statement Cert.KernelIdeal.κ "mask" .f32 0xF149F2CA#32 ⊥ rfl,
    algebraic⟩

end Cert.Proof

end
